-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S4096x2048 : Shape := ⟨2, ![4096, 2048]⟩
abbrev S2x2x256x1024 : Shape := ⟨4, ![2, 2, 256, 1024]⟩
abbrev S2x1x128 : Shape := ⟨3, ![2, 1, 128]⟩
abbrev S2x4x1x128 : Shape := ⟨4, ![2, 4, 1, 128]⟩
abbrev S2x7x2 : Shape := ⟨3, ![2, 7, 2]⟩
abbrev S2x2 : Shape := ⟨2, ![2, 2]⟩
abbrev S2x4 : Shape := ⟨2, ![2, 4]⟩
abbrev S_ : Shape := ⟨0, ![]⟩
abbrev S512x512 : Shape := ⟨2, ![512, 512]⟩
abbrev S256x1024 : Shape := ⟨2, ![256, 1024]⟩
abbrev S1x1x256x1024 : Shape := ⟨4, ![1, 1, 256, 1024]⟩
abbrev S1x1x1 : Shape := ⟨3, ![1, 1, 1]⟩
abbrev S1x1 : Shape := ⟨2, ![1, 1]⟩
abbrev S256x2048 : Shape := ⟨2, ![256, 2048]⟩
abbrev S1x256x2048 : Shape := ⟨3, ![1, 256, 2048]⟩
abbrev S1 : Shape := ⟨1, ![1]⟩
abbrev S1x128 : Shape := ⟨2, ![1, 128]⟩
abbrev S1x1x128 : Shape := ⟨3, ![1, 1, 128]⟩
abbrev S1x1x1x128 : Shape := ⟨4, ![1, 1, 1, 128]⟩
abbrev S1x1x1x1 : Shape := ⟨4, ![1, 1, 1, 1]⟩

abbrev nBuf : Space → Nat
  | .hbm => 3
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | .local _ .vmem, ⟨0, _⟩ => ⟨S4096x512, .f32⟩
  | .local _ .vmem, ⟨1, _⟩ => ⟨S512x2048, .f32⟩
  | .local _ .vmem, ⟨2, _⟩ => ⟨S4096x2048, .f32⟩
  | .local _ .vmem, ⟨3, _⟩ => ⟨S2x2x256x1024, .bf16⟩
  | .local _ .vmem, ⟨4, _⟩ => ⟨S2x2x256x1024, .bf16⟩
  | .local _ .vmem, ⟨5, _⟩ => ⟨S4096x2048, .fp8e4m3⟩
  | .local _ .vmem, ⟨6, _⟩ => ⟨S2x1x128, .f32⟩
  | .local _ .vmem, ⟨7, _⟩ => ⟨S2x4x1x128, .f32⟩
  | _, _ => ⟨S4096x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 131 → Bool
  | ⟨i, _⟩ => dmaSemScopedAt i

abbrev sig : RefSig :=
  (ofTc nBuf bufTy 5 131 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v30 : BitVec 32 := Scalar.muli v2 c512_i32
  let v31 : Index := Scalar.indexCast v30
  let c0 : Index := 0#32
  ![v31.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_21 : BitVec 32 := 512#32
  let v37 : BitVec 32 := Scalar.muli v2 c512_i32_21
  let v38 : Index := Scalar.indexCast v37
  let c0_22 : Index := 0#32
  ![v38.toNat, 0]
def k0_off3 (d0 : Dev nD) (c0_i32_23 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v40 : BitVec 32 := Scalar.subi v2 c0_i32_23
  let c8_i32_24 : BitVec 32 := 8#32
  let c0_i32_25 : BitVec 32 := 0#32
  let v41 : BitVec 1 := Scalar.cmpi .eq c8_i32_24 c0_i32_25
  let c1_i32_26 : BitVec 32 := 1#32
  let v42 : BitVec 32 := Scalar.select v41 c1_i32_26 c8_i32_24
  let v43 : BitVec 32 := Scalar.remsi v40 v42
  let c0_i32_28 : BitVec 32 := 0#32
  let v45 : BitVec 1 := Scalar.cmpi .slt v43 c0_i32_28
  let c0_i32_29 : BitVec 32 := 0#32
  let v46 : BitVec 1 := Scalar.cmpi .slt v42 c0_i32_29
  let v47 : BitVec 1 := Scalar.xori v45 v46
  let c0_i32_27 : BitVec 32 := 0#32
  let v44 : BitVec 1 := Scalar.cmpi .ne v43 c0_i32_27
  let v48 : BitVec 1 := Scalar.andi v47 v44
  let v49 : BitVec 32 := Scalar.addi v43 v42
  let v50 : BitVec 32 := Scalar.select v48 v49 v43
  let c512_i32_30 : BitVec 32 := 512#32
  let v51 : BitVec 32 := Scalar.muli v50 c512_i32_30
  let c0_i32_31 : BitVec 32 := 0#32
  let v52 : BitVec 32 := Scalar.addi v51 c0_i32_31
  let v53 : Index := Scalar.indexCast v52
  let c0_32 : Index := 0#32
  ![v53.toNat, 0]
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_47 : BitVec 32 := 1#32
  let v60 : BitVec 32 := Scalar.muli v24 c1_i32_47
  let v61 : BitVec 32 := Scalar.addi c0_i32_48 v60
  v61.toNat
def k0_off4 (d0 : Dev nD) (c0_i32_53 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v70 : BitVec 32 := Scalar.addi v2 c0_i32_53
  let c8_i32_54 : BitVec 32 := 8#32
  let c0_i32_55 : BitVec 32 := 0#32
  let v71 : BitVec 1 := Scalar.cmpi .eq c8_i32_54 c0_i32_55
  let c1_i32_56 : BitVec 32 := 1#32
  let v72 : BitVec 32 := Scalar.select v71 c1_i32_56 c8_i32_54
  let v73 : BitVec 32 := Scalar.remsi v70 v72
  let c0_i32_58 : BitVec 32 := 0#32
  let v75 : BitVec 1 := Scalar.cmpi .slt v73 c0_i32_58
  let c0_i32_59 : BitVec 32 := 0#32
  let v76 : BitVec 1 := Scalar.cmpi .slt v72 c0_i32_59
  let v77 : BitVec 1 := Scalar.xori v75 v76
  let c0_i32_57 : BitVec 32 := 0#32
  let v74 : BitVec 1 := Scalar.cmpi .ne v73 c0_i32_57
  let v78 : BitVec 1 := Scalar.andi v77 v74
  let v79 : BitVec 32 := Scalar.addi v73 v72
  let v80 : BitVec 32 := Scalar.select v78 v79 v73
  let c512_i32_60 : BitVec 32 := 512#32
  let v81 : BitVec 32 := Scalar.muli v80 c512_i32_60
  let c256_i32 : BitVec 32 := 256#32
  let v82 : BitVec 32 := Scalar.addi v81 c256_i32
  let v83 : Index := Scalar.indexCast v82
  let c0_61 : Index := 0#32
  ![v83.toNat, 0]
def k0_dev4 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_75 : BitVec 32 := 1#32
  let v90 : BitVec 32 := Scalar.muli v13 c1_i32_75
  let v91 : BitVec 32 := Scalar.addi c0_i32_76 v90
  v91.toNat
def k0_off5 (d0 : Dev nD) (c0_i32_81 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v100 : BitVec 32 := Scalar.subi v2 c0_i32_81
  let c8_i32_82 : BitVec 32 := 8#32
  let c0_i32_83 : BitVec 32 := 0#32
  let v101 : BitVec 1 := Scalar.cmpi .eq c8_i32_82 c0_i32_83
  let c1_i32_84 : BitVec 32 := 1#32
  let v102 : BitVec 32 := Scalar.select v101 c1_i32_84 c8_i32_82
  let v103 : BitVec 32 := Scalar.remsi v100 v102
  let c0_i32_86 : BitVec 32 := 0#32
  let v105 : BitVec 1 := Scalar.cmpi .slt v103 c0_i32_86
  let c0_i32_87 : BitVec 32 := 0#32
  let v106 : BitVec 1 := Scalar.cmpi .slt v102 c0_i32_87
  let v107 : BitVec 1 := Scalar.xori v105 v106
  let c0_i32_85 : BitVec 32 := 0#32
  let v104 : BitVec 1 := Scalar.cmpi .ne v103 c0_i32_85
  let v108 : BitVec 1 := Scalar.andi v107 v104
  let v109 : BitVec 32 := Scalar.addi v103 v102
  let v110 : BitVec 32 := Scalar.select v108 v109 v103
  let c512_i32_88 : BitVec 32 := 512#32
  let v111 : BitVec 32 := Scalar.muli v110 c512_i32_88
  let c0_i32_89 : BitVec 32 := 0#32
  let v112 : BitVec 32 := Scalar.addi v111 c0_i32_89
  let v113 : Index := Scalar.indexCast v112
  let c1024 : Index := 1024#32
  ![v113.toNat, 1024]
def k0_dev5 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_104 : BitVec 32 := 1#32
  let v120 : BitVec 32 := Scalar.muli v24 c1_i32_104
  let v121 : BitVec 32 := Scalar.addi c0_i32_105 v120
  v121.toNat
def k0_off6 (d0 : Dev nD) (c0_i32_110 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v130 : BitVec 32 := Scalar.addi v2 c0_i32_110
  let c8_i32_111 : BitVec 32 := 8#32
  let c0_i32_112 : BitVec 32 := 0#32
  let v131 : BitVec 1 := Scalar.cmpi .eq c8_i32_111 c0_i32_112
  let c1_i32_113 : BitVec 32 := 1#32
  let v132 : BitVec 32 := Scalar.select v131 c1_i32_113 c8_i32_111
  let v133 : BitVec 32 := Scalar.remsi v130 v132
  let c0_i32_115 : BitVec 32 := 0#32
  let v135 : BitVec 1 := Scalar.cmpi .slt v133 c0_i32_115
  let c0_i32_116 : BitVec 32 := 0#32
  let v136 : BitVec 1 := Scalar.cmpi .slt v132 c0_i32_116
  let v137 : BitVec 1 := Scalar.xori v135 v136
  let c0_i32_114 : BitVec 32 := 0#32
  let v134 : BitVec 1 := Scalar.cmpi .ne v133 c0_i32_114
  let v138 : BitVec 1 := Scalar.andi v137 v134
  let v139 : BitVec 32 := Scalar.addi v133 v132
  let v140 : BitVec 32 := Scalar.select v138 v139 v133
  let c512_i32_117 : BitVec 32 := 512#32
  let v141 : BitVec 32 := Scalar.muli v140 c512_i32_117
  let c256_i32_118 : BitVec 32 := 256#32
  let v142 : BitVec 32 := Scalar.addi v141 c256_i32_118
  let v143 : Index := Scalar.indexCast v142
  let c1024_119 : Index := 1024#32
  ![v143.toNat, 1024]
def k0_dev6 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_134 : BitVec 32 := 1#32
  let v150 : BitVec 32 := Scalar.muli v13 c1_i32_134
  let v151 : BitVec 32 := Scalar.addi c0_i32_135 v150
  v151.toNat
@[reducible] def k0_t1_loop : Scf.Loop 32 :=
  let c1_i32_140 : BitVec 32 := 1#32
  let c7_i32 : BitVec 32 := 7#32
  let v160 : BitVec 32 := Scalar.addi c1_i32_140 c7_i32
  let c1_i32_141 : BitVec 32 := 1#32
  ⟨c1_i32_140, v160, c1_i32_141⟩
def k0_off7 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_140 : BitVec 32 := 1#32
  let c1_i32_141 : BitVec 32 := 1#32
  let arg15 : BitVec 32 := Scf.iv c1_i32_140 c1_i32_141 k0_t1
  let v3530 : BitVec 32 := Scalar.subi v2 arg15
  let c8_i32_3979 : BitVec 32 := 8#32
  let c0_i32_3980 : BitVec 32 := 0#32
  let v3531 : BitVec 1 := Scalar.cmpi .eq c8_i32_3979 c0_i32_3980
  let c1_i32_3981 : BitVec 32 := 1#32
  let v3532 : BitVec 32 := Scalar.select v3531 c1_i32_3981 c8_i32_3979
  let v3533 : BitVec 32 := Scalar.remsi v3530 v3532
  let c0_i32_3983 : BitVec 32 := 0#32
  let v3535 : BitVec 1 := Scalar.cmpi .slt v3533 c0_i32_3983
  let c0_i32_3984 : BitVec 32 := 0#32
  let v3536 : BitVec 1 := Scalar.cmpi .slt v3532 c0_i32_3984
  let v3537 : BitVec 1 := Scalar.xori v3535 v3536
  let c0_i32_3982 : BitVec 32 := 0#32
  let v3534 : BitVec 1 := Scalar.cmpi .ne v3533 c0_i32_3982
  let v3538 : BitVec 1 := Scalar.andi v3537 v3534
  let v3539 : BitVec 32 := Scalar.addi v3533 v3532
  let v3540 : BitVec 32 := Scalar.select v3538 v3539 v3533
  let c512_i32_3985 : BitVec 32 := 512#32
  let v3541 : BitVec 32 := Scalar.muli v3540 c512_i32_3985
  let v3542 : Index := Scalar.indexCast v3541
  let c0_3986 : Index := 0#32
  ![v3542.toNat, 0]
def k0_off8 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_140 : BitVec 32 := 1#32
  let c1_i32_141 : BitVec 32 := 1#32
  let arg15 : BitVec 32 := Scf.iv c1_i32_140 c1_i32_141 k0_t1
  let v3530 : BitVec 32 := Scalar.subi v2 arg15
  let c8_i32_3979 : BitVec 32 := 8#32
  let c0_i32_3980 : BitVec 32 := 0#32
  let v3531 : BitVec 1 := Scalar.cmpi .eq c8_i32_3979 c0_i32_3980
  let c1_i32_3981 : BitVec 32 := 1#32
  let v3532 : BitVec 32 := Scalar.select v3531 c1_i32_3981 c8_i32_3979
  let v3533 : BitVec 32 := Scalar.remsi v3530 v3532
  let c0_i32_3983 : BitVec 32 := 0#32
  let v3535 : BitVec 1 := Scalar.cmpi .slt v3533 c0_i32_3983
  let c0_i32_3984 : BitVec 32 := 0#32
  let v3536 : BitVec 1 := Scalar.cmpi .slt v3532 c0_i32_3984
  let v3537 : BitVec 1 := Scalar.xori v3535 v3536
  let c0_i32_3982 : BitVec 32 := 0#32
  let v3534 : BitVec 1 := Scalar.cmpi .ne v3533 c0_i32_3982
  let v3538 : BitVec 1 := Scalar.andi v3537 v3534
  let v3539 : BitVec 32 := Scalar.addi v3533 v3532
  let v3540 : BitVec 32 := Scalar.select v3538 v3539 v3533
  let c512_i32_3990 : BitVec 32 := 512#32
  let v3548 : BitVec 32 := Scalar.muli v3540 c512_i32_3990
  let v3549 : Index := Scalar.indexCast v3548
  let c0_3991 : Index := 0#32
  ![v3549.toNat, 0]
def k0_off9 (d0 : Dev nD) (c0_i32_174 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v175 : BitVec 32 := Scalar.subi v2 c0_i32_174
  let c1_i32_175 : BitVec 32 := 1#32
  let v176 : BitVec 32 := Scalar.subi v175 c1_i32_175
  let c8_i32_176 : BitVec 32 := 8#32
  let c0_i32_177 : BitVec 32 := 0#32
  let v177 : BitVec 1 := Scalar.cmpi .eq c8_i32_176 c0_i32_177
  let c1_i32_178 : BitVec 32 := 1#32
  let v178 : BitVec 32 := Scalar.select v177 c1_i32_178 c8_i32_176
  let v179 : BitVec 32 := Scalar.remsi v176 v178
  let c0_i32_180 : BitVec 32 := 0#32
  let v181 : BitVec 1 := Scalar.cmpi .slt v179 c0_i32_180
  let c0_i32_181 : BitVec 32 := 0#32
  let v182 : BitVec 1 := Scalar.cmpi .slt v178 c0_i32_181
  let v183 : BitVec 1 := Scalar.xori v181 v182
  let c0_i32_179 : BitVec 32 := 0#32
  let v180 : BitVec 1 := Scalar.cmpi .ne v179 c0_i32_179
  let v184 : BitVec 1 := Scalar.andi v183 v180
  let v185 : BitVec 32 := Scalar.addi v179 v178
  let v186 : BitVec 32 := Scalar.select v184 v185 v179
  let c512_i32_182 : BitVec 32 := 512#32
  let v187 : BitVec 32 := Scalar.muli v186 c512_i32_182
  let c0_i32_183 : BitVec 32 := 0#32
  let v188 : BitVec 32 := Scalar.addi v187 c0_i32_183
  let v189 : Index := Scalar.indexCast v188
  let c0_184 : Index := 0#32
  ![v189.toNat, 0]
def k0_dev7 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_193 : BitVec 32 := 1#32
  let v200 : BitVec 32 := Scalar.muli v13 c1_i32_193
  let v201 : BitVec 32 := Scalar.addi c0_i32_194 v200
  v201.toNat
def k0_dev8 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_223 : BitVec 32 := 1#32
  let v224 : BitVec 32 := Scalar.muli v24 c1_i32_223
  let v225 : BitVec 32 := Scalar.addi c0_i32_224 v224
  v225.toNat
def k0_off10 (d0 : Dev nD) (c0_i32_260 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v248 : BitVec 32 := Scalar.addi v2 c0_i32_260
  let c1_i32_261 : BitVec 32 := 1#32
  let v249 : BitVec 32 := Scalar.addi v248 c1_i32_261
  let c8_i32_262 : BitVec 32 := 8#32
  let c0_i32_263 : BitVec 32 := 0#32
  let v250 : BitVec 1 := Scalar.cmpi .eq c8_i32_262 c0_i32_263
  let c1_i32_264 : BitVec 32 := 1#32
  let v251 : BitVec 32 := Scalar.select v250 c1_i32_264 c8_i32_262
  let v252 : BitVec 32 := Scalar.remsi v249 v251
  let c0_i32_266 : BitVec 32 := 0#32
  let v254 : BitVec 1 := Scalar.cmpi .slt v252 c0_i32_266
  let c0_i32_267 : BitVec 32 := 0#32
  let v255 : BitVec 1 := Scalar.cmpi .slt v251 c0_i32_267
  let v256 : BitVec 1 := Scalar.xori v254 v255
  let c0_i32_265 : BitVec 32 := 0#32
  let v253 : BitVec 1 := Scalar.cmpi .ne v252 c0_i32_265
  let v257 : BitVec 1 := Scalar.andi v256 v253
  let v258 : BitVec 32 := Scalar.addi v252 v251
  let v259 : BitVec 32 := Scalar.select v257 v258 v252
  let c512_i32_268 : BitVec 32 := 512#32
  let v260 : BitVec 32 := Scalar.muli v259 c512_i32_268
  let c256_i32_269 : BitVec 32 := 256#32
  let v261 : BitVec 32 := Scalar.addi v260 c256_i32_269
  let v262 : Index := Scalar.indexCast v261
  let c0_270 : Index := 0#32
  ![v262.toNat, 0]
def k0_dev9 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_279 : BitVec 32 := 1#32
  let v273 : BitVec 32 := Scalar.muli v24 c1_i32_279
  let v274 : BitVec 32 := Scalar.addi c0_i32_280 v273
  v274.toNat
def k0_dev10 (d0 : Dev nD) : Nat :=
  let c0_i32_310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_309 : BitVec 32 := 1#32
  let v297 : BitVec 32 := Scalar.muli v13 c1_i32_309
  let v298 : BitVec 32 := Scalar.addi c0_i32_310 v297
  v298.toNat
def k0_off11 (d0 : Dev nD) (c0_i32_346 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v321 : BitVec 32 := Scalar.subi v2 c0_i32_346
  let c1_i32_347 : BitVec 32 := 1#32
  let v322 : BitVec 32 := Scalar.subi v321 c1_i32_347
  let c8_i32_348 : BitVec 32 := 8#32
  let c0_i32_349 : BitVec 32 := 0#32
  let v323 : BitVec 1 := Scalar.cmpi .eq c8_i32_348 c0_i32_349
  let c1_i32_350 : BitVec 32 := 1#32
  let v324 : BitVec 32 := Scalar.select v323 c1_i32_350 c8_i32_348
  let v325 : BitVec 32 := Scalar.remsi v322 v324
  let c0_i32_352 : BitVec 32 := 0#32
  let v327 : BitVec 1 := Scalar.cmpi .slt v325 c0_i32_352
  let c0_i32_353 : BitVec 32 := 0#32
  let v328 : BitVec 1 := Scalar.cmpi .slt v324 c0_i32_353
  let v329 : BitVec 1 := Scalar.xori v327 v328
  let c0_i32_351 : BitVec 32 := 0#32
  let v326 : BitVec 1 := Scalar.cmpi .ne v325 c0_i32_351
  let v330 : BitVec 1 := Scalar.andi v329 v326
  let v331 : BitVec 32 := Scalar.addi v325 v324
  let v332 : BitVec 32 := Scalar.select v330 v331 v325
  let c512_i32_354 : BitVec 32 := 512#32
  let v333 : BitVec 32 := Scalar.muli v332 c512_i32_354
  let c0_i32_355 : BitVec 32 := 0#32
  let v334 : BitVec 32 := Scalar.addi v333 c0_i32_355
  let v335 : Index := Scalar.indexCast v334
  let c1024_356 : Index := 1024#32
  ![v335.toNat, 1024]
def k0_dev11 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_365 : BitVec 32 := 1#32
  let v346 : BitVec 32 := Scalar.muli v13 c1_i32_365
  let v347 : BitVec 32 := Scalar.addi c0_i32_366 v346
  v347.toNat
def k0_dev12 (d0 : Dev nD) : Nat :=
  let c0_i32_396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_395 : BitVec 32 := 1#32
  let v370 : BitVec 32 := Scalar.muli v24 c1_i32_395
  let v371 : BitVec 32 := Scalar.addi c0_i32_396 v370
  v371.toNat
def k0_off12 (d0 : Dev nD) (c0_i32_432 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v394 : BitVec 32 := Scalar.addi v2 c0_i32_432
  let c1_i32_433 : BitVec 32 := 1#32
  let v395 : BitVec 32 := Scalar.addi v394 c1_i32_433
  let c8_i32_434 : BitVec 32 := 8#32
  let c0_i32_435 : BitVec 32 := 0#32
  let v396 : BitVec 1 := Scalar.cmpi .eq c8_i32_434 c0_i32_435
  let c1_i32_436 : BitVec 32 := 1#32
  let v397 : BitVec 32 := Scalar.select v396 c1_i32_436 c8_i32_434
  let v398 : BitVec 32 := Scalar.remsi v395 v397
  let c0_i32_438 : BitVec 32 := 0#32
  let v400 : BitVec 1 := Scalar.cmpi .slt v398 c0_i32_438
  let c0_i32_439 : BitVec 32 := 0#32
  let v401 : BitVec 1 := Scalar.cmpi .slt v397 c0_i32_439
  let v402 : BitVec 1 := Scalar.xori v400 v401
  let c0_i32_437 : BitVec 32 := 0#32
  let v399 : BitVec 1 := Scalar.cmpi .ne v398 c0_i32_437
  let v403 : BitVec 1 := Scalar.andi v402 v399
  let v404 : BitVec 32 := Scalar.addi v398 v397
  let v405 : BitVec 32 := Scalar.select v403 v404 v398
  let c512_i32_440 : BitVec 32 := 512#32
  let v406 : BitVec 32 := Scalar.muli v405 c512_i32_440
  let c256_i32_441 : BitVec 32 := 256#32
  let v407 : BitVec 32 := Scalar.addi v406 c256_i32_441
  let v408 : Index := Scalar.indexCast v407
  let c1024_442 : Index := 1024#32
  ![v408.toNat, 1024]
def k0_dev13 (d0 : Dev nD) : Nat :=
  let c0_i32_452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_451 : BitVec 32 := 1#32
  let v419 : BitVec 32 := Scalar.muli v24 c1_i32_451
  let v420 : BitVec 32 := Scalar.addi c0_i32_452 v419
  v420.toNat
def k0_dev14 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_481 : BitVec 32 := 1#32
  let v443 : BitVec 32 := Scalar.muli v13 c1_i32_481
  let v444 : BitVec 32 := Scalar.addi c0_i32_482 v443
  v444.toNat
def k0_dev15 (d0 : Dev nD) : Nat :=
  let c0_i32_538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_537 : BitVec 32 := 1#32
  let v492 : BitVec 32 := Scalar.muli v13 c1_i32_537
  let v493 : BitVec 32 := Scalar.addi c0_i32_538 v492
  v493.toNat
def k0_dev16 (d0 : Dev nD) : Nat :=
  let c0_i32_568 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_567 : BitVec 32 := 1#32
  let v516 : BitVec 32 := Scalar.muli v24 c1_i32_567
  let v517 : BitVec 32 := Scalar.addi c0_i32_568 v516
  v517.toNat
def k0_dev17 (d0 : Dev nD) : Nat :=
  let c0_i32_624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_623 : BitVec 32 := 1#32
  let v565 : BitVec 32 := Scalar.muli v24 c1_i32_623
  let v566 : BitVec 32 := Scalar.addi c0_i32_624 v565
  v566.toNat
def k0_dev18 (d0 : Dev nD) : Nat :=
  let c0_i32_654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_653 : BitVec 32 := 1#32
  let v589 : BitVec 32 := Scalar.muli v13 c1_i32_653
  let v590 : BitVec 32 := Scalar.addi c0_i32_654 v589
  v590.toNat
def k0_dev19 (d0 : Dev nD) : Nat :=
  let c0_i32_710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_709 : BitVec 32 := 1#32
  let v638 : BitVec 32 := Scalar.muli v13 c1_i32_709
  let v639 : BitVec 32 := Scalar.addi c0_i32_710 v638
  v639.toNat
def k0_dev20 (d0 : Dev nD) : Nat :=
  let c0_i32_740 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_739 : BitVec 32 := 1#32
  let v662 : BitVec 32 := Scalar.muli v24 c1_i32_739
  let v663 : BitVec 32 := Scalar.addi c0_i32_740 v662
  v663.toNat
def k0_dev21 (d0 : Dev nD) : Nat :=
  let c0_i32_796 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_795 : BitVec 32 := 1#32
  let v711 : BitVec 32 := Scalar.muli v24 c1_i32_795
  let v712 : BitVec 32 := Scalar.addi c0_i32_796 v711
  v712.toNat
def k0_dev22 (d0 : Dev nD) : Nat :=
  let c0_i32_826 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_825 : BitVec 32 := 1#32
  let v735 : BitVec 32 := Scalar.muli v13 c1_i32_825
  let v736 : BitVec 32 := Scalar.addi c0_i32_826 v735
  v736.toNat
def k0_dev23 (d0 : Dev nD) : Nat :=
  let c0_i32_882 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_881 : BitVec 32 := 1#32
  let v784 : BitVec 32 := Scalar.muli v13 c1_i32_881
  let v785 : BitVec 32 := Scalar.addi c0_i32_882 v784
  v785.toNat
def k0_dev24 (d0 : Dev nD) : Nat :=
  let c0_i32_911 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_910 : BitVec 32 := 1#32
  let v808 : BitVec 32 := Scalar.muli v24 c1_i32_910
  let v809 : BitVec 32 := Scalar.addi c0_i32_911 v808
  v809.toNat
def k0_dev25 (d0 : Dev nD) : Nat :=
  let c0_i32_967 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_966 : BitVec 32 := 1#32
  let v857 : BitVec 32 := Scalar.muli v24 c1_i32_966
  let v858 : BitVec 32 := Scalar.addi c0_i32_967 v857
  v858.toNat
def k0_dev26 (d0 : Dev nD) : Nat :=
  let c0_i32_997 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_996 : BitVec 32 := 1#32
  let v881 : BitVec 32 := Scalar.muli v13 c1_i32_996
  let v882 : BitVec 32 := Scalar.addi c0_i32_997 v881
  v882.toNat
def k0_dev27 (d0 : Dev nD) : Nat :=
  let c0_i32_1053 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1052 : BitVec 32 := 1#32
  let v930 : BitVec 32 := Scalar.muli v13 c1_i32_1052
  let v931 : BitVec 32 := Scalar.addi c0_i32_1053 v930
  v931.toNat
def k0_dev28 (d0 : Dev nD) : Nat :=
  let c0_i32_1083 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1082 : BitVec 32 := 1#32
  let v954 : BitVec 32 := Scalar.muli v24 c1_i32_1082
  let v955 : BitVec 32 := Scalar.addi c0_i32_1083 v954
  v955.toNat
def k0_dev29 (d0 : Dev nD) : Nat :=
  let c0_i32_1139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1138 : BitVec 32 := 1#32
  let v1003 : BitVec 32 := Scalar.muli v24 c1_i32_1138
  let v1004 : BitVec 32 := Scalar.addi c0_i32_1139 v1003
  v1004.toNat
def k0_dev30 (d0 : Dev nD) : Nat :=
  let c0_i32_1169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1168 : BitVec 32 := 1#32
  let v1027 : BitVec 32 := Scalar.muli v13 c1_i32_1168
  let v1028 : BitVec 32 := Scalar.addi c0_i32_1169 v1027
  v1028.toNat
def k0_dev31 (d0 : Dev nD) : Nat :=
  let c0_i32_1225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1224 : BitVec 32 := 1#32
  let v1076 : BitVec 32 := Scalar.muli v13 c1_i32_1224
  let v1077 : BitVec 32 := Scalar.addi c0_i32_1225 v1076
  v1077.toNat
def k0_dev32 (d0 : Dev nD) : Nat :=
  let c0_i32_1254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1253 : BitVec 32 := 1#32
  let v1100 : BitVec 32 := Scalar.muli v24 c1_i32_1253
  let v1101 : BitVec 32 := Scalar.addi c0_i32_1254 v1100
  v1101.toNat
def k0_dev33 (d0 : Dev nD) : Nat :=
  let c0_i32_1310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1309 : BitVec 32 := 1#32
  let v1149 : BitVec 32 := Scalar.muli v24 c1_i32_1309
  let v1150 : BitVec 32 := Scalar.addi c0_i32_1310 v1149
  v1150.toNat
def k0_dev34 (d0 : Dev nD) : Nat :=
  let c0_i32_1340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1339 : BitVec 32 := 1#32
  let v1173 : BitVec 32 := Scalar.muli v13 c1_i32_1339
  let v1174 : BitVec 32 := Scalar.addi c0_i32_1340 v1173
  v1174.toNat
def k0_dev35 (d0 : Dev nD) : Nat :=
  let c0_i32_1396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1395 : BitVec 32 := 1#32
  let v1222 : BitVec 32 := Scalar.muli v13 c1_i32_1395
  let v1223 : BitVec 32 := Scalar.addi c0_i32_1396 v1222
  v1223.toNat
def k0_dev36 (d0 : Dev nD) : Nat :=
  let c0_i32_1426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1425 : BitVec 32 := 1#32
  let v1246 : BitVec 32 := Scalar.muli v24 c1_i32_1425
  let v1247 : BitVec 32 := Scalar.addi c0_i32_1426 v1246
  v1247.toNat
def k0_dev37 (d0 : Dev nD) : Nat :=
  let c0_i32_1482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1481 : BitVec 32 := 1#32
  let v1295 : BitVec 32 := Scalar.muli v24 c1_i32_1481
  let v1296 : BitVec 32 := Scalar.addi c0_i32_1482 v1295
  v1296.toNat
def k0_dev38 (d0 : Dev nD) : Nat :=
  let c0_i32_1512 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1511 : BitVec 32 := 1#32
  let v1319 : BitVec 32 := Scalar.muli v13 c1_i32_1511
  let v1320 : BitVec 32 := Scalar.addi c0_i32_1512 v1319
  v1320.toNat
def k0_dev39 (d0 : Dev nD) : Nat :=
  let c0_i32_1568 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1567 : BitVec 32 := 1#32
  let v1368 : BitVec 32 := Scalar.muli v13 c1_i32_1567
  let v1369 : BitVec 32 := Scalar.addi c0_i32_1568 v1368
  v1369.toNat
def k0_dev40 (d0 : Dev nD) : Nat :=
  let c0_i32_1597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1596 : BitVec 32 := 1#32
  let v1392 : BitVec 32 := Scalar.muli v24 c1_i32_1596
  let v1393 : BitVec 32 := Scalar.addi c0_i32_1597 v1392
  v1393.toNat
def k0_dev41 (d0 : Dev nD) : Nat :=
  let c0_i32_1653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1652 : BitVec 32 := 1#32
  let v1441 : BitVec 32 := Scalar.muli v24 c1_i32_1652
  let v1442 : BitVec 32 := Scalar.addi c0_i32_1653 v1441
  v1442.toNat
def k0_dev42 (d0 : Dev nD) : Nat :=
  let c0_i32_1683 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1682 : BitVec 32 := 1#32
  let v1465 : BitVec 32 := Scalar.muli v13 c1_i32_1682
  let v1466 : BitVec 32 := Scalar.addi c0_i32_1683 v1465
  v1466.toNat
def k0_dev43 (d0 : Dev nD) : Nat :=
  let c0_i32_1739 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1738 : BitVec 32 := 1#32
  let v1514 : BitVec 32 := Scalar.muli v13 c1_i32_1738
  let v1515 : BitVec 32 := Scalar.addi c0_i32_1739 v1514
  v1515.toNat
def k0_dev44 (d0 : Dev nD) : Nat :=
  let c0_i32_1769 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1768 : BitVec 32 := 1#32
  let v1538 : BitVec 32 := Scalar.muli v24 c1_i32_1768
  let v1539 : BitVec 32 := Scalar.addi c0_i32_1769 v1538
  v1539.toNat
def k0_dev45 (d0 : Dev nD) : Nat :=
  let c0_i32_1825 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1824 : BitVec 32 := 1#32
  let v1587 : BitVec 32 := Scalar.muli v24 c1_i32_1824
  let v1588 : BitVec 32 := Scalar.addi c0_i32_1825 v1587
  v1588.toNat
def k0_dev46 (d0 : Dev nD) : Nat :=
  let c0_i32_1855 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1854 : BitVec 32 := 1#32
  let v1611 : BitVec 32 := Scalar.muli v13 c1_i32_1854
  let v1612 : BitVec 32 := Scalar.addi c0_i32_1855 v1611
  v1612.toNat
def k0_dev47 (d0 : Dev nD) : Nat :=
  let c0_i32_1911 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1910 : BitVec 32 := 1#32
  let v1660 : BitVec 32 := Scalar.muli v13 c1_i32_1910
  let v1661 : BitVec 32 := Scalar.addi c0_i32_1911 v1660
  v1661.toNat
def k0_dev48 (d0 : Dev nD) : Nat :=
  let c0_i32_1940 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1939 : BitVec 32 := 1#32
  let v1684 : BitVec 32 := Scalar.muli v24 c1_i32_1939
  let v1685 : BitVec 32 := Scalar.addi c0_i32_1940 v1684
  v1685.toNat
def k0_dev49 (d0 : Dev nD) : Nat :=
  let c0_i32_1996 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1995 : BitVec 32 := 1#32
  let v1733 : BitVec 32 := Scalar.muli v24 c1_i32_1995
  let v1734 : BitVec 32 := Scalar.addi c0_i32_1996 v1733
  v1734.toNat
def k0_dev50 (d0 : Dev nD) : Nat :=
  let c0_i32_2026 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2025 : BitVec 32 := 1#32
  let v1757 : BitVec 32 := Scalar.muli v13 c1_i32_2025
  let v1758 : BitVec 32 := Scalar.addi c0_i32_2026 v1757
  v1758.toNat
def k0_dev51 (d0 : Dev nD) : Nat :=
  let c0_i32_2082 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2081 : BitVec 32 := 1#32
  let v1806 : BitVec 32 := Scalar.muli v13 c1_i32_2081
  let v1807 : BitVec 32 := Scalar.addi c0_i32_2082 v1806
  v1807.toNat
def k0_dev52 (d0 : Dev nD) : Nat :=
  let c0_i32_2112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2111 : BitVec 32 := 1#32
  let v1830 : BitVec 32 := Scalar.muli v24 c1_i32_2111
  let v1831 : BitVec 32 := Scalar.addi c0_i32_2112 v1830
  v1831.toNat
def k0_dev53 (d0 : Dev nD) : Nat :=
  let c0_i32_2168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2167 : BitVec 32 := 1#32
  let v1879 : BitVec 32 := Scalar.muli v24 c1_i32_2167
  let v1880 : BitVec 32 := Scalar.addi c0_i32_2168 v1879
  v1880.toNat
def k0_dev54 (d0 : Dev nD) : Nat :=
  let c0_i32_2198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2197 : BitVec 32 := 1#32
  let v1903 : BitVec 32 := Scalar.muli v13 c1_i32_2197
  let v1904 : BitVec 32 := Scalar.addi c0_i32_2198 v1903
  v1904.toNat
def k0_off13 (d0 : Dev nD) (c1_i32_2391 : BitVec 32) (c0_i32_2399 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2061 : BitVec 32 := Scalar.addi v2 c1_i32_2391
  let c8_i32_2392 : BitVec 32 := 8#32
  let c0_i32_2393 : BitVec 32 := 0#32
  let v2062 : BitVec 1 := Scalar.cmpi .eq c8_i32_2392 c0_i32_2393
  let c1_i32_2394 : BitVec 32 := 1#32
  let v2063 : BitVec 32 := Scalar.select v2062 c1_i32_2394 c8_i32_2392
  let v2064 : BitVec 32 := Scalar.remsi v2061 v2063
  let c0_i32_2396 : BitVec 32 := 0#32
  let v2066 : BitVec 1 := Scalar.cmpi .slt v2064 c0_i32_2396
  let c0_i32_2397 : BitVec 32 := 0#32
  let v2067 : BitVec 1 := Scalar.cmpi .slt v2063 c0_i32_2397
  let v2068 : BitVec 1 := Scalar.xori v2066 v2067
  let c0_i32_2395 : BitVec 32 := 0#32
  let v2065 : BitVec 1 := Scalar.cmpi .ne v2064 c0_i32_2395
  let v2069 : BitVec 1 := Scalar.andi v2068 v2065
  let v2070 : BitVec 32 := Scalar.addi v2064 v2063
  let v2071 : BitVec 32 := Scalar.select v2069 v2070 v2064
  let c512_i32_2398 : BitVec 32 := 512#32
  let v2072 : BitVec 32 := Scalar.muli v2071 c512_i32_2398
  let v2073 : BitVec 32 := Scalar.addi v2072 c0_i32_2399
  let v2087 : Index := Scalar.indexCast v2073
  let c0_2409 : Index := 0#32
  ![v2087.toNat, 0]
def k0_off13_at (r : Fin 8) : BitVec 32 × BitVec 32 :=
  if r.val < 4 then
    if r.val < 2 then
      if r.val < 1 then
        (1#32, 0#32)
      else
        (0#32, 256#32)
    else
      if r.val < 3 then
        (1#32, 256#32)
      else
        (2#32, 256#32)
  else
    if r.val < 6 then
      if r.val < 5 then
        (3#32, 256#32)
      else
        (4#32, 256#32)
    else
      if r.val < 7 then
        (5#32, 256#32)
      else
        (6#32, 256#32)
def k0_off14 (d0 : Dev nD) (c1_i32_2400 : BitVec 32) (c256_i32_2408 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2074 : BitVec 32 := Scalar.subi v2 c1_i32_2400
  let c8_i32_2401 : BitVec 32 := 8#32
  let c0_i32_2402 : BitVec 32 := 0#32
  let v2075 : BitVec 1 := Scalar.cmpi .eq c8_i32_2401 c0_i32_2402
  let c1_i32_2403 : BitVec 32 := 1#32
  let v2076 : BitVec 32 := Scalar.select v2075 c1_i32_2403 c8_i32_2401
  let v2077 : BitVec 32 := Scalar.remsi v2074 v2076
  let c0_i32_2405 : BitVec 32 := 0#32
  let v2079 : BitVec 1 := Scalar.cmpi .slt v2077 c0_i32_2405
  let c0_i32_2406 : BitVec 32 := 0#32
  let v2080 : BitVec 1 := Scalar.cmpi .slt v2076 c0_i32_2406
  let v2081 : BitVec 1 := Scalar.xori v2079 v2080
  let c0_i32_2404 : BitVec 32 := 0#32
  let v2078 : BitVec 1 := Scalar.cmpi .ne v2077 c0_i32_2404
  let v2082 : BitVec 1 := Scalar.andi v2081 v2078
  let v2083 : BitVec 32 := Scalar.addi v2077 v2076
  let v2084 : BitVec 32 := Scalar.select v2082 v2083 v2077
  let c512_i32_2407 : BitVec 32 := 512#32
  let v2085 : BitVec 32 := Scalar.muli v2084 c512_i32_2407
  let v2086 : BitVec 32 := Scalar.addi v2085 c256_i32_2408
  let v2095 : Index := Scalar.indexCast v2086
  let c0_2411 : Index := 0#32
  ![v2095.toNat, 0]
def k0_off14_at (r : Fin 8) : BitVec 32 × BitVec 32 :=
  if r.val < 4 then
    if r.val < 2 then
      if r.val < 1 then
        (1#32, 256#32)
      else
        (0#32, 0#32)
    else
      if r.val < 3 then
        (1#32, 0#32)
      else
        (2#32, 0#32)
  else
    if r.val < 6 then
      if r.val < 5 then
        (3#32, 0#32)
      else
        (4#32, 0#32)
    else
      if r.val < 7 then
        (5#32, 0#32)
      else
        (6#32, 0#32)
def k0_dev55 (d0 : Dev nD) : Nat :=
  let c0_i32_2424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2423 : BitVec 32 := 1#32
  let v2108 : BitVec 32 := Scalar.muli v24 c1_i32_2423
  let v2109 : BitVec 32 := Scalar.addi c0_i32_2424 v2108
  v2109.toNat
def k0_dev56 (d0 : Dev nD) : Nat :=
  let c0_i32_2440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2439 : BitVec 32 := 1#32
  let v2122 : BitVec 32 := Scalar.muli v13 c1_i32_2439
  let v2123 : BitVec 32 := Scalar.addi c0_i32_2440 v2122
  v2123.toNat
def k0_dev57 (d0 : Dev nD) : Nat :=
  let c0_i32_2514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2513 : BitVec 32 := 1#32
  let v2170 : BitVec 32 := Scalar.muli v24 c1_i32_2513
  let v2171 : BitVec 32 := Scalar.addi c0_i32_2514 v2170
  v2171.toNat
def k0_dev58 (d0 : Dev nD) : Nat :=
  let c0_i32_2530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2529 : BitVec 32 := 1#32
  let v2184 : BitVec 32 := Scalar.muli v13 c1_i32_2529
  let v2185 : BitVec 32 := Scalar.addi c0_i32_2530 v2184
  v2185.toNat
def k0_dev59 (d0 : Dev nD) : Nat :=
  let c0_i32_2604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2603 : BitVec 32 := 1#32
  let v2232 : BitVec 32 := Scalar.muli v24 c1_i32_2603
  let v2233 : BitVec 32 := Scalar.addi c0_i32_2604 v2232
  v2233.toNat
def k0_dev60 (d0 : Dev nD) : Nat :=
  let c0_i32_2620 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2619 : BitVec 32 := 1#32
  let v2246 : BitVec 32 := Scalar.muli v13 c1_i32_2619
  let v2247 : BitVec 32 := Scalar.addi c0_i32_2620 v2246
  v2247.toNat
def k0_dev61 (d0 : Dev nD) : Nat :=
  let c0_i32_2693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2692 : BitVec 32 := 1#32
  let v2294 : BitVec 32 := Scalar.muli v24 c1_i32_2692
  let v2295 : BitVec 32 := Scalar.addi c0_i32_2693 v2294
  v2295.toNat
def k0_off15 (d0 : Dev nD) (c0_i32_2735 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2734 : BitVec 32 := 1#32
  let v2354 : BitVec 32 := Scalar.addi v2 c1_i32_2734
  let v2355 : BitVec 32 := Scalar.subi v2354 c0_i32_2735
  let c8_i32_2736 : BitVec 32 := 8#32
  let c0_i32_2737 : BitVec 32 := 0#32
  let v2356 : BitVec 1 := Scalar.cmpi .eq c8_i32_2736 c0_i32_2737
  let c1_i32_2738 : BitVec 32 := 1#32
  let v2357 : BitVec 32 := Scalar.select v2356 c1_i32_2738 c8_i32_2736
  let v2358 : BitVec 32 := Scalar.remsi v2355 v2357
  let c0_i32_2740 : BitVec 32 := 0#32
  let v2360 : BitVec 1 := Scalar.cmpi .slt v2358 c0_i32_2740
  let c0_i32_2741 : BitVec 32 := 0#32
  let v2361 : BitVec 1 := Scalar.cmpi .slt v2357 c0_i32_2741
  let v2362 : BitVec 1 := Scalar.xori v2360 v2361
  let c0_i32_2739 : BitVec 32 := 0#32
  let v2359 : BitVec 1 := Scalar.cmpi .ne v2358 c0_i32_2739
  let v2363 : BitVec 1 := Scalar.andi v2362 v2359
  let v2364 : BitVec 32 := Scalar.addi v2358 v2357
  let v2365 : BitVec 32 := Scalar.select v2363 v2364 v2358
  let c512_i32_2742 : BitVec 32 := 512#32
  let v2366 : BitVec 32 := Scalar.muli v2365 c512_i32_2742
  let c0_i32_2743 : BitVec 32 := 0#32
  let v2367 : BitVec 32 := Scalar.addi v2366 c0_i32_2743
  let c0_i32_2752 : BitVec 32 := 0#32
  ![v2367.toNat, 0]
def k0_dev62 (d0 : Dev nD) : Nat :=
  let c0_i32_2751 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2750 : BitVec 32 := 1#32
  let v2368 : BitVec 32 := Scalar.muli v24 c1_i32_2750
  let v2369 : BitVec 32 := Scalar.addi c0_i32_2751 v2368
  v2369.toNat
def k0_off16 (d0 : Dev nD) (c0_i32_2755 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2754 : BitVec 32 := 1#32
  let v2376 : BitVec 32 := Scalar.subi v2 c1_i32_2754
  let v2377 : BitVec 32 := Scalar.addi v2376 c0_i32_2755
  let c8_i32_2756 : BitVec 32 := 8#32
  let c0_i32_2757 : BitVec 32 := 0#32
  let v2378 : BitVec 1 := Scalar.cmpi .eq c8_i32_2756 c0_i32_2757
  let c1_i32_2758 : BitVec 32 := 1#32
  let v2379 : BitVec 32 := Scalar.select v2378 c1_i32_2758 c8_i32_2756
  let v2380 : BitVec 32 := Scalar.remsi v2377 v2379
  let c0_i32_2760 : BitVec 32 := 0#32
  let v2382 : BitVec 1 := Scalar.cmpi .slt v2380 c0_i32_2760
  let c0_i32_2761 : BitVec 32 := 0#32
  let v2383 : BitVec 1 := Scalar.cmpi .slt v2379 c0_i32_2761
  let v2384 : BitVec 1 := Scalar.xori v2382 v2383
  let c0_i32_2759 : BitVec 32 := 0#32
  let v2381 : BitVec 1 := Scalar.cmpi .ne v2380 c0_i32_2759
  let v2385 : BitVec 1 := Scalar.andi v2384 v2381
  let v2386 : BitVec 32 := Scalar.addi v2380 v2379
  let v2387 : BitVec 32 := Scalar.select v2385 v2386 v2380
  let c512_i32_2762 : BitVec 32 := 512#32
  let v2388 : BitVec 32 := Scalar.muli v2387 c512_i32_2762
  let c256_i32_2763 : BitVec 32 := 256#32
  let v2389 : BitVec 32 := Scalar.addi v2388 c256_i32_2763
  let c0_i32_2772 : BitVec 32 := 0#32
  ![v2389.toNat, 0]
def k0_dev63 (d0 : Dev nD) : Nat :=
  let c0_i32_2771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2770 : BitVec 32 := 1#32
  let v2390 : BitVec 32 := Scalar.muli v13 c1_i32_2770
  let v2391 : BitVec 32 := Scalar.addi c0_i32_2771 v2390
  v2391.toNat
def k0_off17 (d0 : Dev nD) (c0_i32_2775 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2774 : BitVec 32 := 1#32
  let v2398 : BitVec 32 := Scalar.addi v2 c1_i32_2774
  let v2399 : BitVec 32 := Scalar.subi v2398 c0_i32_2775
  let c8_i32_2776 : BitVec 32 := 8#32
  let c0_i32_2777 : BitVec 32 := 0#32
  let v2400 : BitVec 1 := Scalar.cmpi .eq c8_i32_2776 c0_i32_2777
  let c1_i32_2778 : BitVec 32 := 1#32
  let v2401 : BitVec 32 := Scalar.select v2400 c1_i32_2778 c8_i32_2776
  let v2402 : BitVec 32 := Scalar.remsi v2399 v2401
  let c0_i32_2780 : BitVec 32 := 0#32
  let v2404 : BitVec 1 := Scalar.cmpi .slt v2402 c0_i32_2780
  let c0_i32_2781 : BitVec 32 := 0#32
  let v2405 : BitVec 1 := Scalar.cmpi .slt v2401 c0_i32_2781
  let v2406 : BitVec 1 := Scalar.xori v2404 v2405
  let c0_i32_2779 : BitVec 32 := 0#32
  let v2403 : BitVec 1 := Scalar.cmpi .ne v2402 c0_i32_2779
  let v2407 : BitVec 1 := Scalar.andi v2406 v2403
  let v2408 : BitVec 32 := Scalar.addi v2402 v2401
  let v2409 : BitVec 32 := Scalar.select v2407 v2408 v2402
  let c512_i32_2782 : BitVec 32 := 512#32
  let v2410 : BitVec 32 := Scalar.muli v2409 c512_i32_2782
  let c0_i32_2783 : BitVec 32 := 0#32
  let v2411 : BitVec 32 := Scalar.addi v2410 c0_i32_2783
  let c1024_i32 : BitVec 32 := 1024#32
  ![v2411.toNat, 1024]
def k0_dev64 (d0 : Dev nD) : Nat :=
  let c0_i32_2791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2790 : BitVec 32 := 1#32
  let v2412 : BitVec 32 := Scalar.muli v24 c1_i32_2790
  let v2413 : BitVec 32 := Scalar.addi c0_i32_2791 v2412
  v2413.toNat
def k0_off18 (d0 : Dev nD) (c0_i32_2794 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2793 : BitVec 32 := 1#32
  let v2420 : BitVec 32 := Scalar.subi v2 c1_i32_2793
  let v2421 : BitVec 32 := Scalar.addi v2420 c0_i32_2794
  let c8_i32_2795 : BitVec 32 := 8#32
  let c0_i32_2796 : BitVec 32 := 0#32
  let v2422 : BitVec 1 := Scalar.cmpi .eq c8_i32_2795 c0_i32_2796
  let c1_i32_2797 : BitVec 32 := 1#32
  let v2423 : BitVec 32 := Scalar.select v2422 c1_i32_2797 c8_i32_2795
  let v2424 : BitVec 32 := Scalar.remsi v2421 v2423
  let c0_i32_2799 : BitVec 32 := 0#32
  let v2426 : BitVec 1 := Scalar.cmpi .slt v2424 c0_i32_2799
  let c0_i32_2800 : BitVec 32 := 0#32
  let v2427 : BitVec 1 := Scalar.cmpi .slt v2423 c0_i32_2800
  let v2428 : BitVec 1 := Scalar.xori v2426 v2427
  let c0_i32_2798 : BitVec 32 := 0#32
  let v2425 : BitVec 1 := Scalar.cmpi .ne v2424 c0_i32_2798
  let v2429 : BitVec 1 := Scalar.andi v2428 v2425
  let v2430 : BitVec 32 := Scalar.addi v2424 v2423
  let v2431 : BitVec 32 := Scalar.select v2429 v2430 v2424
  let c512_i32_2801 : BitVec 32 := 512#32
  let v2432 : BitVec 32 := Scalar.muli v2431 c512_i32_2801
  let c256_i32_2802 : BitVec 32 := 256#32
  let v2433 : BitVec 32 := Scalar.addi v2432 c256_i32_2802
  let c1024_i32_2811 : BitVec 32 := 1024#32
  ![v2433.toNat, 1024]
def k0_dev65 (d0 : Dev nD) : Nat :=
  let c0_i32_2810 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2809 : BitVec 32 := 1#32
  let v2434 : BitVec 32 := Scalar.muli v13 c1_i32_2809
  let v2435 : BitVec 32 := Scalar.addi c0_i32_2810 v2434
  v2435.toNat
def k0_dev66 (d0 : Dev nD) : Nat :=
  let c0_i32_2849 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2848 : BitVec 32 := 1#32
  let v2466 : BitVec 32 := Scalar.muli v24 c1_i32_2848
  let v2467 : BitVec 32 := Scalar.addi c0_i32_2849 v2466
  v2467.toNat
def k0_dev67 (d0 : Dev nD) : Nat :=
  let c0_i32_2888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2887 : BitVec 32 := 1#32
  let v2498 : BitVec 32 := Scalar.muli v13 c1_i32_2887
  let v2499 : BitVec 32 := Scalar.addi c0_i32_2888 v2498
  v2499.toNat
def k0_dev68 (d0 : Dev nD) : Nat :=
  let c0_i32_2927 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2926 : BitVec 32 := 1#32
  let v2530 : BitVec 32 := Scalar.muli v24 c1_i32_2926
  let v2531 : BitVec 32 := Scalar.addi c0_i32_2927 v2530
  v2531.toNat
def k0_dev69 (d0 : Dev nD) : Nat :=
  let c0_i32_2966 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2965 : BitVec 32 := 1#32
  let v2562 : BitVec 32 := Scalar.muli v13 c1_i32_2965
  let v2563 : BitVec 32 := Scalar.addi c0_i32_2966 v2562
  v2563.toNat
def k0_dev70 (d0 : Dev nD) : Nat :=
  let c0_i32_3027 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3026 : BitVec 32 := 1#32
  let v2634 : BitVec 32 := Scalar.muli v24 c1_i32_3026
  let v2635 : BitVec 32 := Scalar.addi c0_i32_3027 v2634
  v2635.toNat
def k0_dev71 (d0 : Dev nD) : Nat :=
  let c0_i32_3066 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3065 : BitVec 32 := 1#32
  let v2666 : BitVec 32 := Scalar.muli v13 c1_i32_3065
  let v2667 : BitVec 32 := Scalar.addi c0_i32_3066 v2666
  v2667.toNat
def k0_dev72 (d0 : Dev nD) : Nat :=
  let c0_i32_3105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3104 : BitVec 32 := 1#32
  let v2698 : BitVec 32 := Scalar.muli v24 c1_i32_3104
  let v2699 : BitVec 32 := Scalar.addi c0_i32_3105 v2698
  v2699.toNat
def k0_dev73 (d0 : Dev nD) : Nat :=
  let c0_i32_3144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3143 : BitVec 32 := 1#32
  let v2730 : BitVec 32 := Scalar.muli v13 c1_i32_3143
  let v2731 : BitVec 32 := Scalar.addi c0_i32_3144 v2730
  v2731.toNat
def k0_dev74 (d0 : Dev nD) : Nat :=
  let c0_i32_3205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3204 : BitVec 32 := 1#32
  let v2802 : BitVec 32 := Scalar.muli v24 c1_i32_3204
  let v2803 : BitVec 32 := Scalar.addi c0_i32_3205 v2802
  v2803.toNat
def k0_dev75 (d0 : Dev nD) : Nat :=
  let c0_i32_3244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3243 : BitVec 32 := 1#32
  let v2834 : BitVec 32 := Scalar.muli v13 c1_i32_3243
  let v2835 : BitVec 32 := Scalar.addi c0_i32_3244 v2834
  v2835.toNat
def k0_dev76 (d0 : Dev nD) : Nat :=
  let c0_i32_3283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3282 : BitVec 32 := 1#32
  let v2866 : BitVec 32 := Scalar.muli v24 c1_i32_3282
  let v2867 : BitVec 32 := Scalar.addi c0_i32_3283 v2866
  v2867.toNat
def k0_dev77 (d0 : Dev nD) : Nat :=
  let c0_i32_3322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3321 : BitVec 32 := 1#32
  let v2898 : BitVec 32 := Scalar.muli v13 c1_i32_3321
  let v2899 : BitVec 32 := Scalar.addi c0_i32_3322 v2898
  v2899.toNat
def k0_dev78 (d0 : Dev nD) : Nat :=
  let c0_i32_3383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3382 : BitVec 32 := 1#32
  let v2970 : BitVec 32 := Scalar.muli v24 c1_i32_3382
  let v2971 : BitVec 32 := Scalar.addi c0_i32_3383 v2970
  v2971.toNat
def k0_dev79 (d0 : Dev nD) : Nat :=
  let c0_i32_3422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3421 : BitVec 32 := 1#32
  let v3002 : BitVec 32 := Scalar.muli v13 c1_i32_3421
  let v3003 : BitVec 32 := Scalar.addi c0_i32_3422 v3002
  v3003.toNat
def k0_dev80 (d0 : Dev nD) : Nat :=
  let c0_i32_3461 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3460 : BitVec 32 := 1#32
  let v3034 : BitVec 32 := Scalar.muli v24 c1_i32_3460
  let v3035 : BitVec 32 := Scalar.addi c0_i32_3461 v3034
  v3035.toNat
def k0_dev81 (d0 : Dev nD) : Nat :=
  let c0_i32_3500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3499 : BitVec 32 := 1#32
  let v3066 : BitVec 32 := Scalar.muli v13 c1_i32_3499
  let v3067 : BitVec 32 := Scalar.addi c0_i32_3500 v3066
  v3067.toNat
def k0_dev82 (d0 : Dev nD) : Nat :=
  let c0_i32_3561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3560 : BitVec 32 := 1#32
  let v3138 : BitVec 32 := Scalar.muli v24 c1_i32_3560
  let v3139 : BitVec 32 := Scalar.addi c0_i32_3561 v3138
  v3139.toNat
def k0_dev83 (d0 : Dev nD) : Nat :=
  let c0_i32_3600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3599 : BitVec 32 := 1#32
  let v3170 : BitVec 32 := Scalar.muli v13 c1_i32_3599
  let v3171 : BitVec 32 := Scalar.addi c0_i32_3600 v3170
  v3171.toNat
def k0_dev84 (d0 : Dev nD) : Nat :=
  let c0_i32_3639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3638 : BitVec 32 := 1#32
  let v3202 : BitVec 32 := Scalar.muli v24 c1_i32_3638
  let v3203 : BitVec 32 := Scalar.addi c0_i32_3639 v3202
  v3203.toNat
def k0_dev85 (d0 : Dev nD) : Nat :=
  let c0_i32_3678 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3677 : BitVec 32 := 1#32
  let v3234 : BitVec 32 := Scalar.muli v13 c1_i32_3677
  let v3235 : BitVec 32 := Scalar.addi c0_i32_3678 v3234
  v3235.toNat
def k0_dev86 (d0 : Dev nD) : Nat :=
  let c0_i32_3739 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3738 : BitVec 32 := 1#32
  let v3306 : BitVec 32 := Scalar.muli v24 c1_i32_3738
  let v3307 : BitVec 32 := Scalar.addi c0_i32_3739 v3306
  v3307.toNat
def k0_dev87 (d0 : Dev nD) : Nat :=
  let c0_i32_3778 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3777 : BitVec 32 := 1#32
  let v3338 : BitVec 32 := Scalar.muli v13 c1_i32_3777
  let v3339 : BitVec 32 := Scalar.addi c0_i32_3778 v3338
  v3339.toNat
def k0_dev88 (d0 : Dev nD) : Nat :=
  let c0_i32_3817 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3816 : BitVec 32 := 1#32
  let v3370 : BitVec 32 := Scalar.muli v24 c1_i32_3816
  let v3371 : BitVec 32 := Scalar.addi c0_i32_3817 v3370
  v3371.toNat
def k0_dev89 (d0 : Dev nD) : Nat :=
  let c0_i32_3856 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3855 : BitVec 32 := 1#32
  let v3402 : BitVec 32 := Scalar.muli v13 c1_i32_3855
  let v3403 : BitVec 32 := Scalar.addi c0_i32_3856 v3402
  v3403.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .local _ .vmem, ⟨0, _⟩ => ⟨S4096x4096, .f32⟩
  | .local _ .vmem, ⟨1, _⟩ => ⟨S4096x2048, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Program.lean ====
/- The kernel's body as a sequence of named steps.

   The printed body is a flat list of some five hundred operations. Here it is written again as a composition of a
   few steps, each given once for a direction `d` (0: to the right, 1: to the left), a column half `u` and a step
   number, and `body_eq` states that the printed body is this composition. Every step takes what follows it as its
   last argument. -/
module

public import proofs.«01_k».proof.Proof.Gen.KernelIdeal.Skeleton

@[expose] public section

noncomputable section

namespace Cert.KernelIdeal.Own

open Idealize.ShloMosaic Idealize.SL.Sem Cert.KernelIdeal.Gen

variable {F : FTy → Type} [FloatOps F]

/-! ## Buffers, rectangles and semaphores -/

/-- The block of the left operand, the block of the right operand, and the result. -/
abbrev xM : Memref sig .tc .vmem S4096x512 .f32 := Memref.whole cc0_stg0_0
abbrev wM : Memref sig .tc .vmem S512x2048 .f32 := Memref.whole cc0_stg1_0
abbrev oM : Memref sig .tc .vmem S4096x2048 .f32 := Memref.whole cc0_stg2_0
/-- The landing slots and the sending slots of the reduce-scatter, the quantised result, the sending and the landing
    slots of the running maximum. -/
abbrev cM : Memref sig .tc .vmem S2x2x256x1024 .bf16 := Memref.whole cc0_scratch0
abbrev sM : Memref sig .tc .vmem S2x2x256x1024 .bf16 := Memref.whole cc0_scratch1
abbrev qM : Memref sig .tc .vmem S4096x2048 .fp8e4m3 := Memref.whole cc0_scratch2
abbrev aM : Memref sig .tc .vmem S2x1x128 .f32 := Memref.whole cc0_scratch3
abbrev rM : Memref sig .tc .vmem S2x4x1x128 .f32 := Memref.whole cc0_scratch4

/-- The barrier's semaphore. -/
abbrev barSem : Sem sig := (SemArray.scalar (sig.barrier 0 rfl) : Sems sig S_).sem

theorem inb4 (d u : Fin 2) : ∀ a, (![d.val, u.val, 0, 0] : Fin 4 → Nat) a + S1x1x256x1024.size a ≤ S2x2x256x1024.size a := by
  revert d u; decide

theorem inbA (d : Fin 2) : ∀ a, (![d.val, 0, 0] : Fin 3 → Nat) a + S1x1x128.size a ≤ S2x1x128.size a := by
  revert d; decide

theorem inbR (d : Fin 2) (h : Fin 4) : ∀ a, (![d.val, h.val, 0, 0] : Fin 4 → Nat) a + S1x1x1x128.size a ≤ S2x4x1x128.size a := by
  revert d h; decide

theorem inbR1 (d : Fin 2) (h : Fin 4) : ∀ a, (![d.val, h.val, 0, 0] : Fin 4 → Nat) a + S1x1x1x1.size a ≤ S2x4x1x128.size a := by
  revert d h; decide

theorem inb7 (d : Fin 2) (s : Fin 7) (u : Fin 2) : ∀ a, (![d.val, s.val, u.val] : Fin 3 → Nat) a + S1x1x1.size a ≤ S2x7x2.size a := by
  revert d s u; decide

theorem inb24 (d : Fin 2) (h : Fin 4) : ∀ a, (![d.val, h.val] : Fin 2 → Nat) a + S1x1.size a ≤ S2x4.size a := by
  revert d h; decide

theorem inb22 (d u : Fin 2) : ∀ a, (![d.val, u.val] : Fin 2 → Nat) a + S1x1.size a ≤ S2x2.size a := by
  revert d u; decide

theorem words4 (d u : Fin 2) :
    (Rect.unit (s := S2x2x256x1024) ![d.val, u.val, 0, 0] S1x1x256x1024.size (inb4 d u)).WholeWords (EltTy.packing .bf16) :=
  match d, u with
  | ⟨0, _⟩, ⟨0, _⟩ => wordsbf16_S2x2x256x1024_S1x1x256x1024_0_0_0_0
  | ⟨1, _⟩, ⟨0, _⟩ => wordsbf16_S2x2x256x1024_S1x1x256x1024_1_0_0_0
  | ⟨0, _⟩, ⟨1, _⟩ => wordsbf16_S2x2x256x1024_S1x1x256x1024_0_1_0_0
  | ⟨1, _⟩, ⟨1, _⟩ => wordsbf16_S2x2x256x1024_S1x1x256x1024_1_1_0_0

theorem packed4 (d u : Fin 2) :
    (Rect.unit (s := S2x2x256x1024) ![d.val, u.val, 0, 0] S1x1x256x1024.size (inb4 d u)).PackedRows (EltTy.packing .bf16) :=
  match d, u with
  | ⟨0, _⟩, ⟨0, _⟩ => packedbf16_S2x2x256x1024_S1x1x256x1024_0_0_0_0
  | ⟨1, _⟩, ⟨0, _⟩ => packedbf16_S2x2x256x1024_S1x1x256x1024_1_0_0_0
  | ⟨0, _⟩, ⟨1, _⟩ => packedbf16_S2x2x256x1024_S1x1x256x1024_0_1_0_0
  | ⟨1, _⟩, ⟨1, _⟩ => packedbf16_S2x2x256x1024_S1x1x256x1024_1_1_0_0

/-- Slot `(d, u)` of the landing and sending buffers as a rectangle, and as the view a copy is given. -/
abbrev slotR (d u : Fin 2) : Rect S2x2x256x1024 :=
  Rect.unit (s := S2x2x256x1024) ![d.val, u.val, 0, 0] S1x1x256x1024.size (inb4 d u)
abbrev slotV (M : Memref sig .tc .vmem S2x2x256x1024 .bf16) (d u : Fin 2) : Memref sig .tc .vmem S256x1024 .bf16 :=
  (M.slice (slotR d u) (fun _ => rfl)).squeeze S256x1024 squeezes_S1x1x256x1024_S256x1024

/-- Slot `d` of the sending buffer of the maximum, slot `(d, h)` of its landing buffer. -/
abbrev aR (d : Fin 2) : Rect S2x1x128 := Rect.unit (s := S2x1x128) ![d.val, 0, 0] S1x1x128.size (inbA d)
abbrev aV (d : Fin 2) : Memref sig .tc .vmem S1x128 .f32 :=
  (aM.slice (aR d) (fun _ => rfl)).squeeze S1x128 squeezes_S1x1x128_S1x128
abbrev rR (d : Fin 2) (h : Fin 4) : Rect S2x4x1x128 :=
  Rect.unit (s := S2x4x1x128) ![d.val, h.val, 0, 0] S1x1x1x128.size (inbR d h)
abbrev rV (d : Fin 2) (h : Fin 4) : Memref sig .tc .vmem S1x128 .f32 :=
  (rM.slice (rR d h) (fun _ => rfl)).squeeze S1x128 squeezes_S1x1x1x128_S1x128
abbrev rR1 (d : Fin 2) (h : Fin 4) : Rect S2x4x1x128 :=
  Rect.unit (s := S2x4x1x128) ![d.val, h.val, 0, 0] S1x1x1x1.size (inbR1 d h)

/-- One semaphore of an array of 2 × 7 × 2, of 2 × 4, of 2 × 2. -/
abbrev sem7 (A : DmaSems sig S2x7x2) (d : Fin 2) (s : Fin 7) (u : Fin 2) : DmaSem sig :=
  ((A.slice (Rect.unit (s := S2x7x2) ![d.val, s.val, u.val] S1x1x1.size (inb7 d s u))).squeeze S_ squeezes_S1x1x1_S_).sem
abbrev sem4 (A : DmaSems sig S2x4) (d : Fin 2) (h : Fin 4) : DmaSem sig :=
  ((A.slice (Rect.unit (s := S2x4) ![d.val, h.val] S1x1.size (inb24 d h))).squeeze S_ squeezes_S1x1_S_).sem
abbrev sem2 (A : Sems sig S2x2) (d u : Fin 2) : Sem sig :=
  ((A.slice (Rect.unit (s := S2x2) ![d.val, u.val] S1x1.size (inb22 d u))).squeeze S_ squeezes_S1x1_S_).sem

/-! ## The offsets the program computes -/

/-- Rows and columns of the piece of the result that stream `(d, u)` sends at step `s` of the reduce-scatter. -/
def offS (d u : Fin 2) (c : Dev nD) (s : Fin 7) : Fin 2 → Nat :=
  match d, u with
  | ⟨0, _⟩, ⟨0, _⟩ => k0_off3 c (BitVec.ofNat 32 s.val)
  | ⟨1, _⟩, ⟨0, _⟩ => k0_off4 c (BitVec.ofNat 32 s.val)
  | ⟨0, _⟩, ⟨1, _⟩ => k0_off5 c (BitVec.ofNat 32 s.val)
  | ⟨1, _⟩, ⟨1, _⟩ => k0_off6 c (BitVec.ofNat 32 s.val)
/-- The same of the piece it receives at step `s`. -/
def offR (d u : Fin 2) (c : Dev nD) (s : Fin 7) : Fin 2 → Nat :=
  match d, u with
  | ⟨0, _⟩, ⟨0, _⟩ => k0_off9 c (BitVec.ofNat 32 s.val)
  | ⟨1, _⟩, ⟨0, _⟩ => k0_off10 c (BitVec.ofNat 32 s.val)
  | ⟨0, _⟩, ⟨1, _⟩ => k0_off11 c (BitVec.ofNat 32 s.val)
  | ⟨1, _⟩, ⟨1, _⟩ => k0_off12 c (BitVec.ofNat 32 s.val)
/-- The same of the piece it sends at step `t` of the all-gather. -/
def offG (d u : Fin 2) (c : Dev nD) (t : Fin 7) : Fin 2 → Nat :=
  match d, u with
  | ⟨0, _⟩, ⟨0, _⟩ => k0_off15 c (BitVec.ofNat 32 t.val)
  | ⟨1, _⟩, ⟨0, _⟩ => k0_off16 c (BitVec.ofNat 32 t.val)
  | ⟨0, _⟩, ⟨1, _⟩ => k0_off17 c (BitVec.ofNat 32 t.val)
  | ⟨1, _⟩, ⟨1, _⟩ => k0_off18 c (BitVec.ofNat 32 t.val)
/-- Rows of the half block a device reduces in direction `d`. -/
def offOwn (d : Fin 2) (c : Dev nD) : Fin 2 → Nat :=
  match d with
  | ⟨0, _⟩ => k0_off13 c 1#32 0#32
  | ⟨1, _⟩ => k0_off14 c 1#32 256#32
/-- Rows of the half block received in direction `d` at step `t` of the all-gather. -/
def offD (d : Fin 2) (c : Dev nD) (t : Fin 7) : Fin 2 → Nat :=
  match d with
  | ⟨0, _⟩ => k0_off14 c (BitVec.ofNat 32 t.val) 0#32
  | ⟨1, _⟩ => k0_off13 c (BitVec.ofNat 32 t.val) 256#32

theorem offS_inb (d u : Fin 2) (c : Dev nD) (s : Fin 7) : ∀ a, offS d u c s a + S256x1024.size a ≤ S4096x2048.size a :=
  match d, u with
  | ⟨0, _⟩, ⟨0, _⟩ => k0_off3_inb c s
  | ⟨1, _⟩, ⟨0, _⟩ => k0_off4_inb c s
  | ⟨0, _⟩, ⟨1, _⟩ => k0_off5_inb c s
  | ⟨1, _⟩, ⟨1, _⟩ => k0_off6_inb c s
theorem offR_inb (d u : Fin 2) (c : Dev nD) (s : Fin 7) : ∀ a, offR d u c s a + S256x1024.size a ≤ S4096x2048.size a :=
  match d, u with
  | ⟨0, _⟩, ⟨0, _⟩ => k0_off9_inb c s
  | ⟨1, _⟩, ⟨0, _⟩ => k0_off10_inb c s
  | ⟨0, _⟩, ⟨1, _⟩ => k0_off11_inb c s
  | ⟨1, _⟩, ⟨1, _⟩ => k0_off12_inb c s
theorem offG_inb (d u : Fin 2) (c : Dev nD) (t : Fin 7) : ∀ a, offG d u c t a + S256x1024.size a ≤ S4096x2048.size a :=
  match d, u with
  | ⟨0, _⟩, ⟨0, _⟩ => k0_off15_inb c t
  | ⟨1, _⟩, ⟨0, _⟩ => k0_off16_inb c t
  | ⟨0, _⟩, ⟨1, _⟩ => k0_off17_inb c t
  | ⟨1, _⟩, ⟨1, _⟩ => k0_off18_inb c t
theorem offG_words (d u : Fin 2) (c : Dev nD) (t : Fin 7) :
    (Rect.unit (s := S4096x2048) (offG d u c t) S256x1024.size (offG_inb d u c t)).WholeWords (EltTy.packing .fp8e4m3) :=
  match d, u with
  | ⟨0, _⟩, ⟨0, _⟩ => k0_off15_wordsfp8e4m3 c t
  | ⟨1, _⟩, ⟨0, _⟩ => k0_off16_wordsfp8e4m3 c t
  | ⟨0, _⟩, ⟨1, _⟩ => k0_off17_wordsfp8e4m3 c t
  | ⟨1, _⟩, ⟨1, _⟩ => k0_off18_wordsfp8e4m3 c t
theorem offOwn_inb (d : Fin 2) (c : Dev nD) : ∀ a, offOwn d c a + S256x2048.size a ≤ S4096x2048.size a :=
  match d with
  | ⟨0, _⟩ => k0_off13_inb c 0
  | ⟨1, _⟩ => k0_off14_inb c 0
theorem offOwn_packed (d : Fin 2) (c : Dev nD) :
    (Rect.unit (s := S4096x2048) (offOwn d c) S256x2048.size (offOwn_inb d c)).PackedRows (EltTy.packing .fp8e4m3) :=
  match d with
  | ⟨0, _⟩ => k0_off13_packedfp8e4m3 c 0
  | ⟨1, _⟩ => k0_off14_packedfp8e4m3 c 0
theorem offD_inb (d : Fin 2) (c : Dev nD) (t : Fin 7) : ∀ a, offD d c t a + S256x2048.size a ≤ S4096x2048.size a := by
  revert d c t; decide +kernel

/-- A piece of 256 × 1024, a half block of 256 × 2048. -/
abbrev sndR (d u : Fin 2) (c : Dev nD) (s : Fin 7) : Rect S4096x2048 := Rect.unit (s := S4096x2048) (offS d u c s) S256x1024.size (offS_inb d u c s)
abbrev rcvR (d u : Fin 2) (c : Dev nD) (s : Fin 7) : Rect S4096x2048 := Rect.unit (s := S4096x2048) (offR d u c s) S256x1024.size (offR_inb d u c s)
abbrev gthR (d u : Fin 2) (c : Dev nD) (t : Fin 7) : Rect S4096x2048 := Rect.unit (s := S4096x2048) (offG d u c t) S256x1024.size (offG_inb d u c t)
abbrev ownR (d : Fin 2) (c : Dev nD) : Rect S4096x2048 := Rect.unit (s := S4096x2048) (offOwn d c) S256x2048.size (offOwn_inb d c)
abbrev deqR (d : Fin 2) (c : Dev nD) (t : Fin 7) : Rect S4096x2048 := Rect.unit (s := S4096x2048) (offD d c t) S256x2048.size (offD_inb d c t)
abbrev gthV (d u : Fin 2) (c : Dev nD) (t : Fin 7) : Memref sig .tc .vmem S256x1024 .fp8e4m3 := qM.slice (gthR d u c t) (fun _ => rfl)

/-- The device a stream in direction `d` sends to, and the one it receives from, as the program computes them. -/
def toDev (d : Fin 2) (c : Dev nD) : Dev nD :=
  match d with
  | ⟨0, _⟩ => ⟨k0_dev2 c, k0_dev2_lt c⟩
  | ⟨1, _⟩ => ⟨k0_dev1 c, k0_dev1_lt c⟩
def frDev (d : Fin 2) (c : Dev nD) : Dev nD :=
  match d with
  | ⟨0, _⟩ => ⟨k0_dev1 c, k0_dev1_lt c⟩
  | ⟨1, _⟩ => ⟨k0_dev2 c, k0_dev2_lt c⟩

/-! ## The steps -/

/-- A program of the kernel's signature. -/
abbrev P (F : FTy → Type) := Prog (TpuEff nD τ sig (Elt F) Λ₀ .tc) PUnit

/-- Signal both neighbours and wait for both. -/
def barrier (c : Dev nD) (k : P F) : P F :=
  .op (.semSignal (Dev.tc (frDev 0 c)) barSem (1#32 : BitVec 32).toInt) fun _ =>
  .op (.semSignal (Dev.tc (toDev 0 c)) barSem (1#32 : BitVec 32).toInt) fun _ =>
  .op (.semWait barSem (2#32 : BitVec 32).toInt) fun _ => k

/-- The local product of one block of 512 rows, from the two row offsets. -/
def gemm (offx offo : Fin 2 → Nat) (hx : ∀ a, offx a + S512x512.size a ≤ S4096x512.size a)
    (ho : ∀ a, offo a + S512x2048.size a ≤ S4096x2048.size a) (k : P F) : P F :=
  .op (.load xM (Rect.unit (s := S4096x512) offx S512x512.size hx).toLoadRect (View.loadsAt_vmem h_S512x512)) fun v =>
  .op (.load wM (Rect.unit (s := S512x2048) ![0, 0] S512x2048.size inb_S512x2048_S512x2048_0_0).toLoadRect (View.loadsAt_vmem h_S512x2048)) fun w =>
  .op (.load oM (Rect.unit (s := S4096x2048) offo S512x2048.size ho).toLoadRect (View.loadsAt_vmem h_S512x2048)) fun _ =>
  .op (.store oM (Rect.unit (s := S4096x2048) offo S512x2048.size ho) (k0_pay1 v w) Finset.univ (View.stores_vmem_bits_univ h_S512x2048 rfl) (.inl rfl)) fun _ => k

/-- Stream `(d, u)` rounds the piece it sends at step `s` into its sending slot. -/
def fill (c : Dev nD) (d u : Fin 2) (s : Fin 7) (k : P F) : P F :=
  .op (.load oM (sndR d u c s).toLoadRect (View.loadsAt_vmem h_S256x1024)) fun v =>
  .op (.load sM (slotR d u).toLoadRect (View.loadsAt_vmem h_S1x1x256x1024)) fun _ =>
  .op (.store sM (slotR d u) (k0_pay2 v) Finset.univ
    (View.stores_vmem h_S1x1x256x1024 ((Memref.isWhole_whole _).storeExact_slice rfl _ (packed4 d u)) (fun _ => rfl)) (.inl rfl)) fun _ => k

/-- Stream `(d, u)` starts the copy of step `s`. -/
def startRS (c : Dev nD) (d u : Fin 2) (s : Fin 7) (k : P F) : P F :=
  .op (.enqueueDma (slotV sM d u) (.remote (Dev.tc (toDev d c)) (slotV cM d u) (.dma (sem7 cc0_scratch5 d s u)))
    (.dma (sem7 cc0_scratch6 d s u))
    (((Memref.isWhole_whole _).wordExact_slice rfl _ (words4 d u)).reshape _ _)
    (((Memref.isWhole_whole _).wordExact_slice rfl _ (words4 d u)).reshape _ _) ⟨⟨rfl, Or.inl rfl⟩, trivial⟩) fun _ => k

/-- Stream `(d, u)` waits for its own copy of step `s` and for the neighbour's, and adds what landed. -/
def takeRS (c : Dev nD) (d u : Fin 2) (s : Fin 7) (k : P F) : P F :=
  .op (.waitDma2 (sem7 cc0_scratch5 d s u) (slotV cM d u) (slotV sM d u)
    (((Memref.isWhole_whole _).wordExact_slice rfl _ (words4 d u)).reshape _ _)
    (((Memref.isWhole_whole _).wordExact_slice rfl _ (words4 d u)).reshape _ _)) fun _ =>
  .op (.waitDma2 (sem7 cc0_scratch6 d s u) (slotV sM d u) (slotV cM d u)
    (((Memref.isWhole_whole _).wordExact_slice rfl _ (words4 d u)).reshape _ _)
    (((Memref.isWhole_whole _).wordExact_slice rfl _ (words4 d u)).reshape _ _)) fun _ =>
  .op (.load oM (rcvR d u c s).toLoadRect (View.loadsAt_vmem h_S256x1024)) fun v =>
  .op (.load cM (slotR d u).toLoadRect (View.loadsAt_vmem h_S1x1x256x1024)) fun w =>
  .op (.load oM (rcvR d u c s).toLoadRect (View.loadsAt_vmem h_S256x1024)) fun _ =>
  .op (.store oM (rcvR d u c s) (k0_pay7 v w) Finset.univ (View.stores_vmem_bits_univ h_S256x1024 rfl) (.inl rfl)) fun _ => k

/-- Stream `(d, u)` hands its landing slot back, fills its sending slot for step `s + 1`, waits until the slot it
    sends to has been handed back, and starts the copy. -/
def nextRS (c : Dev nD) (d u : Fin 2) (s : Fin 6) (k : P F) : P F :=
  .op (.semSignal (Dev.tc (frDev d c)) (sem2 cc0_scratch7 d u) (1#32 : BitVec 32).toInt) fun _ =>
  fill c d u s.succ <|
  .op (.semWait (sem2 cc0_scratch7 d u) (1#32 : BitVec 32).toInt) fun _ =>
  startRS c d u s.succ k

/-- Step `s` of the reduce-scatter, all four streams; the last step starts nothing. -/
def rowRS (c : Dev nD) (s : Fin 6) (k : P F) : P F :=
  takeRS c 0 0 s.castSucc <| nextRS c 0 0 s <| takeRS c 1 0 s.castSucc <| nextRS c 1 0 s <|
  takeRS c 0 1 s.castSucc <| nextRS c 0 1 s <| takeRS c 1 1 s.castSucc <| nextRS c 1 1 s <| k
def lastRS (c : Dev nD) (k : P F) : P F :=
  takeRS c 0 0 6 <| takeRS c 1 0 6 <| takeRS c 0 1 6 <| takeRS c 1 1 6 <| k

/-- The largest magnitude of the two half blocks a device reduced. -/
def amaxStart (c : Dev nD) (k : F .f32 → P F) : P F :=
  .op (.load oM (ownR 0 c).toLoadRect (View.loadsAt_vmem h_S256x2048)) fun v =>
  .op (.load oM (ownR 1 c).toLoadRect (View.loadsAt_vmem h_S256x2048)) fun w => k (k0_pay65 v w)

/-- Hop `h` of the maximum in direction `d`: send the running maximum `r`. -/
def startAX (c : Dev nD) (d : Fin 2) (h : Fin 4) (r : F .f32) (k : P F) : P F :=
  .op (.load aM (aR d).toLoadRect (View.loadsAt_vmem h_S1x1x128)) fun _ =>
  .op (.store aM (aR d) (k0_pay67 r) Finset.univ (View.stores_vmem_bits_univ h_S1x1x128 rfl) (.inl rfl)) fun _ =>
  .op (.enqueueDma (aV d) (.remote (Dev.tc (toDev d c)) (rV d h) (.dma (sem4 cc0_scratch8 d h))) (.dma (sem4 cc0_scratch9 d h))
    ((View.wordExact_bits rfl).reshape _ _) ((View.wordExact_bits rfl).reshape _ _) ⟨⟨rfl, Or.inl rfl⟩, trivial⟩) fun _ => k

/-- Hop `h` of the maximum in direction `d`: wait, and take the larger of `r` and what landed. -/
def takeAX (d : Fin 2) (h : Fin 4) (r : F .f32) (k : F .f32 → P F) : P F :=
  .op (.waitDma2 (sem4 cc0_scratch8 d h) (rV d h) (aV d) ((View.wordExact_bits rfl).reshape _ _) ((View.wordExact_bits rfl).reshape _ _)) fun _ =>
  .op (.waitDma2 (sem4 cc0_scratch9 d h) (aV d) (rV d h) ((View.wordExact_bits rfl).reshape _ _) ((View.wordExact_bits rfl).reshape _ _)) fun _ =>
  .op (.load rM (rR1 d h).toLoadRect (View.loadsAt_vmem h_S1x1x1x1)) fun v => k (k0_pay68 r v)

/-- A hop in both directions. -/
def hopAX (c : Dev nD) (h : Fin 4) (r₀ r₁ : F .f32) (k : F .f32 → F .f32 → P F) : P F :=
  startAX c 0 h r₀ <| startAX c 1 h r₁ <| takeAX 0 h r₀ fun r₀' => takeAX 1 h r₁ fun r₁' => k r₀' r₁'

/-- The scale and its inverse, of the largest magnitude. -/
def scaleOf (m : F .f32) : F .f32 := Scalar.divf m (Scalar.ofBits .f32 0x43E00000#32)
def invOf (m : F .f32) : F .f32 := Scalar.divf (Scalar.ofBits .f32 0x43E00000#32) m

/-- A half block quantised, and a quantised half block back at its scale. -/
def quantV (m : F .f32) (v : Vec F S256x2048 .f32) : FVec F S256x2048 .fp8e4m3 :=
  truncf .fp8e4m3 (mulf (shapeCast S256x2048 v shapeCasts_S256x2048_S256x2048) (broadcast S256x2048 (invOf m))) bitsLt_fp8e4m3_f32
def deqV (m : F .f32) (v : Vec F S256x2048 .fp8e4m3) : FVec F S256x2048 .f32 :=
  mulf (extf .f32 v bitsLt_fp8e4m3_f32) (broadcast S256x2048 (scaleOf m))

/-- The half block reduced in direction `d`: quantise it, and write it back at its scale. -/
def quant (c : Dev nD) (d : Fin 2) (m : F .f32) (k : P F) : P F :=
  .op (.load oM (ownR d c).toLoadRect (View.loadsAt_vmem h_S256x2048)) fun v =>
  .op (.load qM (ownR d c).toLoadRect (View.loadsAt_vmem h_S256x2048)) fun _ =>
  .op (.store qM (ownR d c) (shapeCast S256x2048 (quantV m v) shapeCasts_S256x2048_S256x2048) Finset.univ
    (View.stores_vmem h_S256x2048 ((Memref.isWhole_whole _).storeExact_slice rfl _ (offOwn_packed d c)) (fun _ => rfl)) (.inl rfl)) fun _ =>
  .op (.load oM (ownR d c).toLoadRect (View.loadsAt_vmem h_S256x2048)) fun _ =>
  .op (.store oM (ownR d c) (deqV m (quantV m v)) Finset.univ (View.stores_vmem_bits_univ h_S256x2048 rfl) (.inl rfl)) fun _ => k

/-- Stream `(d, u)` starts the copy of step `t` of the all-gather. -/
def startAG (c : Dev nD) (d u : Fin 2) (t : Fin 7) (k : P F) : P F :=
  .op (.enqueueDma (gthV d u c t) (.remote (Dev.tc (toDev d c)) (gthV d u c t) (.dma (sem7 cc0_scratch10 d t u)))
    (.dma (sem7 cc0_scratch11 d t u))
    ((Memref.isWhole_whole _).wordExact_slice rfl _ (offG_words d u c t))
    ((Memref.isWhole_whole _).wordExact_slice rfl _ (offG_words d u c t)) ⟨⟨rfl, Or.inl rfl⟩, trivial⟩) fun _ => k

/-- Stream `(d, u)` waits for its own copy of step `t` and for the neighbour's. -/
def takeAG (c : Dev nD) (d u : Fin 2) (t : Fin 7) (k : P F) : P F :=
  .op (.waitDma2 (sem7 cc0_scratch10 d t u) (gthV d u c t) (gthV d u c t)
    ((Memref.isWhole_whole _).wordExact_slice rfl _ (offG_words d u c t))
    ((Memref.isWhole_whole _).wordExact_slice rfl _ (offG_words d u c t))) fun _ =>
  .op (.waitDma2 (sem7 cc0_scratch11 d t u) (gthV d u c t) (gthV d u c t)
    ((Memref.isWhole_whole _).wordExact_slice rfl _ (offG_words d u c t))
    ((Memref.isWhole_whole _).wordExact_slice rfl _ (offG_words d u c t))) fun _ => k

/-- The half block received in direction `d` at step `t`, written to the result at the scale. -/
def deq (c : Dev nD) (d : Fin 2) (t : Fin 7) (m : F .f32) (k : P F) : P F :=
  .op (.load qM (deqR d c t).toLoadRect (View.loadsAt_vmem h_S256x2048)) fun v =>
  .op (.load oM (deqR d c t).toLoadRect (View.loadsAt_vmem h_S256x2048)) fun _ =>
  .op (.store oM (deqR d c t) (deqV m v) Finset.univ (View.stores_vmem_bits_univ h_S256x2048 rfl) (.inl rfl)) fun _ => k

/-- Step `t` of the all-gather, all four streams; the last step starts nothing. -/
def rowAG (c : Dev nD) (t : Fin 6) (m : F .f32) (k : P F) : P F :=
  takeAG c 0 0 t.castSucc <| startAG c 0 0 t.succ <| takeAG c 1 0 t.castSucc <| startAG c 1 0 t.succ <|
  takeAG c 0 1 t.castSucc <| startAG c 0 1 t.succ <| takeAG c 1 1 t.castSucc <| startAG c 1 1 t.succ <|
  deq c 0 t.castSucc m <| deq c 1 t.castSucc m <| k
def lastAG (c : Dev nD) (m : F .f32) (k : P F) : P F :=
  takeAG c 0 0 6 <| takeAG c 1 0 6 <| takeAG c 0 1 6 <| takeAG c 1 1 6 <|
  deq c 0 6 m <| deq c 1 6 m <| k

/-- The block multiplied at trip `t` of the loop. -/
def gemmAt (c : Dev nD) (t : Fin 7) (k : P F) : P F :=
  gemm (k0_off7 c t) (k0_off8 c t) (k0_off7_inb c t) (k0_off8_inb c t) k

/-! ## The body -/

/-- From the all-gather on. -/
def phaseAG (c : Dev nD) (m : F .f32) (k : P F) : P F :=
  startAG c 0 0 0 <| startAG c 1 0 0 <| startAG c 0 1 0 <| startAG c 1 1 0 <|
  rowAG c 0 m <| rowAG c 1 m <| rowAG c 2 m <| rowAG c 3 m <| rowAG c 4 m <| rowAG c 5 m <| lastAG c m k

/-- From the maximum on. -/
def phaseAX (c : Dev nD) (k : P F) : P F :=
  amaxStart c fun a =>
  hopAX c 0 a a fun r₀ r₁ => hopAX c 1 r₀ r₁ fun r₀ r₁ => hopAX c 2 r₀ r₁ fun r₀ r₁ =>
  startAX c 0 3 r₀ <| takeAX 0 3 r₀ fun r₀ =>
  quant c 0 (Scalar.maximumf r₀ r₁) <| quant c 1 (Scalar.maximumf r₀ r₁) <|
  phaseAG c (Scalar.maximumf r₀ r₁) k

/-- From the reduce-scatter on. -/
def phaseRS (c : Dev nD) (k : P F) : P F :=
  rowRS c 0 <| rowRS c 1 <| rowRS c 2 <| rowRS c 3 <| rowRS c 4 <| rowRS c 5 <| lastRS c <| phaseAX c k

/-- The body on device `c`. -/
def bodyAt (c : Dev nD) : P F :=
  barrier c <|
  gemm (k0_off1 c) (k0_off2 c) (k0_off1_inb c) (k0_off2_inb c) <|
  fill c 0 0 0 <| startRS c 0 0 0 <| fill c 1 0 0 <| startRS c 1 0 0 <|
  fill c 0 1 0 <| startRS c 0 1 0 <| fill c 1 1 0 <| startRS c 1 1 0 <|
  gemmAt c 0 <| gemmAt c 1 <| gemmAt c 2 <| gemmAt c 3 <| gemmAt c 4 <| gemmAt c 5 <| gemmAt c 6 <|
  phaseRS c (.ret ⟨⟩)

/-- The trips of the loop over the other seven blocks. -/
def trip (t : Fin 7) : Fin k0_t1_loop.trips := t

theorem trips_eq : List.finRange k0_t1_loop.trips = [trip 0, trip 1, trip 2, trip 3, trip 4, trip 5, trip 6] := by
  decide +kernel

/-- The loop is its trips in order. -/
theorem loop_eq (body : Fin k0_t1_loop.trips → PUnit → Prog (TpuEff nD τ sig (Elt F) Λ₀ .tc) PUnit) :
    Scf.Loop.for k0_t1_loop k0_t1_ok ⟨⟩ body
      = Scf.forFrom body [trip 0, trip 1, trip 2, trip 3, trip 4, trip 5, trip 6] ⟨⟩ :=
  (Scf.for_eq _ _ _ _ _ _).trans (by rw [trips_eq])

set_option maxRecDepth 65536 in
/-- The part of the printed body that holds the loop, with the loop's seven trips one after the other. -/
theorem part6_eq : k0_part6 (F := F) xM (Memref.isWhole_whole _) wM (Memref.isWhole_whole _) oM (Memref.isWhole_whole _) cM (Memref.isWhole_whole _) sM (Memref.isWhole_whole _) qM (Memref.isWhole_whole _) aM (Memref.isWhole_whole _) rM (Memref.isWhole_whole _) cc0_scratch5 cc0_scratch6 cc0_scratch7 cc0_scratch8 cc0_scratch9 cc0_scratch10 cc0_scratch11
    = fun c _ _ => startRS c 1 1 0 <| gemmAt c 0 <| gemmAt c 1 <| gemmAt c 2 <| gemmAt c 3 <| gemmAt c 4 <| gemmAt c 5 <|
      gemmAt c 6 <| .op (.waitDma2 (sem7 cc0_scratch5 0 0 0) (slotV cM 0 0) (slotV sM 0 0)
        (((Memref.isWhole_whole _).wordExact_slice rfl _ (words4 0 0)).reshape _ _)
        (((Memref.isWhole_whole _).wordExact_slice rfl _ (words4 0 0)).reshape _ _)) fun _ => .ret ⟨⟩ := by
  rw [k0_part6_eq_skeleton]; unfold k0_part6_skel
  funext c v2 v13
  rw [loop_eq]
  rfl

set_option maxRecDepth 65536 in
/-- The printed body is the sequence of steps. -/
theorem body_eq : cc0_body (F := F) xM (Memref.isWhole_whole _) wM (Memref.isWhole_whole _) oM (Memref.isWhole_whole _) cM (Memref.isWhole_whole _) sM (Memref.isWhole_whole _) qM (Memref.isWhole_whole _) aM (Memref.isWhole_whole _) rM (Memref.isWhole_whole _) cc0_scratch5 cc0_scratch6 cc0_scratch7 cc0_scratch8 cc0_scratch9 cc0_scratch10 cc0_scratch11
    = .op .deviceId fun c => bodyAt c := by
  unfold cc0_body k0_part131
  rw [part6_eq]
  rfl

end Cert.KernelIdeal.Own

end
-- ==== Proof.Pieces.lean ====
/- The ring, the pieces of the result, and what each step of the program reads and writes.

   The result has 8 chunks of 512 rows; a chunk has two halves of 256 rows, one per direction `d`, and a half has two
   pieces of 1024 columns, one per `u`. Seen from device `c`, direction `d` meets the chunks in the order
   `j = 0, 1, …, 7` that starts at `c` and goes against the direction of travel; the rectangles the program computes
   are the pieces of this numbering. -/
module

public import proofs.«01_k».proof.Proof.Program
public import Idealize.ShloMosaic.Lib.Pipeline.Value
public import Idealize.ShloMosaic.Lib.ViewIndex

@[expose] public section

noncomputable section

namespace Cert.KernelIdeal.Own

open Idealize.ShloMosaic Idealize.SL.Sem Cert.KernelIdeal.Gen

variable {F : FTy → Type} [FloatOps F]

/-! ## The ring -/

theorem fr_to (d : Fin 2) (c : Dev nD) : frDev d (toDev d c) = c := by revert d c; decide +kernel
theorem to_fr (d : Fin 2) (c : Dev nD) : toDev d (frDev d c) = c := by revert d c; decide +kernel

/-- Going in a direction is one step around the ring, a bijection of the devices. -/
def ring (d : Fin 2) : Dev nD ≃ Dev nD := ⟨toDev d, frDev d, fr_to d, to_fr d⟩

theorem toDev_val (d : Fin 2) (c : Dev nD) : (toDev d c).val = if d = 0 then (c.val + 1) % 8 else (c.val + 7) % 8 := by
  revert d c; decide +kernel
theorem frDev_val (d : Fin 2) (c : Dev nD) : (frDev d c).val = if d = 0 then (c.val + 7) % 8 else (c.val + 1) % 8 := by
  revert d c; decide +kernel

/-- The chunk with number `j` in direction `d`, seen from device `c`. -/
def chunkAt (d : Fin 2) (c : Dev nD) (j : ℕ) : ℕ := if d = 0 then (c.val + 8 - j) % 8 else (c.val + j) % 8

theorem chunkAt_lt (d : Fin 2) (c : Dev nD) (j : ℕ) : chunkAt d c j < 8 := by
  unfold chunkAt; split <;> exact Nat.mod_lt _ (by decide)

/-! ## Indices of the result -/

/-- The chunk, the half, the column half of an index of the result. -/
def qOf (i : S4096x2048.Idx) : ℕ := (i 0).val / 512
def dOf (i : S4096x2048.Idx) : Fin 2 := ⟨(i 0).val % 512 / 256, by omega⟩
def uOf (i : S4096x2048.Idx) : Fin 2 := ⟨(i 1).val / 1024, by have := (i 1).isLt; change (i 1).val < 2048 at this; omega⟩

theorem row_lt (i : S4096x2048.Idx) : (i 0).val < 4096 := (i 0).isLt
theorem col_lt (i : S4096x2048.Idx) : (i 1).val < 2048 := (i 1).isLt

/-- The number of a chunk in direction `d`, seen from device `c`. -/
def jOf (d : Fin 2) (c : Dev nD) (i : S4096x2048.Idx) : ℕ :=
  if d = 0 then (c.val + 8 - qOf i) % 8 else (qOf i + 8 - c.val) % 8

theorem jOf_lt (d : Fin 2) (c : Dev nD) (i : S4096x2048.Idx) : jOf d c i < 8 := by
  unfold jOf; split <;> exact Nat.mod_lt _ (by decide)

theorem jOf_eq_iff (d : Fin 2) (c : Dev nD) (i : S4096x2048.Idx) (j : ℕ) (hj : j < 8) :
    jOf d c i = j ↔ qOf i = chunkAt d c j := by
  have hr := row_lt i
  have hc : c.val < 8 := c.isLt
  unfold jOf chunkAt
  by_cases h : d = 0
  · rw [if_pos h, if_pos h]; unfold qOf; omega
  · rw [if_neg h, if_neg h]; unfold qOf; omega

/-- What is number `j` for the device before in direction `d` is number `j + 1` here. -/
theorem jOf_fr (d : Fin 2) (c : Dev nD) (i : S4096x2048.Idx) (j : ℕ) (hj : j < 7) :
    jOf d (frDev d c) i = j ↔ jOf d c i = j + 1 := by
  have hr := row_lt i
  have hc : c.val < 8 := c.isLt
  have hv := frDev_val d c
  unfold jOf
  by_cases h : d = 0
  · rw [if_pos h] at hv; rw [if_pos h, if_pos h, hv]; unfold qOf; omega
  · rw [if_neg h] at hv; rw [if_neg h, if_neg h, hv]; unfold qOf; omega

/-- The elements of piece `(d, u, j)` seen from device `c`. -/
def pc (c : Dev nD) (d u : Fin 2) (j : ℕ) : Finset S4096x2048.Idx :=
  Finset.univ.filter fun i => dOf i = d ∧ uOf i = u ∧ jOf d c i = j
/-- Both column halves of it. -/
def hf (c : Dev nD) (d : Fin 2) (j : ℕ) : Finset S4096x2048.Idx :=
  Finset.univ.filter fun i => dOf i = d ∧ jOf d c i = j

theorem mem_pc {c : Dev nD} {d u : Fin 2} {j : ℕ} {i : S4096x2048.Idx} : i ∈ pc c d u j ↔ dOf i = d ∧ uOf i = u ∧ jOf d c i = j := by
  simp [pc]
theorem mem_hf {c : Dev nD} {d : Fin 2} {j : ℕ} {i : S4096x2048.Idx} : i ∈ hf c d j ↔ dOf i = d ∧ jOf d c i = j := by
  simp [hf]

theorem pc_disj (c : Dev nD) {d u : Fin 2} {j : ℕ} {d' u' : Fin 2} {j' : ℕ} (h : (d, u, j) ≠ (d', u', j')) :
    Disjoint (pc c d u j) (pc c d' u' j') := by
  refine Finset.disjoint_left.mpr fun i h1 h2 => h ?_
  rw [mem_pc] at h1 h2
  obtain ⟨rfl, rfl, rfl⟩ := h1
  obtain ⟨rfl, rfl, rfl⟩ := h2
  rfl

theorem hf_eq (c : Dev nD) (d : Fin 2) (j : ℕ) : hf c d j = pc c d 0 j ∪ pc c d 1 j := by
  ext i
  rw [Finset.mem_union, mem_pc, mem_pc, mem_hf]
  have : uOf i = 0 ∨ uOf i = 1 := by
    generalize uOf i = u; revert u; decide
  tauto

theorem hf_disj (c : Dev nD) (d : Fin 2) (j : ℕ) : Disjoint (pc c d 0 j) (pc c d 1 j) :=
  pc_disj c (by simp)

/-- The pieces are the whole array. -/
theorem pc_cover (c : Dev nD) :
    (Finset.univ : Finset (Fin 2 × Fin 2 × Fin 8)).biUnion (fun p => pc c p.1 p.2.1 p.2.2.val) = Finset.univ := by
  ext i
  simp only [Finset.mem_biUnion, Finset.mem_univ, true_and, iff_true]
  exact ⟨(dOf i, uOf i, ⟨jOf (dOf i) c i, jOf_lt _ _ _⟩), mem_pc.mpr ⟨rfl, rfl, rfl⟩⟩

/-! ## The rectangles are the pieces -/

theorem offS_eq (d u : Fin 2) (c : Dev nD) (s : Fin 7) :
    offS d u c s = ![512 * chunkAt d c s.val + 256 * d.val, 1024 * u.val] := by
  revert d u c s; decide +kernel
theorem offR_eq (d u : Fin 2) (c : Dev nD) (s : Fin 7) :
    offR d u c s = ![512 * chunkAt d c (s.val + 1) + 256 * d.val, 1024 * u.val] := by
  revert d u c s; decide +kernel

/-- The number of the piece sent at step `t` of the all-gather. -/
def srcJ (t : Fin 7) : ℕ := if t.val = 0 then 7 else t.val - 1

theorem offG_eq (d u : Fin 2) (c : Dev nD) (t : Fin 7) :
    offG d u c t = ![512 * chunkAt d c (srcJ t) + 256 * d.val, 1024 * u.val] := by
  revert d u c t; decide +kernel
theorem offG_eq' (d u : Fin 2) (c : Dev nD) (t : Fin 7) :
    offG d u c t = ![512 * chunkAt d (toDev d c) t.val + 256 * d.val, 1024 * u.val] := by
  revert d u c t; decide +kernel
theorem offOwn_eq (d : Fin 2) (c : Dev nD) : offOwn d c = ![512 * chunkAt d c 7 + 256 * d.val, 0] := by
  revert d c; decide +kernel
theorem offD_eq (d : Fin 2) (c : Dev nD) (t : Fin 7) : offD d c t = ![512 * chunkAt d c t.val + 256 * d.val, 0] := by
  revert d c t; decide +kernel

theorem forall_fin2 {p : Fin 2 → Prop} : (∀ a, p a) ↔ p 0 ∧ p 1 :=
  ⟨fun h => ⟨h 0, h 1⟩, fun h a => match a with | ⟨0, _⟩ => h.1 | ⟨1, _⟩ => h.2⟩

/-- A rectangle of 256 × 1024 at the corner of a piece is the piece. -/
theorem rect_pc (c : Dev nD) (d u : Fin 2) (j : ℕ) (hj : j < 8) (off : Fin 2 → ℕ)
    (ho : off = ![512 * chunkAt d c j + 256 * d.val, 1024 * u.val]) (h : ∀ a, off a + S256x1024.size a ≤ S4096x2048.size a) :
    (Rect.unit (s := S4096x2048) off S256x1024.size h).set = pc c d u j := by
  subst ho
  ext i
  rw [Rect.mem_set_unit, mem_pc, jOf_eq_iff d c i j hj, forall_fin2]
  show (512 * chunkAt d c j + 256 * d.val ≤ (i 0).val ∧ (i 0).val < 512 * chunkAt d c j + 256 * d.val + 256)
    ∧ (1024 * u.val ≤ (i 1).val ∧ (i 1).val < 1024 * u.val + 1024) ↔ _
  have hr := row_lt i
  have hl := col_lt i
  have hd := d.isLt
  have hu := u.isLt
  unfold dOf uOf qOf
  simp only [Fin.ext_iff]
  omega

/-- A rectangle of 256 × 2048 there is the piece's row. -/
theorem rect_hf (c : Dev nD) (d : Fin 2) (j : ℕ) (hj : j < 8) (off : Fin 2 → ℕ)
    (ho : off = ![512 * chunkAt d c j + 256 * d.val, 0]) (h : ∀ a, off a + S256x2048.size a ≤ S4096x2048.size a) :
    (Rect.unit (s := S4096x2048) off S256x2048.size h).set = hf c d j := by
  subst ho
  ext i
  rw [Rect.mem_set_unit, mem_hf, jOf_eq_iff d c i j hj, forall_fin2]
  show (512 * chunkAt d c j + 256 * d.val ≤ (i 0).val ∧ (i 0).val < 512 * chunkAt d c j + 256 * d.val + 256)
    ∧ (0 ≤ (i 1).val ∧ (i 1).val < 0 + 2048) ↔ _
  have hr := row_lt i
  have hl := col_lt i
  have hd := d.isLt
  unfold dOf qOf
  simp only [Fin.ext_iff]
  omega

theorem sndR_set (d u : Fin 2) (c : Dev nD) (s : Fin 7) : (sndR d u c s).set = pc c d u s.val :=
  rect_pc c d u _ (by omega) _ (offS_eq d u c s) _
theorem rcvR_set (d u : Fin 2) (c : Dev nD) (s : Fin 7) : (rcvR d u c s).set = pc c d u (s.val + 1) :=
  rect_pc c d u _ (by omega) _ (offR_eq d u c s) _
theorem srcJ_lt (t : Fin 7) : srcJ t < 8 := by unfold srcJ; split <;> omega
theorem gthR_set (d u : Fin 2) (c : Dev nD) (t : Fin 7) : (gthR d u c t).set = pc c d u (srcJ t) :=
  rect_pc c d u _ (srcJ_lt t) _ (offG_eq d u c t) _
theorem gthR_set' (d u : Fin 2) (c : Dev nD) (t : Fin 7) : (gthR d u c t).set = pc (toDev d c) d u t.val :=
  rect_pc (toDev d c) d u _ (by omega) _ (offG_eq' d u c t) _
theorem ownR_set (d : Fin 2) (c : Dev nD) : (ownR d c).set = hf c d 7 :=
  rect_hf c d _ (by omega) _ (offOwn_eq d c) _
theorem deqR_set (d : Fin 2) (c : Dev nD) (t : Fin 7) : (deqR d c t).set = hf c d t.val :=
  rect_hf c d _ (by omega) _ (offD_eq d c t) _

/-! ## Reading and writing a buffer through a rectangle -/

section Buffer

variable {b : Ref sig .tc} (r : Rect b.ty.shape) (f : b.ty.Contents (Elt F)) (w : r.shape.Idx → Elt F b.ty.elt)

/-- A load of a buffer through a rectangle reads the buffer at the rectangle's indices. -/
theorem read_rect (x : r.shape.Idx) : (Memref.whole b : Memref sig .tc _ _ _).view.readAt (Elt F) r.toLoadRect f x = f (r.emb x) := rfl

/-- A store through a rectangle leaves the stored value at the rectangle's indices, and the rest as it was. -/
theorem write_rect (x : r.shape.Idx) :
    ((Memref.whole b : Memref sig .tc _ _ _).access r).write (Elt F) f w Finset.univ (r.emb x) = w x :=
  View.write_emb_of_mem (v := (View.whole b).slice r) f w (Finset.mem_univ x)
theorem write_off {i : b.ty.shape.Idx} (h : i ∉ r.set) :
    ((Memref.whole b : Memref sig .tc _ _ _).access r).write (Elt F) f w Finset.univ i = f i :=
  View.write_of_not_mem (v := (View.whole b).slice r) f w Finset.univ
    (by rw [View.setOn_univ, View.set_slice_whole]; exact h)

theorem exists_emb {i : b.ty.shape.Idx} (h : i ∈ r.set) : ∃ x, r.emb x = i := by
  rw [← Rect.map_emb_univ] at h
  obtain ⟨x, -, e⟩ := Finset.mem_map.mp h
  exact ⟨x, e⟩

/-- The elements a load or a store through a rectangle touches. -/
theorem load_set : (Memref.whole b : Memref sig .tc _ _ _).view.setOn r.set = r.set := by
  ext i; simp only [View.setOn, Finset.mem_map]; exact ⟨fun ⟨x, hx, e⟩ => e ▸ hx, fun h => ⟨i, h, rfl⟩⟩
theorem store_set : ((Memref.whole b : Memref sig .tc _ _ _).access r).setOn Finset.univ = r.set := by
  rw [View.setOn_univ]; exact View.set_slice_whole b r

end Buffer

/-! ## Slots -/

/-- The index `(0, 0, x, y)` of a slot, for `(x, y)`. -/
def up4 (x : S256x1024.Idx) : S1x1x256x1024.Idx := fun a => match a with
  | ⟨0, _⟩ => (⟨0, Nat.one_pos⟩ : Fin 1)
  | ⟨1, _⟩ => (⟨0, Nat.one_pos⟩ : Fin 1)
  | ⟨2, _⟩ => x 0
  | ⟨3, _⟩ => x 1
def down4 (x : S1x1x256x1024.Idx) : S256x1024.Idx := fun a => match a with
  | ⟨0, _⟩ => x 2
  | ⟨1, _⟩ => x 3

theorem cast_down {α : Type} (v : S1x1x256x1024.Idx → α) (h : S1x1x256x1024.ShapeCasts S256x1024) (x : S256x1024.Idx) :
    shapeCast S256x1024 v h x = v (up4 x) :=
  shapeCast_apply v h x (up4 x) (by
    rw [Shape.rowMajor_val_four, Shape.rowMajor_val_two]
    show ((0 * 1 + 0) * 256 + (x 0).val) * 1024 + (x 1).val = (x 0).val * 1024 + (x 1).val
    omega)
theorem cast_up {α : Type} (v : S256x1024.Idx → α) (h : S256x1024.ShapeCasts S1x1x256x1024) (x : S1x1x256x1024.Idx) :
    shapeCast S1x1x256x1024 v h x = v (down4 x) :=
  shapeCast_apply v h x (down4 x) (by
    have h0 : (x 0).val = 0 := by have := (x 0).isLt; change (x 0).val < 1 at this; omega
    have h1 : (x 1).val = 0 := by have := (x 1).isLt; change (x 1).val < 1 at this; omega
    rw [Shape.rowMajor_val_four, Shape.rowMajor_val_two]
    show (x 2).val * 1024 + (x 3).val = (((x 0).val * 1 + (x 1).val) * 256 + (x 2).val) * 1024 + (x 3).val
    rw [h0, h1]; omega)

/-- The elements of a slot of the landing and of the sending buffer. -/
theorem slotV_set (d u : Fin 2) : (slotV cM d u).view.set = (slotR d u).set := by
  show (((View.whole cc0_scratch0).slice (slotR d u)).reshape _ _).set = _
  rw [View.set_reshape]; exact View.set_slice_whole _ _
theorem slotV_set' (d u : Fin 2) : (slotV sM d u).view.set = (slotR d u).set := by
  show (((View.whole cc0_scratch1).slice (slotR d u)).reshape _ _).set = _
  rw [View.set_reshape]; exact View.set_slice_whole _ _

/-- A copy of a sending slot over a landing slot leaves the sending slot's contents there. -/
theorem copy_slot (d u : Fin 2) (fd : Vec F S2x2x256x1024 .bf16) (fs : Vec F S2x2x256x1024 .bf16)
    (i : S2x2x256x1024.Idx) (hi : i ∈ (slotR d u).set) :
    (slotV cM d u).view.write (Elt F) fd ((slotV sM d u).view.read (Elt F) fs) Finset.univ i = fs i := by
  rw [← slotV_set] at hi
  obtain ⟨x, -, rfl⟩ := Finset.mem_map.mp hi
  exact View.write_emb_of_mem (v := (slotV cM d u).view) fd _ (Finset.mem_univ x)

end Cert.KernelIdeal.Own

end
-- ==== Proof.Values.lean ====
/- What the program computes, as functions of the arguments of all devices, and what each step writes.

   `acc d k c i` is the partial sum at index `i` held by device `c` after `k` steps in direction `d`; `am`, `rAx` and
   `mx` are the largest magnitudes; `Q` is the quantised result and `Out` what the program leaves. Everything holds
   over any float. -/
module

public import proofs.«01_k».proof.Proof.Pieces

@[expose] public section

noncomputable section

namespace Cert.KernelIdeal.Own

open Idealize.ShloMosaic Idealize.SL.Sem Cert.KernelIdeal.Gen

variable {F : FTy → Type} [FloatOps F]

/-- The arguments: every device's block of the left and of the right operand. -/
structure Args (F : FTy → Type) where
  x : Dev nD → Vec F S4096x512 .f32
  w : Dev nD → Vec F S512x2048 .f32

variable (A : Args F)

/-! ## The functions -/

theorem inbX (q : Fin 8) : ∀ a, (![512 * q.val, 0] : Fin 2 → ℕ) a + S512x512.size a ≤ S4096x512.size a := by
  revert q; decide
theorem inbO (q : Fin 8) : ∀ a, (![512 * q.val, 0] : Fin 2 → ℕ) a + S512x2048.size a ≤ S4096x2048.size a := by
  revert q; decide

/-- Chunk `q` of the left operand, and of the result. -/
abbrev xR (q : Fin 8) : Rect S4096x512 := Rect.unit (s := S4096x512) ![512 * q.val, 0] S512x512.size (inbX q)
abbrev oR (q : Fin 8) : Rect S4096x2048 := Rect.unit (s := S4096x2048) ![512 * q.val, 0] S512x2048.size (inbO q)

/-- The chunk of an index, and its index within the chunk. -/
def qF (i : S4096x2048.Idx) : Fin 8 := ⟨qOf i, by have := row_lt i; unfold qOf; omega⟩
def loc (i : S4096x2048.Idx) : S512x2048.Idx := fun a => match a with
  | ⟨0, _⟩ => (⟨(i 0).val % 512, Nat.mod_lt _ (by decide)⟩ : Fin 512)
  | ⟨1, _⟩ => i 1

/-- The product of device `c`'s two blocks. -/
def G (c : Dev nD) (i : S4096x2048.Idx) : F .f32 :=
  k0_pay1 (F := F) (fun y => A.x c ((xR (qF i)).emb y)) (A.w c) (loc i)

/-- A value rounded to the format sent, and back; the addition, the product and the larger of two values. -/
def rnd (x : F .f32) : F .bf16 := FloatOps.truncf .bf16 bitsLt_bf16_f32 x
def wid (x : F .bf16) : F .f32 := FloatOps.extf .f32 bitsLt_bf16_f32 x

/-- The partial sum of direction `d` on device `c` after `k` steps. -/
def acc (d : Fin 2) : ℕ → Dev nD → S4096x2048.Idx → F .f32
  | 0, c, i => G A c i
  | k + 1, c, i => FloatOps.addf (G A c i) (wid (rnd (acc d k (frDev d c) i)))

/-- What the sending slots hold at step `s`. -/
def sB (s : Fin 7) (c : Dev nD) : Vec F S2x2x256x1024 .bf16 := fun i =>
  rnd (acc A (i 0) s.val c ((sndR (i 0) (i 1) c s).emb ((fun a => match a with | ⟨0, _⟩ => i 2 | ⟨1, _⟩ => i 3) : S256x1024.Idx)))

/-- The largest magnitude among what device `c` reduced; the running maximum after `h` hops; the maximum of all. -/
def am (c : Dev nD) : F .f32 :=
  k0_pay65 (F := F) (fun y => acc A 0 7 c ((ownR 0 c).emb y)) (fun y => acc A 1 7 c ((ownR 1 c).emb y))
def rAx (d : Fin 2) : ℕ → Dev nD → F .f32
  | 0, c => am A c
  | h + 1, c => Scalar.maximumf (rAx d h c) (rAx d h (frDev d c))
def mx (c : Dev nD) : F .f32 := Scalar.maximumf (rAx A 0 4 c) (rAx A 1 3 c)

/-- The device that reduces index `i`. -/
def ownOf (i : S4096x2048.Idx) : Dev nD :=
  if dOf i = 0 then ⟨(qOf i + 7) % 8, Nat.mod_lt _ (by decide)⟩ else ⟨(qOf i + 1) % 8, Nat.mod_lt _ (by decide)⟩

/-- A value quantised at a maximum, and a quantised value back at a maximum. -/
def quant1 (m : F .f32) (x : F .f32) : F .fp8e4m3 := FloatOps.truncf .fp8e4m3 bitsLt_fp8e4m3_f32 (FloatOps.mulf x (invOf m))
def deq1 (m : F .f32) (x : F .fp8e4m3) : F .f32 := FloatOps.mulf (FloatOps.extf .f32 bitsLt_fp8e4m3_f32 x) (scaleOf m)

/-- The quantised result, and what device `c` leaves. -/
def Q : Vec F S4096x2048 .fp8e4m3 := fun i => quant1 (mx A (ownOf i)) (acc A (dOf i) 7 (ownOf i) i)
def Out (c : Dev nD) : Vec F S4096x2048 .f32 := fun i => deq1 (mx A c) (Q A i)

theorem ownOf_eq (c : Dev nD) (i : S4096x2048.Idx) (h : jOf (dOf i) c i = 7) : ownOf i = c := by
  have hr := row_lt i
  have hc : c.val < 8 := c.isLt
  unfold ownOf
  apply Fin.ext
  unfold jOf at h
  by_cases hd : dOf i = 0
  · rw [if_pos hd] at h; rw [if_pos hd]; unfold qOf at *; show (_ : ℕ) % 8 = _; omega
  · rw [if_neg hd] at h; rw [if_neg hd]; unfold qOf at *; show (_ : ℕ) % 8 = _; omega

/-! ## The result buffer at each stage -/

/-- After `n` products: the first `n` chunks are written. -/
def GInv (c : Dev nD) (n : ℕ) (f : Vec F S4096x2048 .f32) : Prop := ∀ i, jOf 0 c i < n → f i = G A c i
/-- After `n d u` steps of each stream. -/
def oRS (c : Dev nD) (n : Fin 2 → Fin 2 → ℕ) : Vec F S4096x2048 .f32 := fun i =>
  if jOf (dOf i) c i ≤ n (dOf i) (uOf i) then acc A (dOf i) (jOf (dOf i) c i) c i else G A c i
/-- After the elements of `D` are final. -/
def oD (c : Dev nD) (D : Finset S4096x2048.Idx) : Vec F S4096x2048 .f32 := fun i =>
  if i ∈ D then Out A c i else acc A (dOf i) (jOf (dOf i) c i) c i

/-- One more step of stream `(d, u)`. -/
def bump (n : Fin 2 → Fin 2 → ℕ) (d u : Fin 2) : Fin 2 → Fin 2 → ℕ := fun d' u' => if d' = d ∧ u' = u then n d' u' + 1 else n d' u'
/-- All streams after `s` steps. -/
def row (s : ℕ) : Fin 2 → Fin 2 → ℕ := fun _ _ => s

theorem bump_row (s : ℕ) : bump (bump (bump (bump (row s) 0 0) 1 0) 0 1) 1 1 = row (s + 1) := by
  funext d u
  match d, u with
  | ⟨0, _⟩, ⟨0, _⟩ => rfl
  | ⟨1, _⟩, ⟨0, _⟩ => rfl
  | ⟨0, _⟩, ⟨1, _⟩ => rfl
  | ⟨1, _⟩, ⟨1, _⟩ => rfl

theorem GInv_all (c : Dev nD) {f : Vec F S4096x2048 .f32} (h : GInv A c 8 f) : f = oRS A c (row 0) := by
  funext i
  rw [h i (jOf_lt _ _ _)]
  unfold oRS
  split
  · next hj => rw [Nat.le_zero.mp hj]; rfl
  · rfl

theorem oRS_all (c : Dev nD) : oRS A c (row 7) = oD A c ∅ := by
  funext i
  unfold oRS oD row
  rw [if_pos (Nat.lt_succ_iff.mp (jOf_lt _ _ _)), if_neg (Finset.notMem_empty i)]

/-! ## The products -/

theorem emb_val {s : Shape} (off size : Fin s.rank → ℕ) (h : ∀ a, off a + size a ≤ s.size a)
    (y : (Rect.unit (s := s) off size h).shape.Idx) (a : Fin s.rank) : ((Rect.unit (s := s) off size h).emb y a).val = off a + (y a).val := by
  show off a + 1 * (y a).val = off a + (y a).val
  omega

theorem emb_mem {s : Shape} (r : Rect s) (x : r.shape.Idx) : r.emb x ∈ r.set := by
  rw [← Rect.map_emb_univ]; exact Finset.mem_map_of_mem _ (Finset.mem_univ x)

theorem oR_qOf (q : Fin 8) (y : S512x2048.Idx) : qF ((oR q).emb y) = q ∧ loc ((oR q).emb y) = y := by
  have h0 : ((oR q).emb y 0).val = 512 * q.val + (y 0).val := emb_val (s := S4096x2048) ![512 * q.val, 0] S512x2048.size (inbO q) y 0
  have h1 : ((oR q).emb y 1).val = 0 + (y 1).val := emb_val (s := S4096x2048) ![512 * q.val, 0] S512x2048.size (inbO q) y 1
  have hy : (y 0).val < 512 := (y 0).isLt
  refine ⟨Fin.ext ?_, funext fun a => Fin.ext ?_⟩
  · show ((oR q).emb y 0).val / 512 = q.val; omega
  · match a with
    | ⟨0, _⟩ => show ((oR q).emb y 0).val % 512 = (y 0).val; omega
    | ⟨1, _⟩ => show ((oR q).emb y 1).val = (y 1).val; omega

theorem mem_oR (q : Fin 8) (i : S4096x2048.Idx) : i ∈ (oR q).set ↔ qF i = q := by
  rw [Rect.mem_set_unit, forall_fin2]
  show (512 * q.val ≤ (i 0).val ∧ (i 0).val < 512 * q.val + 512) ∧ (0 ≤ (i 1).val ∧ (i 1).val < 0 + 2048) ↔ _
  have hr := row_lt i
  have hl := col_lt i
  rw [Fin.ext_iff]
  show _ ↔ (i 0).val / 512 = q.val
  omega

theorem w_zero : (![0, 0] : Fin 2 → ℕ) = fun _ => 0 := by funext a; match a with | ⟨0, _⟩ => rfl | ⟨1, _⟩ => rfl

/-- The product of the chunk with number `t` in direction 0. -/
theorem gemm_inv (c : Dev nD) (t : ℕ) (ht : t < 8) (offx offo : Fin 2 → ℕ) (hx : ∀ a, offx a + S512x512.size a ≤ S4096x512.size a)
    (ho : ∀ a, offo a + S512x2048.size a ≤ S4096x2048.size a)
    (ex : offx = ![512 * chunkAt 0 c t, 0]) (eo : offo = ![512 * chunkAt 0 c t, 0]) {f : Vec F S4096x2048 .f32} (hf : GInv A c t f) :
    GInv A c (t + 1) ((oM.access (Rect.unit (s := S4096x2048) offo S512x2048.size ho)).write (Elt F) f
      (k0_pay1 (F := F) (xM.view.readAt (Elt F) (Rect.unit (s := S4096x512) offx S512x512.size hx).toLoadRect (A.x c))
        (wM.view.readAt (Elt F) (Rect.unit (s := S512x2048) ![0, 0] S512x2048.size inb_S512x2048_S512x2048_0_0).toLoadRect (A.w c))) Finset.univ) := by
  subst ex; subst eo
  intro i hi
  have hq := chunkAt_lt 0 c t
  set q : Fin 8 := ⟨chunkAt 0 c t, hq⟩ with hqdef
  by_cases hm : i ∈ (oR q).set
  · obtain ⟨y, rfl⟩ := exists_emb (b := cc0_stg2_0) _ hm
    refine (write_rect (b := cc0_stg2_0) (oR q) f _ y).trans ?_
    obtain ⟨e1, e2⟩ := oR_qOf q y
    unfold G
    rw [e1, e2]
    have hw := Memref.readAt_unit_zero (Elt F) cc0_stg1_0 w_zero inb_S512x2048_S512x2048_0_0 (A.w c)
    rw [show wM.view.readAt (Elt F) (Rect.unit (s := S512x2048) ![0, 0] S512x2048.size inb_S512x2048_S512x2048_0_0).toLoadRect (A.w c) = A.w c from hw]
    rfl
  · refine (write_off (b := cc0_stg2_0) (oR q) f _ hm).trans (hf i ?_)
    rw [mem_oR, Fin.ext_iff] at hm
    have : jOf 0 c i ≠ t := fun h => hm ((jOf_eq_iff 0 c i t ht).mp h)
    omega

theorem chunkAt_zero (d : Fin 2) (c : Dev nD) : chunkAt 0 c 0 = chunkAt d c 0 := by revert d c; decide +kernel

/-- The first chunk is device `c`'s own. -/
theorem GInv_first (c : Dev nD) {n : ℕ} {f : Vec F S4096x2048 .f32} (h : GInv A c (n + 1) f) (d u : Fin 2) :
    ∀ i ∈ pc c d u 0, f i = acc A d 0 c i := by
  intro i hi
  rw [mem_pc] at hi
  refine h i ?_
  have h2 := (jOf_eq_iff d c i 0 (by decide)).mp hi.2.2
  have h3 := chunkAt_zero d c
  have h4 := (jOf_eq_iff 0 c i 0 (by decide)).mpr (h2.trans h3.symm)
  omega

/-! ## The reduce-scatter -/

/-- What a stream has summed before its step `s`. -/
theorem oRS_snd (c : Dev nD) (n : Fin 2 → Fin 2 → ℕ) (d u : Fin 2) (s : ℕ) (h : n d u = s) :
    ∀ i ∈ pc c d u s, oRS A c n i = acc A d s c i := by
  intro i hi
  obtain ⟨rfl, rfl, hj⟩ := mem_pc.mp hi
  unfold oRS
  rw [hj, h, if_pos le_rfl]

theorem slot_down (d u : Fin 2) (x : S1x1x256x1024.Idx) : (slotR d u).emb x 0 = d ∧ (slotR d u).emb x 1 = u
    ∧ ((slotR d u).emb x 2).val = (x 2).val ∧ ((slotR d u).emb x 3).val = (x 3).val := by
  have h0 : (x 0).val < 1 := (x 0).isLt
  have h1 : (x 1).val < 1 := (x 1).isLt
  have e0 : ((slotR d u).emb x 0).val = d.val + (x 0).val := emb_val (s := S2x2x256x1024) ![d.val, u.val, 0, 0] S1x1x256x1024.size (inb4 d u) x 0
  have e1 : ((slotR d u).emb x 1).val = u.val + (x 1).val := emb_val (s := S2x2x256x1024) ![d.val, u.val, 0, 0] S1x1x256x1024.size (inb4 d u) x 1
  have e2 : ((slotR d u).emb x 2).val = 0 + (x 2).val := emb_val (s := S2x2x256x1024) ![d.val, u.val, 0, 0] S1x1x256x1024.size (inb4 d u) x 2
  have e3 : ((slotR d u).emb x 3).val = 0 + (x 3).val := emb_val (s := S2x2x256x1024) ![d.val, u.val, 0, 0] S1x1x256x1024.size (inb4 d u) x 3
  exact ⟨Fin.ext (by omega), Fin.ext (by omega), by omega, by omega⟩

theorem sB_slot (s : Fin 7) (c : Dev nD) (d u : Fin 2) (x : S1x1x256x1024.Idx) :
    sB A s c ((slotR d u).emb x) = rnd (acc A d s.val c ((sndR d u c s).emb (down4 x))) := by
  obtain ⟨e0, e1, e2, e3⟩ := slot_down d u x
  unfold sB
  generalize (slotR d u).emb x = i at *
  subst e0; subst e1
  congr 3
  funext a
  match a with
  | ⟨0, _⟩ => exact Fin.ext e2
  | ⟨1, _⟩ => exact Fin.ext e3

/-- Filling a sending slot. -/
theorem fill_write (c : Dev nD) (d u : Fin 2) (s : Fin 7) (f : Vec F S4096x2048 .f32) (fs : Vec F S2x2x256x1024 .bf16)
    (hf : ∀ i ∈ pc c d u s.val, f i = acc A d s.val c i) (i : S2x2x256x1024.Idx) (hi : i ∈ (slotR d u).set) :
    (sM.access (slotR d u)).write (Elt F) fs (k0_pay2 (F := F) (oM.view.readAt (Elt F) (sndR d u c s).toLoadRect f)) Finset.univ i
      = sB A s c i := by
  obtain ⟨x, rfl⟩ := exists_emb (b := cc0_scratch1) _ hi
  rw [write_rect (b := cc0_scratch1), sB_slot]
  unfold k0_pay2
  refine (cast_up _ _ x).trans ?_
  rw [shapeCast_self]
  show rnd (f ((sndR d u c s).emb (down4 x))) = _
  rw [hf _ (by rw [← sndR_set]; exact emb_mem _ _)]

theorem snd_rcv (d u : Fin 2) (c : Dev nD) (s : Fin 7) (y : S256x1024.Idx) :
    (sndR d u (frDev d c) s).emb y = (rcvR d u c s).emb y := by
  have h : offS d u (frDev d c) s = offR d u c s := by revert d u c s; decide +kernel
  funext a
  apply Fin.ext
  exact (emb_val _ _ _ y a).trans ((congrArg (fun o => o a + (y a).val) h).trans (emb_val _ _ _ y a).symm)

/-- Adding what landed. -/
theorem take_write (c : Dev nD) (d u : Fin 2) (s : Fin 7) (n : Fin 2 → Fin 2 → ℕ) (hn : n d u = s.val)
    (g : Vec F S2x2x256x1024 .bf16) (hg : ∀ i ∈ (slotR d u).set, g i = sB A s (frDev d c) i) :
    (oM.access (rcvR d u c s)).write (Elt F) (oRS A c n) (k0_pay7 (F := F) (oM.view.readAt (Elt F) (rcvR d u c s).toLoadRect (oRS A c n))
      (cM.view.readAt (Elt F) (slotR d u).toLoadRect g)) Finset.univ = oRS A c (bump n d u) := by
  funext i
  by_cases hm : i ∈ (rcvR d u c s).set
  · obtain ⟨y, rfl⟩ := exists_emb (b := cc0_stg2_0) _ hm
    rw [write_rect (b := cc0_stg2_0)]
    have hp := hm
    rw [rcvR_set, mem_pc] at hp
    obtain ⟨hd, hu, hj⟩ := hp
    unfold k0_pay7
    show FloatOps.addf _ (FloatOps.extf .f32 bitsLt_bf16_f32 (shapeCast S256x1024 (cM.view.readAt (Elt F) (slotR d u).toLoadRect g) _ y)) = _
    rw [shapeCast_self, cast_down]
    show FloatOps.addf (oRS A c n ((rcvR d u c s).emb y)) (wid (g ((slotR d u).emb (up4 y)))) = _
    rw [hg _ (emb_mem _ _), sB_slot, show down4 (up4 y) = y from by funext a; match a with | ⟨0, _⟩ => rfl | ⟨1, _⟩ => rfl, snd_rcv]
    unfold oRS
    rw [hd, hu, hj, hn, if_neg (by omega), if_pos (by unfold bump; rw [if_pos ⟨rfl, rfl⟩, hn])]
    rfl
  · rw [write_off (b := cc0_stg2_0) _ _ _ hm]
    rw [rcvR_set, mem_pc] at hm
    unfold oRS bump
    by_cases h : dOf i = d ∧ uOf i = u
    · rw [if_pos h, h.1, h.2, hn]
      have : jOf d c i ≠ s.val + 1 := fun e => hm ⟨h.1, h.2, e⟩
      by_cases h' : jOf d c i ≤ s.val
      · rw [if_pos h', if_pos (by omega)]
      · rw [if_neg h', if_neg (by omega)]
    · rw [if_neg h]

/-! ## The maximum -/

/-- The largest magnitude read off the reduced half blocks. -/
theorem amax_read (c : Dev nD) :
    k0_pay65 (F := F) (oM.view.readAt (Elt F) (ownR 0 c).toLoadRect (oD A c ∅)) (oM.view.readAt (Elt F) (ownR 1 c).toLoadRect (oD A c ∅)) = am A c := by
  have h : ∀ d : Fin 2, oM.view.readAt (Elt F) (ownR d c).toLoadRect (oD A c ∅) = fun y => acc A d 7 c ((ownR d c).emb y) := by
    intro d; funext y
    show oD A c ∅ ((ownR d c).emb y) = _
    have hm : (ownR d c).emb y ∈ (ownR d c).set := emb_mem _ _
    rw [ownR_set, mem_hf] at hm
    unfold oD
    rw [if_neg (Finset.notMem_empty _), hm.1, hm.2]
  unfold am
  exact congrArg₂ (k0_pay65 (F := F)) (h 0) (h 1)

/-- The running maximum spread over a sending slot. -/
theorem ax_fill (d : Fin 2) (r : F .f32) (f : Vec F S2x1x128 .f32) (i : S2x1x128.Idx) (hi : i ∈ (aR d).set) :
    (aM.access (aR d)).write (Elt F) f (k0_pay67 (F := F) r) Finset.univ i = r := by
  obtain ⟨x, rfl⟩ := exists_emb (b := cc0_scratch3) _ hi
  rw [write_rect (b := cc0_scratch3)]
  rfl

theorem aV_set (d : Fin 2) : (aV d).view.set = (aR d).set := by
  show (((View.whole cc0_scratch3).slice (aR d)).reshape _ _).set = _
  rw [View.set_reshape]; exact View.set_slice_whole _ _
theorem rV_set (d : Fin 2) (h : Fin 4) : (rV d h).view.set = (rR d h).set := by
  show (((View.whole cc0_scratch4).slice (rR d h)).reshape _ _).set = _
  rw [View.set_reshape]; exact View.set_slice_whole _ _

/-- A copy of one value. -/
theorem ax_copy (d : Fin 2) (h : Fin 4) (r : F .f32) (fs : Vec F S2x1x128 .f32) (hfs : ∀ i ∈ (aR d).set, fs i = r)
    (fd : Vec F S2x4x1x128 .f32) (i : S2x4x1x128.Idx) (hi : i ∈ (rR d h).set) :
    (rV d h).view.write (Elt F) fd ((aV d).view.read (Elt F) fs) Finset.univ i = r := by
  rw [← rV_set] at hi
  obtain ⟨x, -, rfl⟩ := Finset.mem_map.mp hi
  refine (View.write_emb_of_mem (v := (rV d h).view) fd _ (Finset.mem_univ x)).trans ?_
  exact hfs _ (by rw [← aV_set]; exact View.emb_mem_set _ _)

theorem ax_load_set (d : Fin 2) (h : Fin 4) : (rR1 d h).set ⊆ (rR d h).set := by
  intro i hi
  rw [Rect.mem_set_unit] at hi ⊢
  intro a
  refine ⟨(hi a).1, lt_of_lt_of_le (hi a).2 (Nat.add_le_add_left ?_ _)⟩
  revert a; decide

/-- Taking the larger of the running maximum and what landed. -/
theorem ax_take (d : Fin 2) (h : Fin 4) (r r' : F .f32) (g : Vec F S2x4x1x128 .f32) (hg : ∀ i ∈ (rR d h).set, g i = r') :
    k0_pay68 (F := F) r (rM.view.readAt (Elt F) (rR1 d h).toLoadRect g) = Scalar.maximumf r r' := by
  unfold k0_pay68
  exact congrArg (Scalar.maximumf r) (hg _ (ax_load_set d h (emb_mem _ _)))

/-! ## The quantised blocks -/

theorem oD_own (c : Dev nD) (d : Fin 2) (D : Finset S4096x2048.Idx) (hD : Disjoint D (hf c d 7)) (y : S256x2048.Idx) :
    oM.view.readAt (Elt F) (ownR d c).toLoadRect (oD A c D) y = acc A d 7 c ((ownR d c).emb y) := by
  show oD A c D ((ownR d c).emb y) = _
  have hm : (ownR d c).emb y ∈ (ownR d c).set := emb_mem _ _
  rw [ownR_set] at hm
  unfold oD
  rw [if_neg (fun h => Finset.disjoint_left.mp hD h hm), (mem_hf.mp hm).1, (mem_hf.mp hm).2]

theorem quant_at (c : Dev nD) (d : Fin 2) (D : Finset S4096x2048.Idx) (hD : Disjoint D (hf c d 7)) (y : S256x2048.Idx) :
    quantV (mx A c) (oM.view.readAt (Elt F) (ownR d c).toLoadRect (oD A c D)) y = Q A ((ownR d c).emb y) := by
  unfold quantV
  rw [shapeCast_self]
  show quant1 (mx A c) (oM.view.readAt (Elt F) (ownR d c).toLoadRect (oD A c D) y) = _
  rw [oD_own A c d D hD]
  have hm : (ownR d c).emb y ∈ (ownR d c).set := emb_mem _ _
  rw [ownR_set, mem_hf] at hm
  unfold Q
  rw [ownOf_eq c _ (by rw [hm.1]; exact hm.2), hm.1]

/-- Quantising a reduced half block. -/
theorem quant_write (c : Dev nD) (d : Fin 2) (D : Finset S4096x2048.Idx) (hD : Disjoint D (hf c d 7)) (f : Vec F S4096x2048 .fp8e4m3)
    (h : S256x2048.ShapeCasts S256x2048) (i : S4096x2048.Idx) (hi : i ∈ hf c d 7) :
    (qM.access (ownR d c)).write (Elt F) f (shapeCast S256x2048 (quantV (mx A c)
      (oM.view.readAt (Elt F) (ownR d c).toLoadRect (oD A c D))) h) Finset.univ i = Q A i := by
  rw [← ownR_set] at hi
  obtain ⟨y, rfl⟩ := exists_emb (b := cc0_scratch2) _ hi
  rw [write_rect (b := cc0_scratch2), shapeCast_self, quant_at A c d D hD]

theorem oD_write (c : Dev nD) (r : Rect S4096x2048) (D : Finset S4096x2048.Idx) (v : r.shape.Idx → F .f32)
    (hv : ∀ y, v y = Out A c (r.emb y)) : (oM.access r).write (Elt F) (oD A c D) v Finset.univ = oD A c (D ∪ r.set) := by
  funext i
  by_cases hm : i ∈ r.set
  · obtain ⟨y, rfl⟩ := exists_emb (b := cc0_stg2_0) _ hm
    rw [write_rect (b := cc0_stg2_0), hv]
    unfold oD
    rw [if_pos (Finset.mem_union_right _ hm)]
  · rw [write_off (b := cc0_stg2_0) _ _ _ hm]
    unfold oD
    simp only [Finset.mem_union, hm, or_false]

/-- Writing the reduced half block back at its scale. -/
theorem quant_back (c : Dev nD) (d : Fin 2) (D : Finset S4096x2048.Idx) (hD : Disjoint D (hf c d 7)) :
    (oM.access (ownR d c)).write (Elt F) (oD A c D) (deqV (mx A c) (quantV (mx A c)
      (oM.view.readAt (Elt F) (ownR d c).toLoadRect (oD A c D)))) Finset.univ = oD A c (D ∪ hf c d 7) := by
  rw [← ownR_set]
  refine oD_write A c (ownR d c) D _ fun y => ?_
  show deq1 (mx A c) (quantV (mx A c) _ y) = _
  rw [quant_at A c d D hD]
  rfl

/-- Writing a received half block at the scale. -/
theorem deq_write (c : Dev nD) (d : Fin 2) (t : Fin 7) (D : Finset S4096x2048.Idx) (g : Vec F S4096x2048 .fp8e4m3)
    (hg : ∀ i ∈ hf c d t.val, g i = Q A i) :
    (oM.access (deqR d c t)).write (Elt F) (oD A c D) (deqV (mx A c) (qM.view.readAt (Elt F) (deqR d c t).toLoadRect g)) Finset.univ
      = oD A c (D ∪ hf c d t.val) := by
  rw [← deqR_set]
  refine oD_write A c (deqR d c t) D _ fun y => ?_
  show deq1 (mx A c) (g ((deqR d c t).emb y)) = _
  rw [hg _ (by rw [← deqR_set]; exact emb_mem _ _)]
  rfl

/-- A copy of a quantised piece over the same piece of another device. -/
theorem copy_q (c : Dev nD) (d u : Fin 2) (t : Fin 7) (fd : Vec F S4096x2048 .fp8e4m3) (fs : Vec F S4096x2048 .fp8e4m3)
    (hfs : ∀ i ∈ (gthR d u c t).set, fs i = Q A i) (i : S4096x2048.Idx) (hi : i ∈ (gthR d u c t).set) :
    (gthV d u c t).view.write (Elt F) fd ((gthV d u c t).view.read (Elt F) fs) Finset.univ i = Q A i := by
  obtain ⟨y, rfl⟩ := exists_emb (b := cc0_scratch2) _ hi
  exact (View.write_emb_of_mem (v := (gthV d u c t).view) fd _ (Finset.mem_univ y)).trans (hfs _ hi)

end Cert.KernelIdeal.Own

end
-- ==== Proof.Cells.lean ====
/- The protocol of the copies: which cell of which device is paid by whom, with what, and in which order.

   A transfer `Tr` is one remote copy of the program; it has a sending and a receiving semaphore. A cell `Ck` is one
   semaphore of a device: the barrier, the four semaphores by which a landing slot is handed back, and the two of each
   transfer. An item `It` is one payment a device makes to another one; `post` lists the items in the order of the
   program, and what a device still owes at any time is a tail of this list. -/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Pipeline.TalkSched
public import Idealize.ShloMosaic.Lib.Tactic

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-! ## Transfers, cells, items -/

/-- A remote copy: of the reduce-scatter, of the maximum, of the all-gather. -/
inductive Tr
  | rs (d : Fin 2) (s : Fin 7) (u : Fin 2)
  | ax (d : Fin 2) (h : Fin 4)
  | ag (d : Fin 2) (t : Fin 7) (u : Fin 2)
deriving DecidableEq

/-- A semaphore of a device. -/
inductive Ck
  | bar
  | cr (d u : Fin 2)
  | snd (x : Tr)
  | rcv (x : Tr)
deriving DecidableEq

/-- A payment to another device. -/
inductive It
  | bar (d : Fin 2)
  | cr (d u : Fin 2) (s : Fin 6)
  | tr (x : Tr)
deriving DecidableEq

def pairs : List (Fin 2 × Fin 2) := [(0, 0), (1, 0), (0, 1), (1, 1)]

/-- All transfers, all cells. -/
def trList : List Tr :=
  (List.finRange 7).flatMap (fun s => pairs.map fun p => .rs p.1 s p.2)
    ++ (List.finRange 4).flatMap (fun h => [.ax 0 h, .ax 1 h])
    ++ (List.finRange 7).flatMap (fun t => pairs.map fun p => .ag p.1 t p.2)
def ckList : List Ck := .bar :: (pairs.map fun p => .cr p.1 p.2) ++ trList.map .snd ++ trList.map .rcv

theorem mem_pairs (p : Fin 2 × Fin 2) : p ∈ pairs := by revert p; decide
theorem mem_trList (x : Tr) : x ∈ trList := by
  cases x with
  | rs d s u => revert d s u; decide +kernel
  | ax d h => revert d h; decide +kernel
  | ag d t u => revert d t u; decide +kernel
theorem mem_ckList (k : Ck) : k ∈ ckList := by
  unfold ckList
  cases k with
  | bar => simp
  | cr d u => have := mem_pairs (d, u); simp only [List.mem_append, List.mem_cons, List.mem_map]; exact .inl (.inl (.inr ⟨(d, u), this, rfl⟩))
  | snd x => simp [mem_trList x]
  | rcv x => simp [mem_trList x]

instance : Fintype Tr := ⟨trList.toFinset, fun x => List.mem_toFinset.mpr (mem_trList x)⟩
instance : Fintype Ck := ⟨ckList.toFinset, fun k => List.mem_toFinset.mpr (mem_ckList k)⟩

/-- The direction of a transfer, and its two semaphores. -/
def Tr.dir : Tr → Fin 2
  | .rs d _ _ => d
  | .ax d _ => d
  | .ag d _ _ => d
def Tr.sS : Tr → DmaSem sig
  | .rs d s u => sem7 cc0_scratch5 d s u
  | .ax d h => sem4 cc0_scratch8 d h
  | .ag d t u => sem7 cc0_scratch10 d t u
def Tr.sR : Tr → DmaSem sig
  | .rs d s u => sem7 cc0_scratch6 d s u
  | .ax d h => sem4 cc0_scratch9 d h
  | .ag d t u => sem7 cc0_scratch11 d t u

def csem : Ck → SemLoc sig
  | .bar => .reg barSem
  | .cr d u => .reg (sem2 cc0_scratch7 d u)
  | .snd x => .dma x.sS
  | .rcv x => .dma x.sR

def f2 (n : ℕ) : Fin 2 := Fin.ofNat 2 n
def f7 (n : ℕ) : Fin 7 := Fin.ofNat 7 n
def f4 (n : ℕ) : Fin 4 := Fin.ofNat 4 n

/-- The cell a semaphore is. -/
def dec : SemLoc sig → Option Ck
  | .reg i => if i.val < 4 then some (.cr (f2 (i.val / 2)) (f2 (i.val % 2))) else some .bar
  | .dma i =>
    let n := i.val
    if n < 3 then none
    else if n < 31 then some (.snd (.rs (f2 ((n - 3) / 14)) (f7 ((n - 3) % 14 / 2)) (f2 ((n - 3) % 2))))
    else if n < 59 then some (.rcv (.rs (f2 ((n - 31) / 14)) (f7 ((n - 31) % 14 / 2)) (f2 ((n - 31) % 2))))
    else if n < 67 then some (.snd (.ax (f2 ((n - 59) / 4)) (f4 ((n - 59) % 4))))
    else if n < 75 then some (.rcv (.ax (f2 ((n - 67) / 4)) (f4 ((n - 67) % 4))))
    else if n < 103 then some (.snd (.ag (f2 ((n - 75) / 14)) (f7 ((n - 75) % 14 / 2)) (f2 ((n - 75) % 2))))
    else some (.rcv (.ag (f2 ((n - 103) / 14)) (f7 ((n - 103) % 14 / 2)) (f2 ((n - 103) % 2))))

theorem dec_csem (k : Ck) : dec (csem k) = some k := by
  cases k with
  | bar => decide +kernel
  | cr d u => revert d u; decide +kernel
  | snd x => cases x with
    | rs d s u => revert d s u; decide +kernel
    | ax d h => revert d h; decide +kernel
    | ag d t u => revert d t u; decide +kernel
  | rcv x => cases x with
    | rs d s u => revert d s u; decide +kernel
    | ax d h => revert d h; decide +kernel
    | ag d t u => revert d t u; decide +kernel

theorem csem_inj : Function.Injective csem := fun a b h => by
  have := congrArg dec h
  rw [dec_csem, dec_csem] at this
  exact Option.some.inj this

/-- A cell of a device. -/
abbrev cell (c : Dev nD) (k : Ck) : GSem nD τ sig := ((c.tc : Thread nD τ), csem k)

theorem cell_inj : Function.Injective (fun p : Dev nD × Ck => cell p.1 p.2) := by
  rintro ⟨c, k⟩ ⟨c', k'⟩ h
  have h1 : c = c' := congrArg (fun g : GSem nD τ sig => g.1.1) h
  subst h1
  have h2 : csem k = csem k' := congrArg Prod.snd h
  rw [csem_inj h2]

/-- The device an item pays, the cell, the round, the duty. -/
def It.dir : It → Fin 2
  | .bar d => d
  | .cr d _ _ => d
  | .tr x => x.dir
def It.tgt (c : Dev nD) : It → Dev nD
  | .bar d => frDev d c
  | .cr d _ _ => frDev d c
  | .tr x => toDev x.dir c
def It.key : It → Ck
  | .bar _ => .bar
  | .cr d u _ => .cr d u
  | .tr x => .rcv x
def It.ix : It → Fin 8
  | .cr _ _ s => s.castSucc.castSucc
  | _ => 0
def It.duty : It → Fin 2
  | .bar d => d
  | _ => 0

/-- How much a transfer credits its semaphores. -/
def Tr.amt : Tr → ℕ
  | .rs _ _ _ => (slotV cM 0 0).view.dmaCredit
  | .ax _ _ => (aV 0).view.dmaCredit
  | .ag _ _ _ => sig.dmaCredit .tc (Kind.table .tc .vmem) qM.view.buf S256x1024 .fp8e4m3
def It.amt : It → ℕ
  | .tr x => x.amt
  | _ => 1
def Ck.amt : Ck → ℕ
  | .snd x => x.amt
  | .rcv x => x.amt
  | _ => 1

theorem Tr.amt_pos (x : Tr) : 0 < x.amt := by
  cases x with
  | rs d s u => exact View.dmaCredit_pos _ (by decide)
  | ax d h => exact View.dmaCredit_pos _ (by decide)
  | ag d t u => exact sig.dmaCredit_pos _ _ _ _ _ (by decide)
theorem Ck.amt_pos (k : Ck) : 0 < k.amt := by
  cases k with
  | snd x => exact x.amt_pos
  | rcv x => exact x.amt_pos
  | bar => exact Nat.one_pos
  | cr d u => exact Nat.one_pos

theorem amt_rs (d u d' u' : Fin 2) (s : Fin 7) : (slotV cM d u).view.dmaCredit = (Tr.rs d' s u').amt := rfl
theorem amt_rs' (d u d' u' : Fin 2) (s : Fin 7) : (slotV sM d u).view.dmaCredit = (Tr.rs d' s u').amt := rfl
theorem amt_ax (d d' : Fin 2) (h : Fin 4) : (aV d).view.dmaCredit = (Tr.ax d' h).amt := rfl
theorem amt_ax' (d d' : Fin 2) (h h' : Fin 4) : (rV d h).view.dmaCredit = (Tr.ax d' h').amt := rfl
theorem amt_ag (c : Dev nD) (d u d' u' : Fin 2) (t t' : Fin 7) : (gthV d u c t).view.dmaCredit = (Tr.ag d' t' u').amt := rfl

/-! ## The order of the program -/

/-- The items of a row of the reduce-scatter after its start, of a hop of the maximum, of a row of the all-gather. -/
def rsRow (s : Fin 6) : List It :=
  [.cr 0 0 s, .tr (.rs 0 s.succ 0), .cr 1 0 s, .tr (.rs 1 s.succ 0), .cr 0 1 s, .tr (.rs 0 s.succ 1), .cr 1 1 s, .tr (.rs 1 s.succ 1)]
def axRow (h : Fin 4) : List It := [.tr (.ax 0 h), .tr (.ax 1 h)]
def agRow (t : Fin 7) : List It := [.tr (.ag 0 t 0), .tr (.ag 1 t 0), .tr (.ag 0 t 1), .tr (.ag 1 t 1)]

def agL : List It := agRow 0 ++ (agRow 1 ++ (agRow 2 ++ (agRow 3 ++ (agRow 4 ++ (agRow 5 ++ (agRow 6 ++ []))))))
def axL : List It := axRow 0 ++ (axRow 1 ++ (axRow 2 ++ (.tr (.ax 0 3) :: agL)))
def rsL : List It := rsRow 0 ++ (rsRow 1 ++ (rsRow 2 ++ (rsRow 3 ++ (rsRow 4 ++ (rsRow 5 ++ axL)))))
/-- Everything a device pays after the barrier, and all of it. -/
def post : List It := .tr (.rs 0 0 0) :: .tr (.rs 1 0 0) :: .tr (.rs 0 0 1) :: .tr (.rs 1 0 1) :: rsL
def items : List It := .bar 0 :: .bar 1 :: post

theorem items_nodup : items.Nodup := by decide +kernel

/-! ## Levels -/

/-- The level of a cell at a round, and of an item. -/
def Ck.lvl : Ck → ℕ → ℕ
  | .bar, _ => 1
  | .cr d u, r => 10 + 10 * r + 1 + (2 * u.val + d.val)
  | .snd _, _ => 0
  | .rcv (.rs _ s _), _ => 10 + 10 * s.val
  | .rcv (.ax _ h), _ => 100 + h.val
  | .rcv (.ag _ t _), _ => 200 + t.val
def It.lvl (it : It) : ℕ := it.key.lvl it.ix.val

def L (g : GSem nD τ sig) : Finset (Fin 8) := if g.1.2 = .tc then Finset.univ else ∅
def lv (g : GSem nD τ sig) (i : Fin 8) : ℕ := match dec g.2 with
  | some k => k.lvl i.val
  | none => 0

theorem L_of_ne (g : GSem nD τ sig) (h : g.1.2 ≠ .tc) : L g = ∅ := if_neg h
theorem mem_L_tc (c : Dev nD) (sm : SemLoc sig) (i : Fin 8) : i ∈ L ((c.tc : Thread nD τ), sm) := by
  unfold L; rw [if_pos rfl]; exact Finset.mem_univ i
theorem lv_cell (c : Dev nD) (k : Ck) (i : Fin 8) : lv (cell c k) i = k.lvl i.val := by
  unfold lv; rw [show (cell c k).2 = csem k from rfl, dec_csem]

/-! ## The resources -/

abbrev UB : Type := URounds (GSem nD τ sig) (Fin 2)
abbrev UU : Type := UR sig nD τ × UB

local notation "𝕄" => MT nD τ sig (Fin 8) (Elt F) ℕ UU ℕ

abbrev EP : Emb (UR sig nD τ) (MT nD τ sig (Fin 8) (Elt F) ℕ UU ℕ) := embL
abbrev ER : Emb UB (MT nD τ sig (Fin 8) (Elt F) ℕ UU ℕ) := embR

abbrev 𝒱₀ : Variants := Variants.none

/-- What a list of items adds up to. -/
def oweL (c : Dev nD) : List It → CellTallies nD τ sig (Fin 8)
  | [] => 0
  | it :: l => oweL c l + tallyAt (cell (it.tgt c) it.key) it.ix it.amt

theorem oweL_pos (c : Dev nD) (l : List It) {g : GSem nD τ sig} {i : Fin 8} (h : 0 < oweL c l g i) :
    ∃ it ∈ l, g = cell (it.tgt c) it.key ∧ i = it.ix := by
  induction l with
  | nil => exact absurd h (Nat.lt_irrefl 0)
  | cons it l ih =>
    unfold oweL at h
    rw [Pi.add_apply, Finsupp.add_apply, tallyAt_apply] at h
    by_cases e : g = cell (it.tgt c) it.key ∧ i = it.ix
    · exact ⟨it, List.mem_cons_self, e⟩
    · rw [if_neg e] at h
      obtain ⟨it', h1, h2⟩ := ih h
      exact ⟨it', List.mem_cons_of_mem _ h1, h2⟩

omit [FloatOps F] in
/-- A wait at a level below everything owed. -/
theorem mayWait_at (c : Dev nD) (sm : SemLoc sig) (i : Fin 8) (l : List It) (h : ∀ it ∈ l, lv ((c.tc : Thread nD τ), sm) i < it.lvl) :
    (levAts L lv : sProp 𝕄) ⊢ MayWait (c.tc : Thread nD τ) sm i (oweL c l) :=
  MayOwe.of_cut (L := L) (lev := lv) (lv ((c.tc : Thread nD τ), sm) i)
    (fun p hp => by rw [Finset.mem_singleton.mp hp]; exact mem_L_tc _ _ _)
    (fun g u hg => by obtain ⟨it, _, rfl, rfl⟩ := oweL_pos c l hg; exact mem_L_tc _ _ _)
    (fun p hp => by rw [Finset.mem_singleton.mp hp])
    (fun g u hg => by obtain ⟨it, hm, rfl, rfl⟩ := oweL_pos c l hg; rw [lv_cell]; exact h it hm)

omit [FloatOps F] in
theorem mayWait (c : Dev nD) (k : Ck) (i : Fin 8) (l : List It) (h : ∀ it ∈ l, k.lvl i.val < it.lvl) :
    (levAts L lv : sProp 𝕄) ⊢ MayWait (c.tc : Thread nD τ) (csem k) i (oweL c l) :=
  mayWait_at c (csem k) i l fun it hm => by
    have := lv_cell c k i
    unfold cell at this; rw [this]; exact h it hm

/-! ### Pieces of the buffers -/

def cPts (n : Dev nD) (d u : Fin 2) (f : Vec F S2x2x256x1024 .bf16) : sProp 𝕄 :=
  ((n.tc : Thread nD τ).loc cc0_scratch0) ↦[(slotR d u).set]{fullShare} f
def sPts (n : Dev nD) (d u : Fin 2) (f : Vec F S2x2x256x1024 .bf16) : sProp 𝕄 :=
  ((n.tc : Thread nD τ).loc cc0_scratch1) ↦[(slotR d u).set]{fullShare} f
def qPts (q : PosShare TreeShare) (n : Dev nD) (d u : Fin 2) (j : ℕ) (f : Vec F S4096x2048 .fp8e4m3) : sProp 𝕄 :=
  ((n.tc : Thread nD τ).loc cc0_scratch2) ↦[pc n d u j]{q} f
def aPts (n : Dev nD) (d : Fin 2) (f : Vec F S2x1x128 .f32) : sProp 𝕄 :=
  ((n.tc : Thread nD τ).loc cc0_scratch3) ↦[(aR d).set]{fullShare} f
def rPts (n : Dev nD) (d : Fin 2) (h : Fin 4) (f : Vec F S2x4x1x128 .f32) : sProp 𝕄 :=
  ((n.tc : Thread nD τ).loc cc0_scratch4) ↦[(rR d h).set]{fullShare} f

omit [FloatOps F] in
instance cPts_st (n : Dev nD) (d u : Fin 2) (f) : BI.Storable (upEmb : UEmb _ 𝕄) (cPts (F := F) n d u f) := by unfold cPts; infer_instance
omit [FloatOps F] in
instance sPts_st (n : Dev nD) (d u : Fin 2) (f) : BI.Storable (upEmb : UEmb _ 𝕄) (sPts (F := F) n d u f) := by unfold sPts; infer_instance
omit [FloatOps F] in
instance qPts_st (q) (n : Dev nD) (d u : Fin 2) (j : ℕ) (f) : BI.Storable (upEmb : UEmb _ 𝕄) (qPts (F := F) q n d u j f) := by unfold qPts; infer_instance
omit [FloatOps F] in
instance aPts_st (n : Dev nD) (d : Fin 2) (f) : BI.Storable (upEmb : UEmb _ 𝕄) (aPts (F := F) n d f) := by unfold aPts; infer_instance
omit [FloatOps F] in
instance rPts_st (n : Dev nD) (d : Fin 2) (h : Fin 4) (f) : BI.Storable (upEmb : UEmb _ 𝕄) (rPts (F := F) n d h f) := by unfold rPts; infer_instance

/-- Where device `n` lets item `it` land, before anything landed. -/
def lndAt (n : Dev nD) : It → sProp 𝕄
  | .tr (.rs d ⟨0, _⟩ u) => iprop(∃ f, cPts n d u f)
  | .tr (.ax d h) => iprop(∃ f, rPts n d h f)
  | .tr (.ag d t u) => iprop(∃ f, qPts fullShare n d u t.val f)
  | _ => iprop(emp)

omit [FloatOps F] in
instance lndAt_st (n : Dev nD) (it : It) : BI.Storable (upEmb : UEmb _ 𝕄) (lndAt (F := F) n it) := by
  unfold lndAt; split <;> infer_instance

/-- The part of the landing places for direction `d`. -/
def lndD (n : Dev nD) (d : Fin 2) (it : It) : sProp 𝕄 := if it.dir = d then lndAt n it else iprop(emp)

omit [FloatOps F] in
instance lndD_st (n : Dev nD) (d : Fin 2) (it : It) : BI.Storable (upEmb : UEmb _ 𝕄) (lndD (F := F) n d it) := by
  unfold lndD; split <;> infer_instance

omit [FloatOps F] in
instance bigSepL_st {I : Type} (l : List I) (Φ : I → sProp 𝕄) [∀ i, BI.Storable (upEmb : UEmb _ 𝕄) (Φ i)] :
    BI.Storable (upEmb : UEmb _ 𝕄) (bigSepL l Φ) := by
  induction l with
  | nil => exact (inferInstance : BI.Storable (upEmb : UEmb _ 𝕄) (iprop(emp) : sProp 𝕄))
  | cons i l ih => rw [bigSepL_cons']; infer_instance

variable (A : Args F)

/-- What the cell's round is paid with. -/
def payK (c : Dev nD) (k : Ck) (r : ℕ) (d : Fin 2) : sProp 𝕄 := match k with
  | .bar => bigSepL post (lndD (toDev d c) d)
  | .cr d' u => iprop(∃ f, cPts (toDev d' c) d' u f)
  | .snd (.rs d' _ u) => iprop(∃ f, sPts c d' u f)
  | .snd (.ax d' _) => iprop(∃ f, aPts c d' f)
  | .snd (.ag d' t u) => qPts fullShare.left c d' u (srcJ t) (Q A)
  | .rcv (.rs d' s u) => iprop(cPts c d' u (sB A s (frDev d' c)) ∗ reached ER (cell (frDev d' c) (.cr d' u)) s.val)
  | .rcv (.ax d' h) => rPts c d' h (fun _ => rAx A d' h.val (frDev d' c))
  | .rcv (.ag d' t u) => qPts fullShare c d' u t.val (Q A)

instance payK_st (c : Dev nD) (k : Ck) (r : ℕ) (d : Fin 2) : BI.Storable (upEmb : UEmb _ 𝕄) (payK (F := F) A c k r d) := by
  unfold payK; split <;> infer_instance

/-- The duties of a cell's round. -/
def Ck.duties : Ck → ℕ → Finset (Fin 2)
  | .bar, r => if r = 0 then Finset.univ else ∅
  | .cr _ _, r => if r < 6 then {0} else ∅
  | .snd (.ax d h), r => if r = 0 ∧ h.val + d.val < 4 then {0} else ∅
  | .rcv (.ax d h), r => if r = 0 ∧ h.val + d.val < 4 then {0} else ∅
  | .snd _, r => if r = 0 then {0} else ∅
  | .rcv _, r => if r = 0 then {0} else ∅

def Rd : Rounds.Schedule (GSem nD τ sig) (Fin 2) 𝕄 where
  duties g r := match dec g.2 with
    | some k => if g.1.2 = .tc then k.duties r else ∅
    | none => ∅
  unitless _ := False
  amount g _ _ := match dec g.2 with
    | some k => k.amt
    | none => 1
  payload g r d := match dec g.2 with
    | some k => payK A g.1.1 k r d
    | none => iprop(emp)
  amount_pos g _ _ _ := by
    cases dec g.2 with
    | some k => exact k.amt_pos
    | none => exact Nat.one_pos

instance Rd_st (g : GSem nD τ sig) (r : ℕ) (d : Fin 2) : BI.Storable (upEmb : UEmb _ 𝕄) ((Rd (F := F) A).payload g r d) := by
  show BI.Storable upEmb (match dec g.2 with | some k => payK A g.1.1 k r d | none => iprop(emp))
  split <;> infer_instance

theorem duties_eq (c : Dev nD) (k : Ck) (r : ℕ) : (Rd (F := F) A).duties (cell c k) r = k.duties r := by
  show (match dec (csem k) with | some k => if (Proc.tc : Proc τ) = Proc.tc then k.duties r else ∅ | none => ∅) = _
  rw [dec_csem]; exact if_pos rfl
theorem amount_eq (c : Dev nD) (k : Ck) (r : ℕ) (d : Fin 2) : (Rd (F := F) A).amount (cell c k) r d = k.amt := by
  show (match dec (csem k) with | some k => k.amt | none => 1) = _
  rw [dec_csem]
theorem payload_eq (c : Dev nD) (k : Ck) (r : ℕ) (d : Fin 2) : (Rd (F := F) A).payload (cell c k) r d = payK A c k r d := by
  show (match dec (csem k) with | some k => payK A c k r d | none => iprop(emp)) = _
  rw [dec_csem]
theorem expect_one (c : Dev nD) (k : Ck) (r : ℕ) (h : k.duties r = {0}) : (Rd (F := F) A).expect (cell c k) r = k.amt := by
  unfold Schedule.expect Schedule.amountOf
  rw [duties_eq, h, Finset.sum_singleton, amount_eq]
theorem rest_one (c : Dev nD) (k : Ck) (r : ℕ) (h : k.duties r = {0}) :
    bigSep ((Rd (F := F) A).duties (cell c k) r \ ∅) (fun d => (Rd (F := F) A).payload (cell c k) r d) = payK A c k r 0 := by
  rw [Finset.sdiff_empty, duties_eq, h, bigSep_singleton, payload_eq]
theorem expect_bar (c : Dev nD) : (Rd (F := F) A).expect (cell c .bar) 0 = 2 := by
  unfold Schedule.expect Schedule.amountOf
  rw [duties_eq, Finset.sum_congr rfl fun d _ => amount_eq A c .bar 0 d]; rfl
theorem rest_bar (c : Dev nD) :
    bigSep ((Rd (F := F) A).duties (cell c .bar) 0 \ ∅) (fun d => (Rd (F := F) A).payload (cell c .bar) 0 d)
      = iprop(payK A c .bar 0 0 ∗ payK A c .bar 0 1) := by
  rw [Finset.sdiff_empty, duties_eq]
  show bigSep (if (0 : ℕ) = 0 then Finset.univ else ∅) _ = _
  rw [if_pos rfl, bigSep_univ_eq_bigSepL [0, 1] (by decide) (by decide), bigSepL_cons_cons, bigSepL_singleton, payload_eq, payload_eq]
  rfl

/-- From when on a cell has no duties. -/
def Ck.last : Ck → ℕ
  | .cr _ _ => 6
  | _ => 1
theorem duties_last (c : Dev nD) (k : Ck) (r : ℕ) (h : k.last ≤ r) : (Rd (F := F) A).duties (cell c k) r = ∅ := by
  rw [duties_eq]
  have h1 (hr : 1 ≤ r) (d : Finset (Fin 2)) : (if r = 0 then d else ∅) = ∅ := if_neg (by omega)
  have h2 (hr : 1 ≤ r) (d h : ℕ) : (if r = 0 ∧ h + d < 4 then ({0} : Finset (Fin 2)) else ∅) = ∅ := if_neg (by omega)
  cases k with
  | bar => exact h1 h _
  | cr d u => exact if_neg (Nat.not_lt.mpr h)
  | snd x => cases x with
    | rs d s u => exact h1 h _
    | ax d k => exact h2 h _ _
    | ag d t u => exact h1 h _
  | rcv x => cases x with
    | rs d s u => exact h1 h _
    | ax d k => exact h2 h _ _
    | ag d t u => exact h1 h _

/-! ### What a device holds -/

/-- The invariants and levels every device shares. -/
def Env (K : Dev nD × Ck → ℕ) : sProp 𝕄 :=
  iprop((bigSep Finset.univ fun p : Dev nD × Ck => cellInv ER (Rd A) (K p) (cell p.1 p.2))
    ∗ (bigSep Finset.univ fun p : Dev nD × Ck => reached ER (cell p.1 p.2) 0) ∗ levAts L lv)

instance Env_persistent (K : Dev nD × Ck → ℕ) : BI.Persistent (Env A K) := by unfold Env; infer_instance

theorem inv_at (K : Dev nD × Ck → ℕ) (p : Dev nD × Ck) :
    (bigSep Finset.univ fun p : Dev nD × Ck => (cellInv ER (Rd A) (K p) (cell p.1 p.2) : sProp 𝕄)) ⊢ cellInv ER (Rd A) (K p) (cell p.1 p.2) :=
  bigSep_elim (Finset.mem_univ p)
omit [FloatOps F] in
theorem reached_at (p : Dev nD × Ck) :
    (bigSep Finset.univ fun p : Dev nD × Ck => (reached ER (cell p.1 p.2) 0 : sProp 𝕄)) ⊢ reached ER (cell p.1 p.2) 0 :=
  bigSep_elim (Finset.mem_univ p)

theorem Env_inv (K : Dev nD × Ck → ℕ) (c : Dev nD) (k : Ck) : Env A K ⊢ cellInv ER (Rd A) (K (c, k)) (cell c k) := by
  unfold Env
  iintro ⟨H, -, -⟩
  iapply (inv_at A K (c, k))
  iexact H
theorem Env_reached (K : Dev nD × Ck → ℕ) (c : Dev nD) (k : Ck) : Env A K ⊢ reached ER (cell c k) 0 := by
  unfold Env
  iintro ⟨-, H, -⟩
  iapply (reached_at (F := F) (c, k))
  iexact H
theorem Env_lev (K : Dev nD × Ck → ℕ) : Env A K ⊢ levAts L lv := by
  unfold Env
  iintro ⟨-, -, H⟩
  iexact H

/-- What the device owes, whatever it waited for. -/
def Ow (c : Dev nD) (l : List It) : sProp 𝕄 := iprop(∃ W, owes (c.tc : Thread nD τ) (oweL c l) W)

/-- What a device keeps for an item until its turn: the right to pay; for a transfer also both ends of its own copy, for
    a slot handed back the credit of the neighbour's. -/
def itR (c : Dev nD) : It → sProp 𝕄
  | .bar d => dutyTok ER (cell (frDev d c) .bar) 0 d
  | .cr d u s => iprop(dutyTok ER (cell (frDev d c) (.cr d u)) s.val 0 ∗ cred (tallyAt (cell c (.cr d u)) s.castSucc.castSucc 1))
  | .tr x => iprop(dutyTok ER (cell (toDev x.dir c) (.rcv x)) 0 0 ∗ dutyTok ER (cell c (.snd x)) 0 0
      ∗ cred (tallyAt (cell c (.rcv x)) 0 x.amt) ∗ atPos ER (cell c (.snd x)) 0 ∅ 0 ∗ atPos ER (cell c (.rcv x)) 0 ∅ 0)

/-- A transfer in flight. -/
def Fly (c : Dev nD) (x : Tr) : sProp 𝕄 :=
  iprop(cred (tallyAt (cell c (.snd x)) 0 x.amt) ∗ cred (tallyAt (cell c (.rcv x)) 0 x.amt)
    ∗ atPos ER (cell c (.snd x)) 0 ∅ 0 ∗ atPos ER (cell c (.rcv x)) 0 ∅ 0)

/-- The semaphores done with. -/
def Dn (c : Dev nD) (D : List Ck) : sProp 𝕄 := bigSepL D fun k => semVal (cell c k) 0

/-- The state of the protocol on device `c`: the items `l` still to be paid, the cells `D` done with. -/
def St (K : Dev nD × Ck → ℕ) (c : Dev nD) (l : List It) (D : List Ck) : sProp 𝕄 :=
  iprop(Env A K ∗ Ow c l ∗ bigSepL l (fun it => iprop(itR c it ∗ lndAt (it.tgt c) it)) ∗ Dn c D)

end Cert.KernelIdeal.Own

end
-- ==== Proof.Rules.lean ====
/- The rules by which a device moves along the protocol: waiting for a cell, starting a transfer, taking one, handing a
   slot back, and passing the barrier. -/
module

public import proofs.«01_k».proof.Proof.Cells

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig (Fin 8) (Elt F) ℕ UU ℕ

/-- What is known of a program of device `c` that ends in `Q`. -/
abbrev WP (c : Dev nD) (p : P F) (Q : PUnit → sProp 𝕄) : sProp 𝕄 :=
  wp frame (wpE (defs₀ (F := F)) 𝒱₀ (c.tc : Thread nD τ) none) Set.univ p Q

variable (A : Args F) (K : Dev nD × Ck → ℕ)

/-- A wait for a round with one duty: the payment comes back. -/
theorem wait_one (c : Dev nD) (k : Ck) (r : ℕ) (i : Fin 8) (l : List It) (hd : k.duties r = {0}) (hl : ∀ it ∈ l, k.lvl i.val < it.lvl)
    {w : TpuEff nD τ sig (Elt F) Λ₀ .tc PUnit} {n : ℕ}
    (hw : ∀ Kt : PUnit → sProp 𝕄, wpE (defs₀ (F := F)) 𝒱₀ (c.tc : Thread nD τ) none Set.univ w Kt
      = waitSpec (c.tc : Thread nD τ) Set.univ (csem k) n Kt) (hn : n = k.amt)
    (kk : PUnit → P F) (Q : PUnit → sProp 𝕄) :
    iprop(Env A K ∗ Ow c l ∗ cred (tallyAt (cell c k) i k.amt) ∗ atPos ER (cell c k) r ∅ 0)
      ⊢ iprop(((Ow c l ∗ atPos ER (cell c k) (r + 1) ∅ 0 ∗ reached ER (cell c k) (r + 1) ∗ payK A c k r 0) -∗ WP c (kk ⟨⟩) Q)
          -∗ WP c (.op w kk) Q) := by
  subst hn
  unfold Ow
  iintro ⟨#HE, ⟨%W, HO⟩, Hc, Hat⟩ Hk
  iapply (Rounds.wp_wait_rest_token 𝒱₀ ER (Rd A) (c.tc : Thread nD τ) none (κ := K (c, k)) hw (Set.mem_univ _) i
      (O := oweL c l) (W := W) (R := r) (m := 0) (T := ∅) (by rw [Nat.zero_add]; exact (expect_one A c k r hd).symm)) $$ [HO Hc Hat]
  · isplitr; · iapply (Env_inv A K c k); iexact HE
    isplitl [Hc]; · iexact Hc
    isplitl [HO]; · iexact HO
    isplitr
    · iapply (mayWait (F := F) c k i l hl)
      iapply (Env_lev A K); iexact HE
    iexact Hat
  iintro ⟨HO, Hat, Hr, Hpay⟩
  iapply Hk
  isplitl [HO]; · iexists _; iexact HO
  isplitl [Hat]; · iexact Hat
  isplitl [Hr]; · iexact Hr
  iapply (Entails.of_eq (rest_one A c k r hd)); iexact Hpay

/-- A cell past its last round gives its semaphore back. -/
theorem close_cell (c : Dev nD) (k : Ck) (r : ℕ) (h : k.last ≤ r) :
    iprop(Env A K ∗ atPos ER (cell c k) r ∅ 0) ⊢ iprop(|={Set.univ}=> semVal (cell c k) 0) :=
  (sep_mono_left (Env_inv A K c k)).trans
    (Rounds.cell_close ER (Rd A) (Set.mem_univ (K (c, k))) (fun h => h) fun r' hr => duties_last A c k r' (le_trans h hr))

/-- A transfer that is used. -/
def Tr.used (x : Tr) : Prop := (Ck.snd x).duties 0 = {0} ∧ (Ck.rcv x).duties 0 = {0}

theorem used_rs (d : Fin 2) (s : Fin 7) (u : Fin 2) : (Tr.rs d s u).used := ⟨rfl, rfl⟩
theorem used_ag (d : Fin 2) (t : Fin 7) (u : Fin 2) : (Tr.ag d t u).used := ⟨rfl, rfl⟩
theorem used_ax (d : Fin 2) (h : Fin 4) (e : h.val + d.val < 4) : (Tr.ax d h).used := ⟨if_pos ⟨rfl, e⟩, if_pos ⟨rfl, e⟩⟩

theorem mem_duty (c : Dev nD) (k : Ck) (r : ℕ) (h : k.duties r = {0}) : 0 ∈ (Rd (F := F) A).duties (cell c k) r := by
  rw [duties_eq, h]; exact Finset.mem_singleton_self _

/-- Starting a transfer: the source and the landing place go, and what the receiver is paid with is made of them. -/
theorem wp_start (c : Dev nD) (x : Tr) (l : List It) (hx : x.used) {sp sp' : Space} {s : Shape} {e : EltTy}
    {src : Memref sig .tc sp s e} {dst : Memref sig .tc sp' s e}
    {hsc : (dst : Memref sig (Dev.tc (toDev x.dir c) : Thread nD τ).2.kind sp' s e).view.ref.isScScratch = false}
    {hsrc : src.view.WordExact} {hdst : dst.view.WordExact}
    {hsem : DmaTarget.Typed sp (.dma x.sR) (.remote (Dev.tc (toDev x.dir c) : Thread nD τ) dst (.dma x.sS) hsc)}
    (hN : dst.view.dmaCredit = x.amt) {q : PosShare TreeShare}
    {fs : Buf (Elt F) (src.view.loc (c.tc : Thread nD τ))} {fd : Buf (Elt F) (dst.view.loc (Dev.tc (toDev x.dir c) : Thread nD τ))} {R : sProp 𝕄}
    (hpay₁ : (src.view.loc (c.tc : Thread nD τ) ↦[src.view.set]{q} fs) ⊢ payK A c (.snd x) 0 0)
    (hpay₂ : iprop((dst.view.loc (Dev.tc (toDev x.dir c) : Thread nD τ) ↦[dst.view.set]{fullShare}
        (dst.view.write (Elt F) fd (src.view.read (Elt F) fs) Finset.univ)) ∗ R) ⊢ payK A (toDev x.dir c) (.rcv x) 0 0)
    (kk : PUnit → P F) (Q : PUnit → sProp 𝕄) :
    iprop(Env A K ∗ Ow c (.tr x :: l) ∗ itR c (.tr x)
        ∗ (src.view.loc (c.tc : Thread nD τ) ↦[src.view.set]{q} fs)
        ∗ (dst.view.loc (Dev.tc (toDev x.dir c) : Thread nD τ) ↦[dst.view.set]{fullShare} fd) ∗ R)
      ⊢ iprop(((Fly c x ∗ Ow c l) -∗ WP c (kk ⟨⟩) Q)
          -∗ WP c (.op (.enqueueDma src (.remote (Dev.tc (toDev x.dir c) : Thread nD τ) dst (.dma x.sS) hsc) (.dma x.sR) hsrc hdst hsem) kk) Q) := by
  unfold Ow itR
  iintro ⟨#HE, ⟨%W, HO⟩, ⟨Ht2, Ht1, Hc, Ha1, Ha2⟩, Hs, Hd, HR⟩ Hk
  iapply (Rounds.wp_send_pointsTo_with 𝒱₀ ER (Rd A) (c.tc : Thread nD τ) none (κ₁ := K (c, .snd x)) (κ₂ := K (toDev x.dir c, .rcv x))
    (r₁ := 0) (r₂ := 0) (d₁ := 0) (d₂ := 0) (fd := fd) (F := R)
    (sS := .dma x.sS) (sem := .dma x.sR) (mem_duty A c (.snd x) 0 hx.1) (mem_duty A (toDev x.dir c) (.rcv x) 0 hx.2)
    0 0 x.amt hN (amount_eq A c (.snd x) 0 0) (amount_eq A (toDev x.dir c) (.rcv x) 0 0) (oweL c l) rfl (W := W)
    (hpay₁.trans (Entails.of_eq (payload_eq A c (.snd x) 0 0).symm))
    (hpay₂.trans (Entails.of_eq (payload_eq A (toDev x.dir c) (.rcv x) 0 0).symm))) $$ [HO Ht1 Ht2 Hs Hd HR]
  · isplitr; · iapply (Env_inv A K c (.snd x)); iexact HE
    isplitr; · iapply (Env_inv A K (toDev x.dir c) (.rcv x)); iexact HE
    isplitl [Hs]; · iexact Hs
    isplitl [Hd HR]
    · isplitl [Hd] <;> iassumption
    isplitl [HO]; · iexact HO
    isplitl [Ht1]; · iexact Ht1
    isplitr; · iapply (Env_reached A K c (.snd x)); iexact HE
    isplitl [Ht2]; · iexact Ht2
    iapply (Env_reached A K (toDev x.dir c) (.rcv x)); iexact HE
  iintro ⟨Hcs, HO⟩
  iapply Hk
  unfold Fly
  isplitl [Hcs Hc Ha1 Ha2]
  · isplitl [Hcs]; · iexact Hcs
    isplitl [Hc]; · iexact Hc
    isplitl [Ha1] <;> iassumption
  iexists W; iexact HO

/-- Taking a transfer: the waits for both of its semaphores. -/
theorem wp_take (c : Dev nD) (x : Tr) (l : List It) (D : List Ck) (hx : x.used) (hl : ∀ it ∈ l, (Ck.rcv x).lvl 0 < it.lvl)
    {w₁ w₂ : TpuEff nD τ sig (Elt F) Λ₀ .tc PUnit} {n₁ n₂ : ℕ}
    (hw₁ : ∀ Kt : PUnit → sProp 𝕄, wpE (defs₀ (F := F)) 𝒱₀ (c.tc : Thread nD τ) none Set.univ w₁ Kt
      = waitSpec (c.tc : Thread nD τ) Set.univ (csem (.snd x)) n₁ Kt) (hn₁ : n₁ = x.amt)
    (hw₂ : ∀ Kt : PUnit → sProp 𝕄, wpE (defs₀ (F := F)) 𝒱₀ (c.tc : Thread nD τ) none Set.univ w₂ Kt
      = waitSpec (c.tc : Thread nD τ) Set.univ (csem (.rcv x)) n₂ Kt) (hn₂ : n₂ = x.amt)
    (k : P F) (Q : PUnit → sProp 𝕄) :
    iprop(St A K c l D ∗ Fly c x)
      ⊢ iprop(((St A K c l (.snd x :: .rcv x :: D) ∗ payK A c (.snd x) 0 0 ∗ payK A c (.rcv x) 0 0) -∗ WP c k Q)
          -∗ WP c (.op w₁ fun _ => .op w₂ fun _ => k) Q) := by
  unfold St Fly
  iintro ⟨⟨#HE, HO, Hit, HD⟩, Hc1, Hc2, Ha1, Ha2⟩ Hk
  iapply (wait_one A K c (.snd x) 0 0 l hx.1 (fun it hm => lt_of_le_of_lt (Nat.zero_le _) (hl it hm)) hw₁ hn₁) $$ [HO Hc1 Ha1]
  · isplitr; · iexact HE
    isplitl [HO]; · iexact HO
    isplitl [Hc1]; · iexact Hc1
    iexact Ha1
  iintro ⟨HO, Ha1, -, Hp1⟩
  iapply (wait_one A K c (.rcv x) 0 0 l hx.2 hl hw₂ hn₂) $$ [HO Hc2 Ha2]
  · isplitr; · iexact HE
    isplitl [HO]; · iexact HO
    isplitl [Hc2]; · iexact Hc2
    iexact Ha2
  iintro ⟨HO, Ha2, -, Hp2⟩
  imod (close_cell A K c (.snd x) 1 le_rfl) $$ [Ha1] with Hz1
  · isplitr; · iexact HE
    iexact Ha1
  imod (close_cell A K c (.rcv x) 1 le_rfl) $$ [Ha2] with Hz2
  · isplitr; · iexact HE
    iexact Ha2
  iapply Hk
  isplitl [HO Hit HD Hz1 Hz2]
  · isplitr; · iexact HE
    isplitl [HO]; · iexact HO
    isplitl [Hit]; · iexact Hit
    unfold Dn
    rw [bigSepL_cons', bigSepL_cons']
    isplitl [Hz1]; · iexact Hz1
    isplitl [Hz2]; · iexact Hz2
    iexact HD
  isplitl [Hp1]; · iexact Hp1
  iexact Hp2

/-- The position of the semaphore by which slot `(d, u)` of the neighbour is handed back. -/
def CrAt (c : Dev nD) (d u : Fin 2) (n : ℕ) : sProp 𝕄 :=
  iprop(atPos ER (cell c (.cr d u)) n ∅ 0 ∗ reached ER (cell c (.cr d u)) n)

theorem hand_pay (c : Dev nD) (d u : Fin 2) (r : ℕ) (g : Vec F S2x2x256x1024 .bf16) :
    cPts c d u g ⊢ (Rd (F := F) A).payload ((Dev.tc (frDev d c) : Thread nD τ), .reg (sem2 cc0_scratch7 d u)) r 0 := by
  refine .trans ?_ (Entails.of_eq (payload_eq A (frDev d c) (.cr d u) r 0).symm)
  show cPts c d u g ⊢ iprop(∃ f, cPts (toDev d (frDev d c)) d u f)
  rw [to_fr]
  iintro H
  iexists g; iexact H

/-- Handing landing slot `(d, u)` back to the device before. -/
theorem wp_hand (c : Dev nD) (d u : Fin 2) (s : Fin 6) (l : List It) (g : Vec F S2x2x256x1024 .bf16) (kk : PUnit → P F) (Q : PUnit → sProp 𝕄) :
    iprop(Env A K ∗ Ow c (.cr d u s :: l) ∗ dutyTok ER (cell (frDev d c) (.cr d u)) s.val 0
        ∗ reached ER (cell (frDev d c) (.cr d u)) s.val ∗ cPts c d u g)
      ⊢ iprop((Ow c l -∗ WP c (kk ⟨⟩) Q)
          -∗ WP c (.op (.semSignal (Dev.tc (frDev d c)) (sem2 cc0_scratch7 d u) (1#32 : BitVec 32).toInt) kk) Q) := by
  unfold Ow
  iintro ⟨#HE, ⟨%W, HO⟩, Ht, Hr, Hp⟩ Hk
  iapply (Rounds.wp_signal 𝒱₀ ER (Rd A) (c.tc : Thread nD τ) none (dst := (Dev.tc (frDev d c) : Thread nD τ)) (κ := K (frDev d c, .cr d u)) (r := s.val)
      (d := 0) (mem_duty A (frDev d c) (.cr d u) s.val (if_pos s.isLt))
      ((amount_eq A (frDev d c) (.cr d u) s.val 0).trans (show 1 = (1#32 : BitVec 32).toInt.toNat by decide)) s.castSucc.castSucc (oweL c l) rfl) $$ [HO Ht Hr Hp]
  · isplitr; · iapply (Env_inv A K (frDev d c) (.cr d u)); iexact HE
    isplitl [HO]; · iexact HO
    isplitl [Ht]; · iexact Ht
    isplitl [Hp]
    · iapply (hand_pay A c d u s.val g); iexact Hp
    iexact Hr
  iintro HO
  iapply Hk
  iexists W; iexact HO

/-- Waiting until the neighbour's slot is handed back. -/
theorem wp_back (c : Dev nD) (d u : Fin 2) (s : Fin 6) (l : List It)
    (hl : ∀ it ∈ l, (Ck.cr d u).lvl s.val < it.lvl) (kk : PUnit → P F) (Q : PUnit → sProp 𝕄) :
    iprop(Env A K ∗ Ow c l ∗ cred (tallyAt (cell c (.cr d u)) s.castSucc.castSucc 1) ∗ CrAt c d u s.val)
      ⊢ iprop(((Ow c l ∗ CrAt c d u (s.val + 1) ∗ ∃ f, cPts (toDev d c) d u f) -∗ WP c (kk ⟨⟩) Q)
          -∗ WP c (.op (.semWait (sem2 cc0_scratch7 d u) (1#32 : BitVec 32).toInt) kk) Q) := by
  unfold CrAt
  iintro ⟨#HE, HO, Hc, Ha, -⟩ Hk
  iapply (wait_one A K c (.cr d u) s.val s.castSucc.castSucc l (if_pos s.isLt) hl
    (wpE_semWait_eq (defs := defs₀ (F := F)) 𝒱₀ (c.tc : Thread nD τ) none Set.univ) (show (1#32 : BitVec 32).toInt.toNat = 1 by decide)) $$ [HO Hc Ha]
  · isplitr; · iexact HE
    isplitl [HO]; · iexact HO
    isplitl [Hc]; · iexact Hc
    iexact Ha
  iintro ⟨HO, Ha, Hr, Hp⟩
  iapply Hk
  isplitl [HO]; · iexact HO
  isplitl [Ha Hr]
  · isplitl [Ha] <;> iassumption
  unfold payK
  iexact Hp

end Cert.KernelIdeal.Own

end
-- ==== Proof.StepsRS.lean ====
/- The barrier, the products and the reduce-scatter, step by step. -/
module

public import proofs.«01_k».proof.Proof.Rules

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig (Fin 8) (Elt F) ℕ UU ℕ

variable (A : Args F) (K : Dev nD × Ck → ℕ)

/-! ## The barrier -/

omit [FloatOps F] in
theorem lnd_split_one (n : Dev nD) (it : It) : (lndAt n it : sProp 𝕄) ⊢ iprop(lndD n 0 it ∗ lndD n 1 it) := by
  unfold lndD
  have hd : it.dir = 0 ∨ it.dir = 1 := by generalize it.dir = d; revert d; decide
  rcases hd with e | e
  · rw [if_pos e, if_neg (by rw [e]; decide)]
    iintro H
    isplitl [H]; · iexact H
    iempintro
  · rw [if_neg (by rw [e]; decide), if_pos e]
    iintro H
    isplitr; · iempintro
    iexact H

omit [FloatOps F] in
theorem lnd_split (n : Dev nD) (l : List It) :
    (bigSepL l (lndAt n) : sProp 𝕄) ⊢ iprop(bigSepL l (lndD n 0) ∗ bigSepL l (lndD n 1)) := by
  induction l with
  | nil => iintro -; isplitl <;> iempintro
  | cons it l ih =>
    rw [bigSepL_cons', bigSepL_cons', bigSepL_cons']
    iintro ⟨H, Hl⟩
    ihave Hl' := ih $$ Hl
    icases Hl' with ⟨H0, H1⟩
    ihave H' := (lnd_split_one (F := F) n it) $$ H
    icases H' with ⟨Ha, Hb⟩
    isplitl [Ha H0]
    · isplitl [Ha] <;> iassumption
    isplitl [Hb] <;> iassumption

omit [FloatOps F] in
theorem bigSepL_zip (l : List It) (Φ Ψ : It → sProp 𝕄) :
    iprop(bigSepL l Φ ∗ bigSepL l Ψ) ⊢ bigSepL l fun it => iprop(Φ it ∗ Ψ it) := by
  induction l with
  | nil => rw [bigSepL_nil]; iintro -; iempintro
  | cons it l ih =>
    rw [bigSepL_cons', bigSepL_cons', bigSepL_cons']
    iintro ⟨⟨Ha, Hl0⟩, Hb, Hl1⟩
    isplitl [Ha Hb]
    · isplitl [Ha] <;> iassumption
    iapply ih
    isplitl [Hl0] <;> iassumption

omit [FloatOps F] in
theorem lndAt_tgt (c : Dev nD) (it : It) : (lndAt (toDev it.dir c) it : sProp 𝕄) = lndAt (it.tgt c) it := by
  match it with
  | .bar _ => unfold lndAt; rfl
  | .cr _ _ _ => unfold lndAt; rfl
  | .tr x => unfold It.dir It.tgt; rfl

omit [FloatOps F] in
theorem lnd_join_one (c : Dev nD) (it : It) :
    iprop(lndD (toDev 0 c) 0 it ∗ lndD (toDev 1 c) 1 it) ⊢ (lndAt (it.tgt c) it : sProp 𝕄) := by
  rw [← lndAt_tgt]
  unfold lndD
  have hd : it.dir = 0 ∨ it.dir = 1 := by generalize it.dir = d; revert d; decide
  rcases hd with e | e
  · rw [if_pos e, if_neg (by rw [e]; decide), e]
    iintro ⟨H, -⟩
    iexact H
  · rw [if_neg (by rw [e]; decide), if_pos e, e]
    iintro ⟨-, H⟩
    iexact H

omit [FloatOps F] in
theorem lnd_join (c : Dev nD) (l : List It) :
    iprop(bigSepL l (lndD (toDev 0 c) 0) ∗ bigSepL l (lndD (toDev 1 c) 1)) ⊢ (bigSepL l (fun it => lndAt (it.tgt c) it) : sProp 𝕄) := by
  induction l with
  | nil => rw [bigSepL_nil]; iintro -; iempintro
  | cons it l ih =>
    rw [bigSepL_cons', bigSepL_cons', bigSepL_cons']
    iintro ⟨⟨Ha, Hl0⟩, Hb, Hl1⟩
    isplitl [Ha Hb]
    · iapply (lnd_join_one (F := F) c it)
      isplitl [Ha] <;> iassumption
    · iapply ih
      isplitl [Hl0] <;> iassumption

theorem bar_pay (c : Dev nD) (d : Fin 2) :
    bigSepL post (lndD c d) ⊢ (Rd (F := F) A).payload ((Dev.tc (frDev d c) : Thread nD τ), .reg barSem) 0 d := by
  refine .trans ?_ (Entails.of_eq (payload_eq A (frDev d c) .bar 0 d).symm)
  show bigSepL post (lndD c d) ⊢ bigSepL post (lndD (toDev d (frDev d c)) d)
  rw [to_fr]

theorem mem_bar (c : Dev nD) (d : Fin 2) : d ∈ (Rd (F := F) A).duties (cell c .bar) 0 := by
  rw [duties_eq]; exact Finset.mem_univ d

/-- One of the two signals of the barrier: the landing places of a direction go with it. -/
theorem wp_sigbar (c : Dev nD) (d : Fin 2) (l : List It) (kk : PUnit → P F) (Q : PUnit → sProp 𝕄) :
    iprop(Env A K ∗ Ow c (.bar d :: l) ∗ itR c (.bar d) ∗ bigSepL post (lndD c d))
      ⊢ iprop((Ow c l -∗ WP c (kk ⟨⟩) Q)
          -∗ WP c (.op (.semSignal (Dev.tc (frDev d c)) barSem (1#32 : BitVec 32).toInt) kk) Q) := by
  unfold Ow itR
  iintro ⟨#HE, ⟨%W, HO⟩, Ht, Hp⟩ Hk
  iapply (Rounds.wp_signal 𝒱₀ ER (Rd A) (c.tc : Thread nD τ) none (dst := (Dev.tc (frDev d c) : Thread nD τ)) (κ := K (frDev d c, .bar)) (r := 0)
      (d := d) (mem_bar A (frDev d c) d)
      ((amount_eq A (frDev d c) .bar 0 d).trans (show 1 = (1#32 : BitVec 32).toInt.toNat by decide)) 0 (oweL c l) rfl) $$ [HO Ht Hp]
  · isplitr; · iapply (Env_inv A K (frDev d c) .bar); iexact HE
    isplitl [HO]; · iexact HO
    isplitl [Ht]; · iexact Ht
    isplitl [Hp]; · iapply (bar_pay A c d); iexact Hp
    iapply (Env_reached A K (frDev d c) .bar); iexact HE
  iintro HO
  iapply Hk
  iexists W; iexact HO

theorem bar_got (c : Dev nD) :
    bigSep ((Rd (F := F) A).duties ((c.tc : Thread nD τ), .reg barSem) 0 \ ∅) (fun d => (Rd (F := F) A).payload ((c.tc : Thread nD τ), .reg barSem) 0 d)
      ⊢ bigSepL post (fun it => lndAt (it.tgt c) it) :=
  (Entails.of_eq (rest_bar A c)).trans (lnd_join c post)

theorem post_above : ∀ it ∈ post, 1 < it.lvl := by decide +kernel

theorem close_bar (c : Dev nD) :
    iprop(Env A K ∗ atPos ER ((c.tc : Thread nD τ), .reg barSem) (0 + 1) ∅ 0) ⊢ iprop(|={Set.univ}=> semVal (cell c .bar) 0) :=
  close_cell A K c .bar 1 le_rfl

/-- The barrier: afterwards the device holds the landing places of both neighbours. -/
theorem wp_barrier (c : Dev nD) (k : P F) (Q : PUnit → sProp 𝕄) :
    iprop(Env A K ∗ Ow c items ∗ itR c (.bar 0) ∗ itR c (.bar 1) ∗ atPos ER (cell c .bar) 0 ∅ 0 ∗ cred (tallyAt (cell c .bar) 0 2)
        ∗ bigSepL post (itR c) ∗ bigSepL post (lndAt c))
      ⊢ iprop((St A K c post [.bar] -∗ WP c k Q) -∗ WP c (barrier c k) Q) := by
  unfold barrier
  iintro ⟨#HE, HO, Ht0, Ht1, Ha, Hc, Hit, Hl⟩ Hk
  ihave Hl' := (lnd_split (F := F) c post) $$ Hl
  icases Hl' with ⟨Hl0, Hl1⟩
  iapply (wp_sigbar A K c 0 (.bar 1 :: post)) $$ [HO Ht0 Hl0]
  · isplitr; · iexact HE
    isplitl [HO]; · iexact HO
    isplitl [Ht0] <;> iassumption
  iintro HO
  iapply (wp_sigbar A K c 1 post) $$ [HO Ht1 Hl1]
  · isplitr; · iexact HE
    isplitl [HO]; · iexact HO
    isplitl [Ht1] <;> iassumption
  iintro HO
  unfold Ow
  icases HO with ⟨%W, HO⟩
  iapply (Rounds.wp_wait_rest_token 𝒱₀ ER (Rd A) (c.tc : Thread nD τ) none (κ := K (c, .bar))
      (wpE_semWait_eq (defs := defs₀ (F := F)) 𝒱₀ (c.tc : Thread nD τ) none Set.univ) (Set.mem_univ _) 0
      (O := oweL c post) (W := W) (R := 0) (m := 0) (T := ∅)
      (show 0 + (2#32 : BitVec 32).toInt.toNat = _ from (expect_bar A c).symm)) $$ [HO Hc Ha]
  · isplitr; · iapply (Env_inv A K c .bar); iexact HE
    isplitl [Hc]; · iexact Hc
    isplitl [HO]; · iexact HO
    isplitr
    · iapply (mayWait (F := F) c .bar 0 post post_above)
      iapply (Env_lev A K); iexact HE
    iexact Ha
  iintro ⟨HO, Ha, -, Hp⟩
  ihave Hj := (bar_got A c) $$ Hp
  imod (close_bar A K c) $$ [Ha] with Hz
  · isplitr; · iexact HE
    iexact Ha
  iapply Hk
  unfold St Ow Dn
  rw [bigSepL_singleton]
  isplitr; · iexact HE
  isplitl [HO]; · iexists _; iexact HO
  isplitl [Hit Hj]
  · iapply (bigSepL_zip (F := F) post (itR c) fun it => lndAt (it.tgt c) it)
    isplitl [Hit] <;> iassumption
  iexact Hz

end Cert.KernelIdeal.Own

end
-- ==== Proof.Scatter.lean ====
/- The products and the reduce-scatter, step by step. -/
module

public import proofs.«01_k».proof.Proof.StepsRS

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig (Fin 8) (Elt F) ℕ UU ℕ

variable (A : Args F) (K : Dev nD × Ck → ℕ)

/-! ## Loads and stores -/

section Access

variable {s : Shape} {e : EltTy} (m : Memref sig .tc .vmem s e) (c : Dev nD) {S : Finset (Idx (m.view.loc (c.tc : Thread nD τ)))}
  {f : Buf (Elt F) (m.view.loc (c.tc : Thread nD τ))}

/-- A load through a rectangle, of elements held at any share. -/
theorem wp_ld (r : Rect s) {hl : m.view.LoadsAt r.toLoadRect} {q : PosShare TreeShare} (hS : m.view.setOn r.set ⊆ S)
    (k : (r.shape.Idx → Elt F e) → P F) (Q : PUnit → sProp 𝕄) :
    (m.view.loc (c.tc : Thread nD τ) ↦[S]{q} f)
      ⊢ iprop(((m.view.loc (c.tc : Thread nD τ) ↦[S]{q} f) -∗ WP c (k (m.view.readAt (Elt F) r.toLoadRect f)) Q)
          -∗ WP c (.op (.load m r.toLoadRect hl) k) Q) :=
  wp_load 𝒱₀ (c : Thread nD τ) none Set.univ (m := m) hS

end Access

/-- A store through a rectangle, of elements held whole. -/
theorem wp_st' {s : Shape} {e : EltTy} (m : Memref sig .tc .vmem s e) (c : Dev nD) (r : Rect s) {S : Finset (Idx ((m.access r).loc (c.tc : Thread nD τ)))}
    {f : Buf (Elt F) ((m.access r).loc (c.tc : Thread nD τ))}
    (w : r.shape.Idx → Elt F e) {hx : (m.access r).Stores Finset.univ} {hm : (Finset.univ : Finset r.shape.Idx) = Finset.univ ∨ ∀ a, r.stride a = 1}
    (hS : (m.access r).setOn Finset.univ ⊆ S) (k : PUnit → P F) (Q : PUnit → sProp 𝕄) :
    ((m.access r).loc (c.tc : Thread nD τ) ↦[S]{fullShare} f)
      ⊢ iprop((((m.access r).loc (c.tc : Thread nD τ) ↦[S]{fullShare} ((m.access r).write (Elt F) f w Finset.univ)) -∗ WP c (k ⟨⟩) Q)
          -∗ WP c (.op (.store m r w Finset.univ hx hm) k) Q) := by
  exact wp_store 𝒱₀ (c : Thread nD τ) none Set.univ (m := m) (Mk := Finset.univ) hS
/-- The same, of elements held through the buffer. -/
theorem wp_st {s : Shape} {e : EltTy} (m : Memref sig .tc .vmem s e) (c : Dev nD) (r : Rect s) {S : Finset (Idx (m.view.loc (c.tc : Thread nD τ)))}
    {f : Buf (Elt F) (m.view.loc (c.tc : Thread nD τ))}
    (w : r.shape.Idx → Elt F e) {hx : (m.access r).Stores Finset.univ} {hm : (Finset.univ : Finset r.shape.Idx) = Finset.univ ∨ ∀ a, r.stride a = 1}
    (hS : (m.access r).setOn Finset.univ ⊆ S) (k : PUnit → P F) (Q : PUnit → sProp 𝕄) :
    (m.view.loc (c.tc : Thread nD τ) ↦[S]{fullShare} f)
      ⊢ iprop(((m.view.loc (c.tc : Thread nD τ) ↦[S]{fullShare} ((m.access r).write (Elt F) f w Finset.univ)) -∗ WP c (k ⟨⟩) Q)
          -∗ WP c (.op (.store m r w Finset.univ hx hm) k) Q) := by
  exact wp_st' m c r w hS k Q

/-- Loads and stores of a buffer held whole. -/
theorem wp_ldU {s : Shape} {e : EltTy} (m : Memref sig .tc .vmem s e) (c : Dev nD) (r : Rect s) {hl : m.view.LoadsAt r.toLoadRect}
    {f : Buf (Elt F) (m.view.loc (c.tc : Thread nD τ))} (k : (r.shape.Idx → Elt F e) → P F) (Q : PUnit → sProp 𝕄) :
    (m.view.loc (c.tc : Thread nD τ) ↦[Finset.univ]{fullShare} f)
      ⊢ iprop(((m.view.loc (c.tc : Thread nD τ) ↦[Finset.univ]{fullShare} f) -∗ WP c (k (m.view.readAt (Elt F) r.toLoadRect f)) Q)
          -∗ WP c (.op (.load m r.toLoadRect hl) k) Q) := by
  exact wp_ld m c r (Finset.subset_univ _) k Q
theorem wp_stU {s : Shape} {e : EltTy} (m : Memref sig .tc .vmem s e) (c : Dev nD) (r : Rect s)
    {f : Buf (Elt F) (m.view.loc (c.tc : Thread nD τ))} (w : r.shape.Idx → Elt F e) {hx : (m.access r).Stores Finset.univ}
    {hm : (Finset.univ : Finset r.shape.Idx) = Finset.univ ∨ ∀ a, r.stride a = 1} (k : PUnit → P F) (Q : PUnit → sProp 𝕄) :
    (m.view.loc (c.tc : Thread nD τ) ↦[Finset.univ]{fullShare} f)
      ⊢ iprop(((m.view.loc (c.tc : Thread nD τ) ↦[Finset.univ]{fullShare} ((m.access r).write (Elt F) f w Finset.univ)) -∗ WP c (k ⟨⟩) Q)
          -∗ WP c (.op (.store m r w Finset.univ hx hm) k) Q) := by
  exact wp_st m c r w (fun x _ => Finset.mem_univ (α := Idx (m.view.loc (c.tc : Thread nD τ))) x) k Q

/-! ## The products -/

/-- The operands and the result of device `c`, whole. -/
def xP (c : Dev nD) (f : Vec F S4096x512 .f32) : sProp 𝕄 := ((c.tc : Thread nD τ).loc cc0_stg0_0) ↦[Finset.univ]{fullShare} f
def wP (c : Dev nD) (f : Vec F S512x2048 .f32) : sProp 𝕄 := ((c.tc : Thread nD τ).loc cc0_stg1_0) ↦[Finset.univ]{fullShare} f
def oP (c : Dev nD) (f : Vec F S4096x2048 .f32) : sProp 𝕄 := ((c.tc : Thread nD τ).loc cc0_stg2_0) ↦[Finset.univ]{fullShare} f

/-- The operands, and the result with its first `n` chunks written. -/
def Gm (c : Dev nD) (n : ℕ) : sProp 𝕄 := iprop(xP c (A.x c) ∗ wP c (A.w c) ∗ ∃ f, ⌜GInv A c n f⌝ ∗ oP c f)

/-- The product of chunk `t`. -/
theorem wp_gemm (c : Dev nD) (t : ℕ) (ht : t < 8) (offx offo : Fin 2 → ℕ) (hx : ∀ a, offx a + S512x512.size a ≤ S4096x512.size a)
    (ho : ∀ a, offo a + S512x2048.size a ≤ S4096x2048.size a)
    (ex : offx = ![512 * chunkAt 0 c t, 0]) (eo : offo = ![512 * chunkAt 0 c t, 0]) (k : P F) (Q : PUnit → sProp 𝕄) :
    Gm A c t ⊢ iprop((Gm A c (t + 1) -∗ WP c k Q) -∗ WP c (gemm offx offo hx ho k) Q) := by
  unfold Gm xP wP oP gemm
  iintro ⟨Hx, Hw, %f, %hf, Ho⟩ Hk
  iapply (wp_ldU xM c _) $$ Hx
  iintro Hx
  iapply (wp_ldU wM c _) $$ Hw
  iintro Hw
  iapply (wp_ldU oM c _) $$ Ho
  iintro Ho
  iapply (wp_stU oM c _ _) $$ Ho
  iintro Ho
  iapply Hk
  isplitl [Hx]; · iexact Hx
  isplitl [Hw]; · iexact Hw
  iexists _
  isplitr
  · ipureintro; exact gemm_inv A c t ht offx offo hx ho ex eo hf
  iexact Ho

/-! ## The reduce-scatter -/

theorem fill_pts (c : Dev nD) (d u : Fin 2) (s : Fin 7) (f : Vec F S4096x2048 .f32)
    (hf : ∀ i ∈ pc c d u s.val, f i = acc A d s.val c i) (fs : Vec F S2x2x256x1024 .bf16) :
    ((sM.view.loc (c.tc : Thread nD τ)) ↦[(slotR d u).set]{fullShare} ((sM.access (slotR d u)).write (Elt F) fs
        (k0_pay2 (F := F) (oM.view.readAt (Elt F) (sndR d u c s).toLoadRect f)) Finset.univ) : sProp 𝕄)
      ⊢ (((c.tc : Thread nD τ).loc cc0_scratch1) ↦[(slotR d u).set]{fullShare} (sB A s c)) :=
  Entails.of_eq (pointsTo_congr (fun i hi => fill_write A c d u s f fs hf i hi))

/-- Filling the sending slot of stream `(d, u)` for step `s`. -/
theorem wp_fill (c : Dev nD) (d u : Fin 2) (s : Fin 7) (f : Vec F S4096x2048 .f32)
    (hf : ∀ i ∈ pc c d u s.val, f i = acc A d s.val c i) (k : P F) (Q : PUnit → sProp 𝕄) :
    iprop((∃ fs, sPts c d u fs) ∗ oP c f)
      ⊢ iprop(((sPts c d u (sB A s c) ∗ oP c f) -∗ WP c k Q) -∗ WP c (fill c d u s k) Q) := by
  unfold sPts oP fill
  iintro ⟨⟨%fs, Hs⟩, Ho⟩ Hk
  iapply (wp_ldU oM c _) $$ Ho
  iintro Ho
  iapply (wp_ld sM c (slotR d u) (S := (slotR d u).set) (load_set (b := cc0_scratch1) (slotR d u)).subset) $$ Hs
  iintro Hs
  iapply (wp_st sM c (slotR d u) _ (S := (slotR d u).set) (store_set (b := cc0_scratch1) (slotR d u)).subset) $$ Hs
  iintro Hs
  iapply Hk
  isplitl [Hs]
  · iapply (fill_pts A c d u s f hf fs); iexact Hs
  iexact Ho

theorem rs_pay₁ (c : Dev nD) (d u : Fin 2) (s : Fin 7) (fs : Vec F S2x2x256x1024 .bf16) :
    (((slotV sM d u).view.loc (c.tc : Thread nD τ)) ↦[(slotV sM d u).view.set]{fullShare} fs : sProp 𝕄) ⊢ payK A c (.snd (.rs d s u)) 0 0 := by
  rw [slotV_set']
  show _ ⊢ iprop(∃ f, sPts c d u f)
  unfold sPts
  iintro H
  iexists fs
  iexact H

theorem rs_pay₂ (c : Dev nD) (d u : Fin 2) (s : Fin 7) (fd : Vec F S2x2x256x1024 .bf16) :
    (iprop((((slotV cM d u).view.loc (Dev.tc (toDev d c) : Thread nD τ)) ↦[(slotV cM d u).view.set]{fullShare}
        ((slotV cM d u).view.write (Elt F) fd ((slotV sM d u).view.read (Elt F) (sB A s c)) Finset.univ))
      ∗ reached ER (cell c (.cr d u)) s.val) : sProp 𝕄) ⊢ payK A (toDev d c) (.rcv (.rs d s u)) 0 0 := by
  rw [slotV_set]
  show _ ⊢ iprop(cPts (toDev d c) d u (sB A s (frDev d (toDev d c))) ∗ reached ER (cell (frDev d (toDev d c)) (.cr d u)) s.val)
  rw [fr_to]
  exact sep_mono_left (Entails.of_eq (pointsTo_congr (fun i hi => copy_slot d u fd (sB A s c) i hi)))

/-- Starting the copy of step `s` of stream `(d, u)`. -/
theorem wp_startRS (c : Dev nD) (d u : Fin 2) (s : Fin 7) (l : List It) (k : P F) (Q : PUnit → sProp 𝕄) :
    iprop(Env A K ∗ Ow c (.tr (.rs d s u) :: l) ∗ itR c (.tr (.rs d s u)) ∗ sPts c d u (sB A s c) ∗ (∃ f, cPts (toDev d c) d u f)
        ∗ reached ER (cell c (.cr d u)) s.val)
      ⊢ iprop(((Fly c (.rs d s u) ∗ Ow c l) -∗ WP c k Q) -∗ WP c (startRS c d u s k) Q) := by
  unfold startRS
  iintro ⟨HE, HO, Hi, Hs, ⟨%fd, Hc⟩, Hr⟩ Hk
  iapply (wp_start A K c (.rs d s u) l (used_rs d s u) (src := slotV sM d u) (dst := slotV cM d u) (amt_rs d u d u s)
    (q := fullShare) (fs := sB A s c) (fd := fd) (R := reached ER (cell c (.cr d u)) s.val) (rs_pay₁ A c d u s _) (rs_pay₂ A c d u s fd)) $$ [HE HO Hi Hs Hc Hr]
  · isplitl [HE]; · iexact HE
    isplitl [HO]; · iexact HO
    isplitl [Hi]; · iexact Hi
    isplitl [Hs]
    · rw [slotV_set']; unfold sPts; iexact Hs
    isplitl [Hc]
    · rw [slotV_set]; unfold cPts; iexact Hc
    iexact Hr
  iexact Hk

theorem lnd_rs (n : Dev nD) (d u : Fin 2) : (lndAt n (.tr (.rs d 0 u)) : sProp 𝕄) ⊢ iprop(∃ f, cPts n d u f) := Entails.of_eq rfl

omit [FloatOps F] in
theorem Dn_cons (c : Dev nD) (k : Ck) (D : List Ck) : iprop(semVal (cell c k) 0 ∗ Dn c D) ⊢ (Dn c (k :: D) : sProp 𝕄) :=
  Entails.of_eq (bigSepL_cons' k D fun k => (semVal (cell c k) 0 : sProp 𝕄)).symm

/-- The first copy of stream `(d, u)`. -/
theorem wp_first (c : Dev nD) (d u : Fin 2) (l : List It) (D : List Ck) (f : Vec F S4096x2048 .f32)
    (hf : ∀ i ∈ pc c d u 0, f i = acc A d 0 c i) (k : P F) (Q : PUnit → sProp 𝕄) :
    iprop(St A K c (.tr (.rs d 0 u) :: l) D ∗ (∃ fs, sPts c d u fs) ∗ CrAt c d u 0 ∗ oP c f)
      ⊢ iprop(((St A K c l D ∗ (Fly c (.rs d 0 u) ∗ CrAt c d u 0) ∗ oP c f) -∗ WP c k Q) -∗ WP c (fill c d u 0 (startRS c d u 0 k)) Q) := by
  unfold St CrAt
  rw [bigSepL_cons']
  iintro ⟨⟨#HE, HO, ⟨⟨Hi, Hl⟩, Hit⟩, HD⟩, Hs, ⟨Ha, #Hr⟩, Ho⟩ Hk
  iapply (wp_fill A c d u 0 f hf) $$ [Hs Ho]
  · isplitl [Hs] <;> iassumption
  iintro ⟨Hs, Ho⟩
  iapply (wp_startRS A K c d u 0 l) $$ [HO Hi Hs Hl]
  · isplitr; · iexact HE
    isplitl [HO]; · iexact HO
    isplitl [Hi]; · iexact Hi
    isplitl [Hs]; · iexact Hs
    isplitl [Hl]; · iapply (lnd_rs (F := F) (toDev d c) d u); iexact Hl
    iexact Hr
  iintro ⟨Hf, HO⟩
  iapply Hk
  isplitl [HO Hit HD]
  · isplitr; · iexact HE
    isplitl [HO]; · iexact HO
    isplitl [Hit] <;> iassumption
  isplitl [Hf Ha]
  · isplitl [Hf]; · iexact Hf
    isplitl [Ha]; · iexact Ha
    iexact Hr
  iexact Ho

/-- Taking step `s` of stream `(d, u)`. -/
theorem wp_takeRS (c : Dev nD) (d u : Fin 2) (s : Fin 7) (n : Fin 2 → Fin 2 → ℕ) (hn : n d u = s.val) (l : List It) (D : List Ck)
    (hl : ∀ it ∈ l, 10 + 10 * s.val < it.lvl) (k : P F) (Q : PUnit → sProp 𝕄) :
    iprop(St A K c l D ∗ Fly c (.rs d s u) ∗ oP c (oRS A c n))
      ⊢ iprop(((St A K c l (.snd (.rs d s u) :: .rcv (.rs d s u) :: D) ∗ oP c (oRS A c (bump n d u)) ∗ (∃ f, sPts c d u f)
            ∗ cPts c d u (sB A s (frDev d c)) ∗ reached ER (cell (frDev d c) (.cr d u)) s.val) -∗ WP c k Q)
          -∗ WP c (takeRS c d u s k) Q) := by
  unfold takeRS
  iintro ⟨HS, Hf, Ho⟩ Hk
  iapply (wp_take A K c (.rs d s u) l D (used_rs d s u) hl
    (wpE_waitDma2_eq (defs := defs₀ (F := F)) 𝒱₀ (c.tc : Thread nD τ) none Set.univ) (amt_rs' d u d u s)
    (wpE_waitDma2_eq (defs := defs₀ (F := F)) 𝒱₀ (c.tc : Thread nD τ) none Set.univ) (amt_rs d u d u s)) $$ [HS Hf]
  · isplitl [HS] <;> iassumption
  iintro ⟨HS, Hs, Hc⟩
  ihave Hc' := (Entails.of_eq (show payK A c (.rcv (.rs d s u)) 0 0 = iprop(cPts c d u (sB A s (frDev d c)) ∗ reached ER (cell (frDev d c) (.cr d u)) s.val) from rfl)) $$ Hc
  icases Hc' with ⟨Hc, Hr⟩
  unfold oP cPts
  iapply (wp_ldU oM c _) $$ Ho
  iintro Ho
  iapply (wp_ld cM c (slotR d u) (S := (slotR d u).set) (load_set (b := cc0_scratch0) (slotR d u)).subset) $$ Hc
  iintro Hc
  iapply (wp_ldU oM c _) $$ Ho
  iintro Ho
  iapply (wp_stU oM c _ _) $$ Ho
  iintro Ho
  iapply Hk
  isplitl [HS]; · iexact HS
  isplitl [Ho]
  · rw [take_write A c d u s n hn (sB A s (frDev d c)) (fun _ _ => rfl)]; iexact Ho
  isplitl [Hs]
  · iapply (Entails.of_eq (show payK A c (.snd (.rs d s u)) 0 0 = iprop(∃ f, sPts c d u f) from rfl)); iexact Hs
  isplitl [Hc]; · iexact Hc
  iexact Hr

/-- A stream between two steps: its copy of step `s` is on the way. -/
def Lane (c : Dev nD) (d u : Fin 2) (s : Fin 7) : sProp 𝕄 := iprop(Fly c (.rs d s u) ∗ CrAt c d u s.val)

theorem lvl_cr (d u : Fin 2) (s : Fin 6) : (Ck.cr d u).lvl s.val = 10 + 10 * s.val + 1 + (2 * u.val + d.val) := rfl

/-- Step `s` of stream `(d, u)`, and the start of the next. -/
theorem wp_lane (c : Dev nD) (d u : Fin 2) (s : Fin 6) (n : Fin 2 → Fin 2 → ℕ) (hn : n d u = s.val) (l : List It) (D : List Ck)
    (hl : ∀ it ∈ l, 10 + 10 * s.val + 1 + (2 * u.val + d.val) < it.lvl) (k : P F) (Q : PUnit → sProp 𝕄) :
    iprop(St A K c (.cr d u s :: .tr (.rs d s.succ u) :: l) D ∗ Lane c d u s.castSucc ∗ oP c (oRS A c n))
      ⊢ iprop(((St A K c l (.snd (.rs d s.castSucc u) :: .rcv (.rs d s.castSucc u) :: D) ∗ Lane c d u s.succ ∗ oP c (oRS A c (bump n d u))) -∗ WP c k Q)
          -∗ WP c (takeRS c d u s.castSucc (nextRS c d u s k)) Q) := by
  have hd := d.isLt
  have hu := u.isLt
  have hl1 : ∀ it ∈ It.tr (.rs d s.succ u) :: l, 10 + 10 * s.val + 1 + (2 * u.val + d.val) < it.lvl := by
    intro it hm
    rcases List.mem_cons.mp hm with rfl | hm
    · show _ < 10 + 10 * (s.val + 1); omega
    · exact hl it hm
  have hl0 : ∀ it ∈ It.cr d u s :: It.tr (.rs d s.succ u) :: l, 10 + 10 * s.castSucc.val < it.lvl := by
    intro it hm
    rcases List.mem_cons.mp hm with rfl | hm
    · show 10 + 10 * s.val < 10 + 10 * s.val + 1 + (2 * u.val + d.val); omega
    · have := hl1 it hm; show 10 + 10 * s.val < _; omega
  unfold Lane
  iintro ⟨HS, ⟨Hf, Hcr⟩, Ho⟩ Hk
  iapply (wp_takeRS A K c d u s.castSucc n hn _ D hl0) $$ [HS Hf Ho]
  · isplitl [HS]; · iexact HS
    isplitl [Hf] <;> iassumption
  unfold nextRS St
  rw [bigSepL_cons', bigSepL_cons']
  iintro ⟨⟨#HE, HO, ⟨⟨Hi1, -⟩, ⟨Hi2, -⟩, Hit⟩, HD⟩, Ho, Hs, Hc, Hr⟩
  ihave Hi1' := (Entails.of_eq (show itR c (.cr d u s) = iprop(dutyTok ER (cell (frDev d c) (.cr d u)) s.val 0 ∗ cred (tallyAt (cell c (.cr d u)) s.castSucc.castSucc 1)) from rfl)) $$ Hi1
  icases Hi1' with ⟨Ht, Hcd⟩
  iapply (wp_hand A K c d u s _ (sB A s.castSucc (frDev d c))) $$ [HO Ht Hr Hc]
  · isplitr; · iexact HE
    isplitl [HO]; · iexact HO
    isplitl [Ht]; · iexact Ht
    isplitl [Hr]; · iexact Hr
    iexact Hc
  iintro HO
  iapply (wp_fill A c d u s.succ (oRS A c (bump n d u)) (oRS_snd A c (bump n d u) d u s.succ.val
    (by unfold bump; rw [if_pos ⟨rfl, rfl⟩, hn]; rfl))) $$ [Hs Ho]
  · isplitl [Hs] <;> iassumption
  iintro ⟨Hs, Ho⟩
  iapply (wp_back A K c d u s _ hl1) $$ [HO Hcd Hcr]
  · isplitr; · iexact HE
    isplitl [HO]; · iexact HO
    isplitl [Hcd]; · iexact Hcd
    iapply (Entails.of_eq (show (CrAt c d u s.castSucc.val : sProp 𝕄) = CrAt c d u s.val from rfl)); iexact Hcr
  unfold CrAt
  iintro ⟨HO, ⟨Ha, #Hr2⟩, Hc⟩
  iapply (wp_startRS A K c d u s.succ l) $$ [HO Hi2 Hs Hc]
  · isplitr; · iexact HE
    isplitl [HO]; · iexact HO
    isplitl [Hi2]; · iexact Hi2
    isplitl [Hs]; · iexact Hs
    isplitl [Hc]; · iexact Hc
    iexact Hr2
  iintro ⟨Hf, HO⟩
  iapply Hk
  isplitl [HO Hit HD]
  · isplitr; · iexact HE
    isplitl [HO]; · iexact HO
    isplitl [Hit] <;> iassumption
  isplitl [Hf Ha]
  · isplitl [Hf]; · iexact Hf
    isplitl [Ha]; · iexact Ha
    iexact Hr2
  iexact Ho

/-- The last step of stream `(d, u)`. -/
theorem wp_lane_last (c : Dev nD) (d u : Fin 2) (n : Fin 2 → Fin 2 → ℕ) (hn : n d u = 6) (l : List It) (D : List Ck)
    (hl : ∀ it ∈ l, 70 < it.lvl) (k : P F) (Q : PUnit → sProp 𝕄) :
    iprop(St A K c l D ∗ Lane c d u 6 ∗ oP c (oRS A c n))
      ⊢ iprop(((St A K c l (.cr d u :: .snd (.rs d 6 u) :: .rcv (.rs d 6 u) :: D) ∗ ((∃ f, cPts c d u f) ∗ ∃ f, sPts c d u f)
            ∗ oP c (oRS A c (bump n d u))) -∗ WP c k Q)
          -∗ WP c (takeRS c d u 6 k) Q) := by
  unfold Lane CrAt
  iintro ⟨HS, ⟨Hf, Ha, -⟩, Ho⟩ Hk
  iapply (wp_takeRS A K c d u 6 n hn _ D hl) $$ [HS Hf Ho]
  · isplitl [HS]; · iexact HS
    isplitl [Hf] <;> iassumption
  unfold St
  iintro ⟨⟨#HE, HO, Hit, HD⟩, Ho, Hs, Hc, -⟩
  imod (close_cell A K c (.cr d u) (6 : Fin 7).val le_rfl) $$ [Ha] with Hz
  · isplitr; · iexact HE
    iexact Ha
  iapply Hk
  isplitl [HO Hit HD Hz]
  · isplitr; · iexact HE
    isplitl [HO]; · iexact HO
    isplitl [Hit]; · iexact Hit
    iapply (Dn_cons (F := F) c (.cr d u))
    isplitl [Hz] <;> iassumption
  isplitl [Hc Hs]
  · isplitl [Hc]; · iexists _; iexact Hc
    iexact Hs
  iexact Ho

/-! ## Rows -/

/-- The four streams, each with its copy of step `s` on the way. -/
def Lanes (c : Dev nD) (s : Fin 7) : sProp 𝕄 := iprop(Lane c 0 0 s ∗ Lane c 1 0 s ∗ Lane c 0 1 s ∗ Lane c 1 1 s)

/-- The semaphores done with in a row. -/
def rowDone (s : Fin 7) (D : List Ck) : List Ck :=
  .snd (.rs 1 s 1) :: .rcv (.rs 1 s 1) :: .snd (.rs 0 s 1) :: .rcv (.rs 0 s 1) ::
  .snd (.rs 1 s 0) :: .rcv (.rs 1 s 0) :: .snd (.rs 0 s 0) :: .rcv (.rs 0 s 0) :: D

/-- Step `s` of the reduce-scatter. -/
theorem wp_rowRS (c : Dev nD) (s : Fin 6) (l : List It) (D : List Ck) (hl : ∀ it ∈ l, 10 + 10 * s.val + 4 < it.lvl) (k : P F) (Q : PUnit → sProp 𝕄) :
    iprop(St A K c (rsRow s ++ l) D ∗ Lanes c s.castSucc ∗ oP c (oRS A c (row s.val)))
      ⊢ iprop(((St A K c l (rowDone s.castSucc D) ∗ Lanes c s.succ ∗ oP c (oRS A c (row (s.val + 1)))) -∗ WP c k Q)
          -∗ WP c (rowRS c s k) Q) := by
  have h4 : ∀ m ≤ 4, ∀ it ∈ l, 10 + 10 * s.val + m < it.lvl := fun m hm it hi => lt_of_le_of_lt (by omega) (hl it hi)
  have hc : ∀ (d u : Fin 2) (m : ℕ) (l' : List It), m < 1 + (2 * u.val + d.val) → (2 * u.val + d.val ≤ 3) → (∀ it ∈ l', 10 + 10 * s.val + m < it.lvl) →
      ∀ it ∈ It.cr d u s :: It.tr (.rs d s.succ u) :: l', 10 + 10 * s.val + m < it.lvl := by
    intro d u m l' hm hm' hl' it hi
    rcases List.mem_cons.mp hi with rfl | hi
    · show _ < 10 + 10 * s.val + 1 + (2 * u.val + d.val); omega
    rcases List.mem_cons.mp hi with rfl | hi
    · show _ < 10 + 10 * (s.val + 1); omega
    exact hl' it hi
  unfold Lanes rowRS rsRow
  iintro ⟨HS, ⟨L00, L10, L01, L11⟩, Ho⟩ Hk
  iapply (wp_lane A K c 0 0 s (row s.val) rfl _ D
    (hc 1 0 1 _ (by decide) (by decide) (hc 0 1 1 _ (by decide) (by decide) (hc 1 1 1 _ (by decide) (by decide) (h4 1 (by decide)))))) $$ [HS L00 Ho]
  · isplitl [HS]; · iexact HS
    isplitl [L00] <;> iassumption
  iintro ⟨HS, L00, Ho⟩
  iapply (wp_lane A K c 1 0 s (bump (row s.val) 0 0) rfl _ _
    (hc 0 1 2 _ (by decide) (by decide) (hc 1 1 2 _ (by decide) (by decide) (h4 2 (by decide))))) $$ [HS L10 Ho]
  · isplitl [HS]; · iexact HS
    isplitl [L10] <;> iassumption
  iintro ⟨HS, L10, Ho⟩
  iapply (wp_lane A K c 0 1 s (bump (bump (row s.val) 0 0) 1 0) rfl _ _
    (hc 1 1 3 _ (by decide) (by decide) (h4 3 (by decide)))) $$ [HS L01 Ho]
  · isplitl [HS]; · iexact HS
    isplitl [L01] <;> iassumption
  iintro ⟨HS, L01, Ho⟩
  iapply (wp_lane A K c 1 1 s (bump (bump (bump (row s.val) 0 0) 1 0) 0 1) rfl _ _ (h4 4 (by decide))) $$ [HS L11 Ho]
  · isplitl [HS]; · iexact HS
    isplitl [L11] <;> iassumption
  rw [bump_row]
  iintro ⟨HS, L11, Ho⟩
  iapply Hk
  isplitl [HS]; · iexact HS
  isplitl [L00 L10 L01 L11]
  · isplitl [L00]; · iexact L00
    isplitl [L10]; · iexact L10
    isplitl [L01] <;> iassumption
  iexact Ho

/-- The landing and the sending slots, back. -/
def Slots (c : Dev nD) : sProp 𝕄 :=
  iprop(((∃ f, cPts c 0 0 f) ∗ ∃ f, sPts c 0 0 f) ∗ ((∃ f, cPts c 1 0 f) ∗ ∃ f, sPts c 1 0 f)
    ∗ ((∃ f, cPts c 0 1 f) ∗ ∃ f, sPts c 0 1 f) ∗ ((∃ f, cPts c 1 1 f) ∗ ∃ f, sPts c 1 1 f))

/-- The semaphores done with in the last step. -/
def lastDone (D : List Ck) : List Ck :=
  .cr 1 1 :: .snd (.rs 1 6 1) :: .rcv (.rs 1 6 1) :: .cr 0 1 :: .snd (.rs 0 6 1) :: .rcv (.rs 0 6 1) ::
  .cr 1 0 :: .snd (.rs 1 6 0) :: .rcv (.rs 1 6 0) :: .cr 0 0 :: .snd (.rs 0 6 0) :: .rcv (.rs 0 6 0) :: D

/-- The last step of the reduce-scatter. -/
theorem wp_lastRS (c : Dev nD) (l : List It) (D : List Ck) (hl : ∀ it ∈ l, 70 < it.lvl) (k : P F) (Q : PUnit → sProp 𝕄) :
    iprop(St A K c l D ∗ Lanes c 6 ∗ oP c (oRS A c (row 6)))
      ⊢ iprop(((St A K c l (lastDone D) ∗ Slots c ∗ oP c (oD A c ∅)) -∗ WP c k Q) -∗ WP c (lastRS c k) Q) := by
  unfold Lanes lastRS
  iintro ⟨HS, ⟨L00, L10, L01, L11⟩, Ho⟩ Hk
  iapply (wp_lane_last A K c 0 0 (row 6) rfl _ D hl) $$ [HS L00 Ho]
  · isplitl [HS]; · iexact HS
    isplitl [L00] <;> iassumption
  iintro ⟨HS, L00, Ho⟩
  iapply (wp_lane_last A K c 1 0 (bump (row 6) 0 0) rfl _ _ hl) $$ [HS L10 Ho]
  · isplitl [HS]; · iexact HS
    isplitl [L10] <;> iassumption
  iintro ⟨HS, L10, Ho⟩
  iapply (wp_lane_last A K c 0 1 (bump (bump (row 6) 0 0) 1 0) rfl _ _ hl) $$ [HS L01 Ho]
  · isplitl [HS]; · iexact HS
    isplitl [L01] <;> iassumption
  iintro ⟨HS, L01, Ho⟩
  iapply (wp_lane_last A K c 1 1 (bump (bump (bump (row 6) 0 0) 1 0) 0 1) rfl _ _ hl) $$ [HS L11 Ho]
  · isplitl [HS]; · iexact HS
    isplitl [L11] <;> iassumption
  rw [bump_row, oRS_all]
  iintro ⟨HS, L11, Ho⟩
  iapply Hk
  isplitl [HS]; · iexact HS
  isplitl [L00 L10 L01 L11]
  · unfold Slots
    isplitl [L00]; · iexact L00
    isplitl [L10]; · iexact L10
    isplitl [L01] <;> iassumption
  iexact Ho

end Cert.KernelIdeal.Own

end
-- ==== Proof.Maximum.lean ====
/- The running maximum and the quantiser, step by step. -/
module

public import proofs.«01_k».proof.Proof.Scatter

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig (Fin 8) (Elt F) ℕ UU ℕ

variable (A : Args F) (K : Dev nD × Ck → ℕ)

/-! ## The maximum -/

theorem wp_amaxStart (c : Dev nD) (k : F .f32 → P F) (Q : PUnit → sProp 𝕄) :
    oP c (oD A c ∅) ⊢ iprop((oP c (oD A c ∅) -∗ WP c (k (am A c)) Q) -∗ WP c (amaxStart c k) Q) := by
  unfold oP amaxStart
  iintro Ho Hk
  iapply (wp_ldU oM c _) $$ Ho
  iintro Ho
  iapply (wp_ldU oM c _) $$ Ho
  iintro Ho
  rw [amax_read A c]
  iapply Hk
  iexact Ho

theorem ax_fill_pts (c : Dev nD) (d : Fin 2) (r : F .f32) (f : Vec F S2x1x128 .f32) :
    ((aM.view.loc (c.tc : Thread nD τ)) ↦[(aR d).set]{fullShare} ((aM.access (aR d)).write (Elt F) f (k0_pay67 (F := F) r) Finset.univ) : sProp 𝕄)
      ⊢ (((c.tc : Thread nD τ).loc cc0_scratch3) ↦[(aR d).set]{fullShare} (fun _ => r)) :=
  Entails.of_eq (pointsTo_congr (fun i hi => ax_fill d r f i hi))

theorem ax_pay₁ (c : Dev nD) (d : Fin 2) (h : Fin 4) (r : F .f32) :
    (((aV d).view.loc (c.tc : Thread nD τ)) ↦[(aV d).view.set]{fullShare} ((fun _ => r) : Vec F S2x1x128 .f32) : sProp 𝕄) ⊢ payK A c (.snd (.ax d h)) 0 0 := by
  rw [aV_set]
  show _ ⊢ iprop(∃ f, aPts c d f)
  unfold aPts
  iintro H
  iexists (fun _ => r)
  iexact H

theorem ax_pay₂ (c : Dev nD) (d : Fin 2) (h : Fin 4) (fd : Vec F S2x4x1x128 .f32) :
    (iprop((((rV d h).view.loc (Dev.tc (toDev d c) : Thread nD τ)) ↦[(rV d h).view.set]{fullShare}
        ((rV d h).view.write (Elt F) fd ((aV d).view.read (Elt F) ((fun _ => rAx A d h.val c) : Vec F S2x1x128 .f32)) Finset.univ))
      ∗ emp) : sProp 𝕄) ⊢ payK A (toDev d c) (.rcv (.ax d h)) 0 0 := by
  rw [rV_set]
  show _ ⊢ rPts (toDev d c) d h (fun _ => rAx A d h.val (frDev d (toDev d c)))
  rw [fr_to]
  refine (sep_mono_left (Entails.of_eq (pointsTo_congr (fun i hi => ax_copy d h (rAx A d h.val c) (fun _ => rAx A d h.val c) (fun _ _ => rfl) fd i hi)))).trans ?_
  unfold rPts
  iintro ⟨H, -⟩
  iexact H

omit [FloatOps F] in
theorem lnd_ax (c : Dev nD) (d : Fin 2) (h : Fin 4) : (lndAt (It.tgt c (.tr (.ax d h))) (.tr (.ax d h)) : sProp 𝕄) ⊢ iprop(∃ f, rPts (toDev d c) d h f) := Entails.of_eq rfl

/-- Sending the running maximum of hop `h` in direction `d`. -/
theorem wp_startAX (c : Dev nD) (d : Fin 2) (h : Fin 4) (hh : h.val + d.val < 4) (l : List It) (D : List Ck) (k : P F) (Q : PUnit → sProp 𝕄) :
    iprop(St A K c (.tr (.ax d h) :: l) D ∗ ∃ f, aPts c d f)
      ⊢ iprop(((St A K c l D ∗ Fly c (.ax d h)) -∗ WP c k Q) -∗ WP c (startAX c d h (rAx A d h.val c) k) Q) := by
  unfold startAX St aPts
  rw [bigSepL_cons']
  iintro ⟨⟨#HE, HO, ⟨⟨Hi, Hl⟩, Hit⟩, HD⟩, %f, Ha⟩ Hk
  ihave Hl' := (lnd_ax (F := F) c d h) $$ Hl
  icases Hl' with ⟨%fd, Hr⟩
  iapply (wp_ld aM c (aR d) (S := (aR d).set) (load_set (b := cc0_scratch3) (aR d)).subset) $$ Ha
  iintro Ha
  iapply (wp_st aM c (aR d) _ (S := (aR d).set) (store_set (b := cc0_scratch3) (aR d)).subset) $$ Ha
  iintro Ha
  ihave Ha' := (ax_fill_pts c d (rAx A d h.val c) f) $$ Ha
  iapply (wp_start A K c (.ax d h) l (used_ax d h hh) (src := aV d) (dst := rV d h) (amt_ax' d d h h)
    (q := fullShare) (fs := ((fun _ => rAx A d h.val c) : Vec F S2x1x128 .f32)) (fd := fd) (R := iprop(emp)) (ax_pay₁ A c d h _) (ax_pay₂ A c d h fd)) $$ [HO Hi Ha' Hr]
  · isplitr; · iexact HE
    isplitl [HO]; · iexact HO
    isplitl [Hi]; · iexact Hi
    isplitl [Ha']
    · rw [aV_set]; iexact Ha'
    isplitl [Hr]
    · rw [rV_set]; unfold rPts; iexact Hr
    iempintro
  iintro ⟨Hf, HO⟩
  iapply Hk
  isplitl [HO Hit HD]
  · isplitr; · iexact HE
    isplitl [HO]; · iexact HO
    isplitl [Hit] <;> iassumption
  iexact Hf

/-- Taking hop `h` in direction `d`. -/
theorem wp_takeAX (c : Dev nD) (d : Fin 2) (h : Fin 4) (hh : h.val + d.val < 4) (l : List It) (D : List Ck)
    (hl : ∀ it ∈ l, 100 + h.val < it.lvl) (k : F .f32 → P F) (Q : PUnit → sProp 𝕄) :
    iprop(St A K c l D ∗ Fly c (.ax d h))
      ⊢ iprop(((St A K c l (.snd (.ax d h) :: .rcv (.ax d h) :: D) ∗ (∃ f, aPts c d f) ∗ ∃ f, rPts c d h f)
            -∗ WP c (k (rAx A d (h.val + 1) c)) Q)
          -∗ WP c (takeAX d h (rAx A d h.val c) k) Q) := by
  unfold takeAX
  iintro ⟨HS, Hf⟩ Hk
  iapply (wp_take A K c (.ax d h) l D (used_ax d h hh) hl
    (wpE_waitDma2_eq (defs := defs₀ (F := F)) 𝒱₀ (c.tc : Thread nD τ) none Set.univ) (amt_ax d d h)
    (wpE_waitDma2_eq (defs := defs₀ (F := F)) 𝒱₀ (c.tc : Thread nD τ) none Set.univ) (amt_ax' d d h h)) $$ [HS Hf]
  · isplitl [HS] <;> iassumption
  iintro ⟨HS, Ha, Hr⟩
  ihave Hr' := (Entails.of_eq (show payK A c (.rcv (.ax d h)) 0 0 = rPts c d h (fun _ => rAx A d h.val (frDev d c)) from rfl)) $$ Hr
  unfold rPts
  iapply (wp_ld rM c (rR1 d h) (S := (rR d h).set) ((load_set (b := cc0_scratch4) (rR1 d h)).subset.trans (ax_load_set d h))) $$ Hr'
  iintro Hr
  rw [ax_take d h (rAx A d h.val c) (rAx A d h.val (frDev d c)) _ (fun _ _ => rfl)]
  iapply Hk
  isplitl [HS]; · iexact HS
  isplitl [Ha]
  · iapply (Entails.of_eq (show payK A c (.snd (.ax d h)) 0 0 = iprop(∃ f, aPts c d f) from rfl)); iexact Ha
  iexists _; iexact Hr

/-- The sending slots of the maximum. -/
def Aslots (c : Dev nD) : sProp 𝕄 := iprop((∃ f, aPts c 0 f) ∗ ∃ f, aPts c 1 f)
/-- The landing slots of the maximum listed in `E`. -/
def Rn (c : Dev nD) (E : List (Fin 2 × Fin 4)) : sProp 𝕄 := bigSepL E fun p => iprop(∃ f, rPts c p.1 p.2 f)

omit [FloatOps F] in
theorem Rn_cons (c : Dev nD) (d : Fin 2) (h : Fin 4) (E : List (Fin 2 × Fin 4)) : iprop((∃ f, rPts c d h f) ∗ Rn c E) ⊢ (Rn c ((d, h) :: E) : sProp 𝕄) :=
  Entails.of_eq (bigSepL_cons' (d, h) E fun p => (iprop(∃ f, rPts c p.1 p.2 f) : sProp 𝕄)).symm

/-- A hop in both directions. -/
theorem wp_hopAX (c : Dev nD) (h : Fin 4) (hh : h.val + 1 < 4) (l : List It) (D : List Ck) (E : List (Fin 2 × Fin 4))
    (hl : ∀ it ∈ l, 100 + h.val < it.lvl) (k : F .f32 → F .f32 → P F) (Q : PUnit → sProp 𝕄) :
    iprop(St A K c (axRow h ++ l) D ∗ Aslots c ∗ Rn c E)
      ⊢ iprop(((St A K c l (.snd (.ax 1 h) :: .rcv (.ax 1 h) :: .snd (.ax 0 h) :: .rcv (.ax 0 h) :: D) ∗ Aslots c ∗ Rn c ((1, h) :: (0, h) :: E))
            -∗ WP c (k (rAx A 0 (h.val + 1) c) (rAx A 1 (h.val + 1) c)) Q)
          -∗ WP c (hopAX c h (rAx A 0 h.val c) (rAx A 1 h.val c) k) Q) := by
  have h0 : h.val + (0 : Fin 2).val < 4 := by show h.val + 0 < 4; omega
  unfold Aslots hopAX axRow
  iintro ⟨HS, ⟨Ha0, Ha1⟩, HR⟩ Hk
  iapply (wp_startAX A K c 0 h h0 _ D) $$ [HS Ha0]
  · isplitl [HS]; · iexact HS
    iexact Ha0
  iintro ⟨HS, Hf0⟩
  iapply (wp_startAX A K c 1 h hh _ D) $$ [HS Ha1]
  · isplitl [HS]; · iexact HS
    iexact Ha1
  iintro ⟨HS, Hf1⟩
  iapply (wp_takeAX A K c 0 h h0 _ D hl) $$ [HS Hf0]
  · isplitl [HS]; · iexact HS
    iexact Hf0
  iintro ⟨HS, Ha0, Hr0⟩
  iapply (wp_takeAX A K c 1 h hh _ _ hl) $$ [HS Hf1]
  · isplitl [HS]; · iexact HS
    iexact Hf1
  iintro ⟨HS, Ha1, Hr1⟩
  iapply Hk
  isplitl [HS]; · iexact HS
  isplitl [Ha0 Ha1]
  · isplitl [Ha0] <;> iassumption
  iapply (Rn_cons (F := F) c 1 h)
  isplitl [Hr1]; · iexact Hr1
  iapply (Rn_cons (F := F) c 0 h)
  isplitl [Hr0] <;> iassumption

/-! ## The quantiser -/

theorem ownR_load (c : Dev nD) (d : Fin 2) : qM.view.setOn (ownR d c).set ⊆ hf c d 7 := by
  rw [← ownR_set]; exact (load_set (b := cc0_scratch2) (ownR d c)).subset
theorem ownR_store (c : Dev nD) (d : Fin 2) : (qM.access (ownR d c)).setOn Finset.univ ⊆ hf c d 7 := by
  rw [← ownR_set]; exact (store_set (b := cc0_scratch2) (ownR d c)).subset

/-- The half block a device reduced, quantised or about to be. -/
def Half (c : Dev nD) (d : Fin 2) (f : Vec F S4096x2048 .fp8e4m3) : sProp 𝕄 :=
  ((c.tc : Thread nD τ).loc cc0_scratch2) ↦[hf c d 7]{fullShare} f

theorem quant_pts (c : Dev nD) (d : Fin 2) (E : Finset S4096x2048.Idx) (hE : Disjoint E (hf c d 7)) (f : Vec F S4096x2048 .fp8e4m3)
    (h : S256x2048.ShapeCasts S256x2048) :
    ((qM.view.loc (c.tc : Thread nD τ)) ↦[hf c d 7]{fullShare} ((qM.access (ownR d c)).write (Elt F) f (shapeCast S256x2048 (quantV (mx A c)
      (oM.view.readAt (Elt F) (ownR d c).toLoadRect (oD A c E))) h) Finset.univ) : sProp 𝕄)
      ⊢ (((c.tc : Thread nD τ).loc cc0_scratch2) ↦[hf c d 7]{fullShare} (Q A)) :=
  Entails.of_eq (pointsTo_congr (fun i hi => quant_write A c d E hE f h i hi))

/-- Quantising the half block reduced in direction `d`. -/
theorem wp_quant (c : Dev nD) (d : Fin 2) (E : Finset S4096x2048.Idx) (hE : Disjoint E (hf c d 7)) (k : P F) (Q' : PUnit → sProp 𝕄) :
    iprop(oP c (oD A c E) ∗ ∃ f, Half c d f)
      ⊢ iprop(((oP c (oD A c (E ∪ hf c d 7)) ∗ Half c d (Q A)) -∗ WP c k Q') -∗ WP c (quant c d (mx A c) k) Q') := by
  unfold oP Half quant
  iintro ⟨Ho, %f, Hq⟩ Hk
  iapply (wp_ldU oM c _) $$ Ho
  iintro Ho
  iapply (wp_ld qM c (ownR d c) (S := hf c d 7) (ownR_load c d)) $$ Hq
  iintro Hq
  iapply (wp_st qM c (ownR d c) _ (S := hf c d 7) (ownR_store c d)) $$ Hq
  iintro Hq
  ihave Hq' := (quant_pts A c d E hE f _) $$ Hq
  iapply (wp_ldU oM c _) $$ Ho
  iintro Ho
  iapply (wp_stU oM c _ _) $$ Ho
  iintro Ho
  iapply Hk
  isplitl [Ho]
  · rw [quant_back A c d E hE]; iexact Ho
  iexact Hq'

end Cert.KernelIdeal.Own

end
-- ==== Proof.Gather.lean ====
/- The all-gather, step by step. -/
module

public import proofs.«01_k».proof.Proof.Maximum

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig (Fin 8) (Elt F) ℕ UU ℕ

variable (A : Args F) (K : Dev nD × Ck → ℕ)

/-! ## Pieces of the quantised result -/

def srcF (t : Fin 7) : Fin 8 := ⟨srcJ t, srcJ_lt t⟩

/-- The pieces listed in `E`, final. -/
def Qn (c : Dev nD) (E : List (Fin 2 × Fin 2 × Fin 8)) : sProp 𝕄 := bigSepL E fun p => qPts fullShare c p.1 p.2.1 p.2.2.val (Q A)

theorem Qn_cons (c : Dev nD) (d u : Fin 2) (j : Fin 8) (E : List (Fin 2 × Fin 2 × Fin 8)) :
    iprop(qPts fullShare c d u j.val (Q A) ∗ Qn A c E) ⊢ Qn A c ((d, u, j) :: E) :=
  Entails.of_eq (bigSepL_cons' (d, u, j) E fun p => (qPts fullShare c p.1 p.2.1 p.2.2.val (Q A) : sProp 𝕄)).symm

omit [FloatOps F] in
/-- A piece in two halves. -/
theorem q_split (c : Dev nD) (d u : Fin 2) (j : ℕ) (f : Vec F S4096x2048 .fp8e4m3) :
    (qPts fullShare c d u j f : sProp 𝕄) ⊢ iprop(qPts fullShare.left c d u j f ∗ qPts fullShare.right c d u j f) :=
  (pointsTo_share (PosShare.mem_left_op_right fullShare)).1
omit [FloatOps F] in
theorem q_join (c : Dev nD) (d u : Fin 2) (j : ℕ) (f : Vec F S4096x2048 .fp8e4m3) :
    iprop(qPts fullShare.left c d u j f ∗ qPts fullShare.right c d u j f) ⊢ (qPts fullShare c d u j f : sProp 𝕄) :=
  (pointsTo_share (PosShare.mem_left_op_right fullShare)).2

omit [FloatOps F] in
/-- A half block is its two pieces. -/
theorem q_pieces (q : PosShare TreeShare) (c : Dev nD) (d : Fin 2) (j : ℕ) (f : Vec F S4096x2048 .fp8e4m3) :
    (((c.tc : Thread nD τ).loc cc0_scratch2 ↦[hf c d j]{q} f) : sProp 𝕄) ⊣⊢ iprop(qPts q c d 0 j f ∗ qPts q c d 1 j f) := by
  rw [hf_eq]
  exact pointsTo_union (hf_disj c d j)

/-! ## Copies -/

theorem gthV_set (d u : Fin 2) (c : Dev nD) (t : Fin 7) : (gthV d u c t).view.set = (gthR d u c t).set := View.set_slice_whole _ _

theorem ag_pay₁ (c : Dev nD) (d u : Fin 2) (t : Fin 7) :
    (((gthV d u c t).view.loc (c.tc : Thread nD τ)) ↦[(gthV d u c t).view.set]{fullShare.left} (Q A) : sProp 𝕄) ⊢ payK A c (.snd (.ag d t u)) 0 0 := by
  rw [gthV_set, gthR_set]
  show _ ⊢ qPts fullShare.left c d u (srcJ t) (Q A)
  unfold qPts
  exact .rfl

theorem ag_pay₂ (c : Dev nD) (d u : Fin 2) (t : Fin 7) (fd : Vec F S4096x2048 .fp8e4m3) :
    (iprop((((gthV d u c t).view.loc (Dev.tc (toDev d c) : Thread nD τ)) ↦[(gthV d u c t).view.set]{fullShare}
        ((gthV d u c t).view.write (Elt F) fd ((gthV d u c t).view.read (Elt F) (Q A)) Finset.univ))
      ∗ emp) : sProp 𝕄) ⊢ payK A (toDev d c) (.rcv (.ag d t u)) 0 0 := by
  rw [gthV_set]
  show _ ⊢ qPts fullShare (toDev d c) d u t.val (Q A)
  refine (sep_mono_left (Entails.of_eq (pointsTo_congr (fun i hi => copy_q A c d u t fd (Q A) (fun _ _ => rfl) i hi)))).trans ?_
  rw [gthR_set']
  unfold qPts
  iintro ⟨H, -⟩
  iexact H

omit [FloatOps F] in
theorem lnd_ag (c : Dev nD) (d u : Fin 2) (t : Fin 7) :
    (lndAt (It.tgt c (.tr (.ag d t u))) (.tr (.ag d t u)) : sProp 𝕄) ⊢ iprop(∃ f, qPts fullShare (toDev d c) d u t.val f) := Entails.of_eq rfl

/-- Starting the copy of step `t` of stream `(d, u)`: half of the piece goes along, the other half stays. -/
theorem wp_startAG (c : Dev nD) (d u : Fin 2) (t : Fin 7) (l : List It) (D : List Ck) (k : P F) (Q' : PUnit → sProp 𝕄) :
    iprop(St A K c (.tr (.ag d t u) :: l) D ∗ qPts fullShare c d u (srcJ t) (Q A))
      ⊢ iprop(((St A K c l D ∗ Fly c (.ag d t u) ∗ qPts fullShare.right c d u (srcJ t) (Q A)) -∗ WP c k Q') -∗ WP c (startAG c d u t k) Q') := by
  unfold startAG St
  rw [bigSepL_cons']
  iintro ⟨⟨#HE, HO, ⟨⟨Hi, Hl⟩, Hit⟩, HD⟩, Hq⟩ Hk
  ihave Hl' := (lnd_ag (F := F) c d u t) $$ Hl
  icases Hl' with ⟨%fd, Hd⟩
  ihave Hq' := (q_split (F := F) c d u (srcJ t) (Q A)) $$ Hq
  icases Hq' with ⟨Hq1, Hq2⟩
  iapply (wp_start A K c (.ag d t u) l (used_ag d t u) (src := gthV d u c t) (dst := gthV d u c t) (amt_ag c d u d u t t)
    (q := fullShare.left) (fs := Q A) (fd := fd) (R := iprop(emp)) (ag_pay₁ A c d u t) (ag_pay₂ A c d u t fd)) $$ [HO Hi Hq1 Hd]
  · isplitr; · iexact HE
    isplitl [HO]; · iexact HO
    isplitl [Hi]; · iexact Hi
    isplitl [Hq1]
    · rw [gthV_set, gthR_set]; unfold qPts; iexact Hq1
    isplitl [Hd]
    · rw [gthV_set, gthR_set']; unfold qPts; iexact Hd
    iempintro
  iintro ⟨Hf, HO⟩
  iapply Hk
  isplitl [HO Hit HD]
  · isplitr; · iexact HE
    isplitl [HO]; · iexact HO
    isplitl [Hit] <;> iassumption
  isplitl [Hf] <;> iassumption

/-- A stream between two steps of the all-gather. -/
def LaneG (c : Dev nD) (d u : Fin 2) (t : Fin 7) : sProp 𝕄 := iprop(Fly c (.ag d t u) ∗ qPts fullShare.right c d u (srcJ t) (Q A))

/-- Taking step `t` of stream `(d, u)`: the half that went along is back, and the next piece has come. -/
theorem wp_takeAG (c : Dev nD) (d u : Fin 2) (t : Fin 7) (l : List It) (D : List Ck) (E : List (Fin 2 × Fin 2 × Fin 8))
    (hl : ∀ it ∈ l, 200 + t.val < it.lvl) (k : P F) (Q' : PUnit → sProp 𝕄) :
    iprop(St A K c l D ∗ LaneG A c d u t ∗ Qn A c E)
      ⊢ iprop(((St A K c l (.snd (.ag d t u) :: .rcv (.ag d t u) :: D) ∗ qPts fullShare c d u t.val (Q A) ∗ Qn A c ((d, u, srcF t) :: E)) -∗ WP c k Q')
          -∗ WP c (takeAG c d u t k) Q') := by
  unfold takeAG LaneG
  iintro ⟨HS, ⟨Hf, Hq⟩, HE⟩ Hk
  iapply (wp_take A K c (.ag d t u) l D (used_ag d t u) hl
    (wpE_waitDma2_eq (defs := defs₀ (F := F)) 𝒱₀ (c.tc : Thread nD τ) none Set.univ) (amt_ag c d u d u t t)
    (wpE_waitDma2_eq (defs := defs₀ (F := F)) 𝒱₀ (c.tc : Thread nD τ) none Set.univ) (amt_ag c d u d u t t)) $$ [HS Hf]
  · isplitl [HS]; · iexact HS
    iexact Hf
  iintro ⟨HS, Hs, Hr⟩
  ihave Hs' := (Entails.of_eq (show payK A c (.snd (.ag d t u)) 0 0 = qPts fullShare.left c d u (srcJ t) (Q A) from rfl)) $$ Hs
  ihave Hr' := (Entails.of_eq (show payK A c (.rcv (.ag d t u)) 0 0 = qPts fullShare c d u t.val (Q A) from rfl)) $$ Hr
  iapply Hk
  isplitl [HS]; · iexact HS
  isplitl [Hr']; · iexact Hr'
  iapply (Qn_cons A c d u (srcF t))
  isplitl [Hs' Hq]
  · iapply (q_join (F := F) c d u (srcJ t) (Q A))
    isplitl [Hs']; · iexact Hs'
    iexact Hq
  iexact HE

theorem ag_above (t : Fin 6) (l : List It) (hl : ∀ it ∈ l, 200 + t.val < it.lvl) (d u : Fin 2) :
    ∀ it ∈ It.tr (.ag d t.succ u) :: l, 200 + t.val < it.lvl := by
  intro it hm
  rcases List.mem_cons.mp hm with rfl | hm
  · show 200 + t.val < 200 + (t.val + 1); omega
  · exact hl it hm

/-- Step `t` of stream `(d, u)`, and the start of the next. -/
theorem wp_laneAG (c : Dev nD) (d u : Fin 2) (t : Fin 6) (l : List It) (D : List Ck) (E : List (Fin 2 × Fin 2 × Fin 8))
    (hl : ∀ it ∈ l, 200 + t.val < it.lvl) (k : P F) (Q' : PUnit → sProp 𝕄) :
    iprop(St A K c (.tr (.ag d t.succ u) :: l) D ∗ LaneG A c d u t.castSucc ∗ Qn A c E)
      ⊢ iprop(((St A K c l (.snd (.ag d t.castSucc u) :: .rcv (.ag d t.castSucc u) :: D) ∗ LaneG A c d u t.succ
            ∗ Qn A c ((d, u, srcF t.castSucc) :: E)) -∗ WP c k Q')
          -∗ WP c (takeAG c d u t.castSucc (startAG c d u t.succ k)) Q') := by
  iintro ⟨HS, HL, HE⟩ Hk
  iapply (wp_takeAG A K c d u t.castSucc _ D E (ag_above t l hl d u)) $$ [HS HL HE]
  · isplitl [HS]; · iexact HS
    isplitl [HL]; · iexact HL
    iexact HE
  iintro ⟨HS, Hq, HE⟩
  iapply (wp_startAG A K c d u t.succ l) $$ [HS Hq]
  · isplitl [HS]; · iexact HS
    iapply (Entails.of_eq (congrArg (fun j => (qPts fullShare c d u j (Q A) : sProp 𝕄)) (show t.castSucc.val = srcJ t.succ from by
      unfold srcJ; rw [if_neg (by show t.val + 1 ≠ 0; omega)]; show t.val = t.val + 1 - 1; omega)))
    iexact Hq
  iintro ⟨HS, HL⟩
  iapply Hk
  isplitl [HS]; · iexact HS
  isplitl [HL]
  · unfold LaneG; iexact HL
  iexact HE

theorem deq_load (c : Dev nD) (d : Fin 2) (t : Fin 7) : qM.view.setOn (deqR d c t).set ⊆ hf c d t.val := by
  rw [← deqR_set]; exact (load_set (b := cc0_scratch2) (deqR d c t)).subset

/-- Writing the half block received in direction `d` at step `t`. -/
theorem wp_deq (c : Dev nD) (d : Fin 2) (t : Fin 7) (q : PosShare TreeShare) (E : Finset S4096x2048.Idx) (k : P F) (Q' : PUnit → sProp 𝕄) :
    iprop(oP c (oD A c E) ∗ qPts q c d 0 t.val (Q A) ∗ qPts q c d 1 t.val (Q A))
      ⊢ iprop(((oP c (oD A c (E ∪ hf c d t.val)) ∗ qPts q c d 0 t.val (Q A) ∗ qPts q c d 1 t.val (Q A)) -∗ WP c k Q')
          -∗ WP c (deq c d t (mx A c) k) Q') := by
  unfold oP deq
  iintro ⟨Ho, Hq⟩ Hk
  ihave Hq' := (q_pieces (F := F) q c d t.val (Q A)).2 $$ Hq
  iapply (wp_ld qM c (deqR d c t) (S := hf c d t.val) (deq_load c d t)) $$ Hq'
  iintro Hq
  iapply (wp_ldU oM c _) $$ Ho
  iintro Ho
  iapply (wp_stU oM c _ _) $$ Ho
  iintro Ho
  iapply Hk
  isplitl [Ho]
  · rw [deq_write A c d t E (Q A) (fun _ _ => rfl)]; iexact Ho
  iapply (q_pieces (F := F) q c d t.val (Q A)).1
  iexact Hq

/-! ## Rows -/

/-- The elements final after `t` steps of the all-gather. -/
def fin (c : Dev nD) (t : ℕ) : Finset S4096x2048.Idx := Finset.univ.filter fun i => jOf (dOf i) c i = 7 ∨ jOf (dOf i) c i < t

theorem dOf_cases (i : S4096x2048.Idx) : dOf i = 0 ∨ dOf i = 1 := by generalize dOf i = d; revert d; decide

theorem fin_zero (c : Dev nD) : (∅ ∪ hf c 0 7) ∪ hf c 1 7 = fin c 0 := by
  ext i
  unfold fin
  rw [Finset.mem_union, Finset.mem_union, mem_hf, mem_hf, Finset.mem_filter]
  rcases dOf_cases i with e | e <;> rw [e] <;> simp

theorem fin_succ (c : Dev nD) (t : ℕ) : (fin c t ∪ hf c 0 t) ∪ hf c 1 t = fin c (t + 1) := by
  ext i
  unfold fin
  rw [Finset.mem_union, Finset.mem_union, mem_hf, mem_hf, Finset.mem_filter, Finset.mem_filter]
  rcases dOf_cases i with e | e <;> rw [e] <;> simp <;> omega

theorem fin_all (c : Dev nD) : oD A c (fin c 7) = Out A c := by
  funext i
  unfold oD fin
  rw [if_pos]
  rw [Finset.mem_filter]
  refine ⟨Finset.mem_univ _, ?_⟩
  have := jOf_lt (dOf i) c i
  omega

theorem own_disj (c : Dev nD) : Disjoint (∅ ∪ hf c 0 7) (hf c 1 7) := by
  rw [Finset.empty_union]
  refine Finset.disjoint_left.mpr fun i h0 h1 => ?_
  rw [mem_hf] at h0 h1
  rw [h0.1] at h1
  exact absurd h1.1 (by decide)

/-- The four streams between two steps. -/
def LanesG (c : Dev nD) (t : Fin 7) : sProp 𝕄 := iprop(LaneG A c 0 0 t ∗ LaneG A c 1 0 t ∗ LaneG A c 0 1 t ∗ LaneG A c 1 1 t)

/-- The semaphores and the pieces done with in a step. -/
def agDone (t : Fin 7) (D : List Ck) : List Ck :=
  .snd (.ag 1 t 1) :: .rcv (.ag 1 t 1) :: .snd (.ag 0 t 1) :: .rcv (.ag 0 t 1) ::
  .snd (.ag 1 t 0) :: .rcv (.ag 1 t 0) :: .snd (.ag 0 t 0) :: .rcv (.ag 0 t 0) :: D
def qDone (j : Fin 8) (E : List (Fin 2 × Fin 2 × Fin 8)) : List (Fin 2 × Fin 2 × Fin 8) := (1, 1, j) :: (0, 1, j) :: (1, 0, j) :: (0, 0, j) :: E

/-- The pieces just received, read while a copy of them is under way. -/
theorem lanes_deq (c : Dev nD) (d : Fin 2) (t : Fin 6) (E : Finset S4096x2048.Idx) (k : P F) (Q' : PUnit → sProp 𝕄) :
    iprop(oP c (oD A c E) ∗ LaneG A c d 0 t.succ ∗ LaneG A c d 1 t.succ)
      ⊢ iprop(((oP c (oD A c (E ∪ hf c d t.val)) ∗ LaneG A c d 0 t.succ ∗ LaneG A c d 1 t.succ) -∗ WP c k Q')
          -∗ WP c (deq c d t.castSucc (mx A c) k) Q') := by
  have hj : srcJ t.succ = t.castSucc.val := by unfold srcJ; rw [if_neg (by show t.val + 1 ≠ 0; omega)]; show t.val + 1 - 1 = t.val; omega
  unfold LaneG
  rw [hj]
  iintro ⟨Ho, ⟨Hf0, Hq0⟩, Hf1, Hq1⟩ Hk
  iapply (wp_deq A c d t.castSucc fullShare.right E) $$ [Ho Hq0 Hq1]
  · isplitl [Ho]; · iexact Ho
    isplitl [Hq0]; · iexact Hq0
    iexact Hq1
  iintro ⟨Ho, Hq0, Hq1⟩
  iapply Hk
  isplitl [Ho]; · iexact Ho
  isplitl [Hf0 Hq0]
  · isplitl [Hf0]; · iexact Hf0
    iexact Hq0
  isplitl [Hf1]; · iexact Hf1
  iexact Hq1

/-- Step `t` of the all-gather. -/
theorem wp_rowAG (c : Dev nD) (t : Fin 6) (l : List It) (D : List Ck) (E : List (Fin 2 × Fin 2 × Fin 8))
    (hl : ∀ it ∈ l, 200 + t.val < it.lvl) (k : P F) (Q' : PUnit → sProp 𝕄) :
    iprop(St A K c (agRow t.succ ++ l) D ∗ LanesG A c t.castSucc ∗ Qn A c E ∗ oP c (oD A c (fin c t.val)))
      ⊢ iprop(((St A K c l (agDone t.castSucc D) ∗ LanesG A c t.succ ∗ Qn A c (qDone (srcF t.castSucc) E) ∗ oP c (oD A c (fin c (t.val + 1)))) -∗ WP c k Q')
          -∗ WP c (rowAG c t (mx A c) k) Q') := by
  have h1 := ag_above t l hl 1 1
  have h2 := ag_above t _ h1 0 1
  have h3 := ag_above t _ h2 1 0
  unfold LanesG rowAG agRow
  iintro ⟨HS, ⟨L00, L10, L01, L11⟩, HE, Ho⟩ Hk
  iapply (wp_laneAG A K c 0 0 t _ D E h3) $$ [HS L00 HE]
  · isplitl [HS]; · iexact HS
    isplitl [L00]; · iexact L00
    iexact HE
  iintro ⟨HS, L00, HE⟩
  iapply (wp_laneAG A K c 1 0 t _ _ _ h2) $$ [HS L10 HE]
  · isplitl [HS]; · iexact HS
    isplitl [L10]; · iexact L10
    iexact HE
  iintro ⟨HS, L10, HE⟩
  iapply (wp_laneAG A K c 0 1 t _ _ _ h1) $$ [HS L01 HE]
  · isplitl [HS]; · iexact HS
    isplitl [L01]; · iexact L01
    iexact HE
  iintro ⟨HS, L01, HE⟩
  iapply (wp_laneAG A K c 1 1 t _ _ _ hl) $$ [HS L11 HE]
  · isplitl [HS]; · iexact HS
    isplitl [L11]; · iexact L11
    iexact HE
  iintro ⟨HS, L11, HE⟩
  iapply (lanes_deq A c 0 t (fin c t.val)) $$ [Ho L00 L01]
  · isplitl [Ho]; · iexact Ho
    isplitl [L00]; · iexact L00
    iexact L01
  iintro ⟨Ho, L00, L01⟩
  iapply (lanes_deq A c 1 t _) $$ [Ho L10 L11]
  · isplitl [Ho]; · iexact Ho
    isplitl [L10]; · iexact L10
    iexact L11
  rw [fin_succ]
  iintro ⟨Ho, L10, L11⟩
  iapply Hk
  isplitl [HS]; · iexact HS
  isplitl [L00 L10 L01 L11]
  · isplitl [L00]; · iexact L00
    isplitl [L10]; · iexact L10
    isplitl [L01]; · iexact L01
    iexact L11
  isplitl [HE]; · iexact HE
  iexact Ho

/-- The last step of the all-gather. -/
theorem wp_lastAG (c : Dev nD) (D : List Ck) (E : List (Fin 2 × Fin 2 × Fin 8)) (k : P F) (Q' : PUnit → sProp 𝕄) :
    iprop(St A K c [] D ∗ LanesG A c 6 ∗ Qn A c E ∗ oP c (oD A c (fin c 6)))
      ⊢ iprop(((St A K c [] (agDone 6 D) ∗ Qn A c (qDone 6 (qDone (srcF 6) E)) ∗ oP c (Out A c)) -∗ WP c k Q')
          -∗ WP c (lastAG c (mx A c) k) Q') := by
  have hl : ∀ it ∈ ([] : List It), 200 + (6 : Fin 7).val < it.lvl := fun it hm => absurd hm List.not_mem_nil
  unfold LanesG lastAG
  iintro ⟨HS, ⟨L00, L10, L01, L11⟩, HE, Ho⟩ Hk
  iapply (wp_takeAG A K c 0 0 6 _ D E hl) $$ [HS L00 HE]
  · isplitl [HS]; · iexact HS
    isplitl [L00]; · iexact L00
    iexact HE
  iintro ⟨HS, Q00, HE⟩
  iapply (wp_takeAG A K c 1 0 6 _ _ _ hl) $$ [HS L10 HE]
  · isplitl [HS]; · iexact HS
    isplitl [L10]; · iexact L10
    iexact HE
  iintro ⟨HS, Q10, HE⟩
  iapply (wp_takeAG A K c 0 1 6 _ _ _ hl) $$ [HS L01 HE]
  · isplitl [HS]; · iexact HS
    isplitl [L01]; · iexact L01
    iexact HE
  iintro ⟨HS, Q01, HE⟩
  iapply (wp_takeAG A K c 1 1 6 _ _ _ hl) $$ [HS L11 HE]
  · isplitl [HS]; · iexact HS
    isplitl [L11]; · iexact L11
    iexact HE
  iintro ⟨HS, Q11, HE⟩
  iapply (wp_deq A c 0 6 fullShare (fin c 6)) $$ [Ho Q00 Q01]
  · isplitl [Ho]; · iexact Ho
    isplitl [Q00]; · iexact Q00
    iexact Q01
  iintro ⟨Ho, Q00, Q01⟩
  iapply (wp_deq A c 1 6 fullShare _) $$ [Ho Q10 Q11]
  · isplitl [Ho]; · iexact Ho
    isplitl [Q10]; · iexact Q10
    iexact Q11
  iintro ⟨Ho, Q10, Q11⟩
  iapply Hk
  isplitl [HS]; · iexact HS
  isplitl [HE Q00 Q10 Q01 Q11]
  · unfold qDone
    iapply (Qn_cons A c 1 1 6); isplitl [Q11]; · iexact Q11
    iapply (Qn_cons A c 0 1 6); isplitl [Q01]; · iexact Q01
    iapply (Qn_cons A c 1 0 6); isplitl [Q10]; · iexact Q10
    iapply (Qn_cons A c 0 0 6); isplitl [Q00]; · iexact Q00
    iexact HE
  iapply (Entails.of_eq (congrArg (oP c) ((congrArg (oD A c) (fin_succ c 6)).trans (fin_all A c))))
  iexact Ho

end Cert.KernelIdeal.Own

end
-- ==== Proof.Body.lean ====
/- The body of the kernel on one device. -/
module

public import proofs.«01_k».proof.Proof.Gather

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig (Fin 8) (Elt F) ℕ UU ℕ

variable (A : Args F) (K : Dev nD × Ck → ℕ)

/-! ## What is still to be paid at each stage -/

abbrev ag6 : List It := agRow 6 ++ []
abbrev ag5 : List It := agRow 5 ++ ag6
abbrev ag4 : List It := agRow 4 ++ ag5
abbrev ag3 : List It := agRow 3 ++ ag4
abbrev ag2 : List It := agRow 2 ++ ag3
abbrev ag1 : List It := agRow 1 ++ ag2
theorem agL_eq : agL = .tr (.ag 0 0 0) :: .tr (.ag 1 0 0) :: .tr (.ag 0 0 1) :: .tr (.ag 1 0 1) :: ag1 := rfl
abbrev ax3 : List It := .tr (.ax 0 3) :: agL
abbrev ax2 : List It := axRow 2 ++ ax3
abbrev ax1 : List It := axRow 1 ++ ax2
theorem axL_eq : axL = axRow 0 ++ ax1 := rfl
abbrev rs5 : List It := rsRow 5 ++ axL
abbrev rs4 : List It := rsRow 4 ++ rs5
abbrev rs3 : List It := rsRow 3 ++ rs4
abbrev rs2 : List It := rsRow 2 ++ rs3
abbrev rs1 : List It := rsRow 1 ++ rs2
theorem rsL_eq : rsL = rsRow 0 ++ rs1 := rfl
theorem post_eq : post = .tr (.rs 0 0 0) :: .tr (.rs 1 0 0) :: .tr (.rs 0 0 1) :: .tr (.rs 1 0 1) :: rsL := rfl

theorem above_rs0 : ∀ it ∈ rs1, 10 + 10 * (0 : Fin 6).val + 4 < it.lvl := by decide +kernel
theorem above_rs1 : ∀ it ∈ rs2, 10 + 10 * (1 : Fin 6).val + 4 < it.lvl := by decide +kernel
theorem above_rs2 : ∀ it ∈ rs3, 10 + 10 * (2 : Fin 6).val + 4 < it.lvl := by decide +kernel
theorem above_rs3 : ∀ it ∈ rs4, 10 + 10 * (3 : Fin 6).val + 4 < it.lvl := by decide +kernel
theorem above_rs4 : ∀ it ∈ rs5, 10 + 10 * (4 : Fin 6).val + 4 < it.lvl := by decide +kernel
theorem above_rs5 : ∀ it ∈ axL, 10 + 10 * (5 : Fin 6).val + 4 < it.lvl := by decide +kernel
theorem above_rs6 : ∀ it ∈ axL, 70 < it.lvl := by decide +kernel
theorem above_ax0 : ∀ it ∈ ax1, 100 + (0 : Fin 4).val < it.lvl := by decide +kernel
theorem above_ax1 : ∀ it ∈ ax2, 100 + (1 : Fin 4).val < it.lvl := by decide +kernel
theorem above_ax2 : ∀ it ∈ ax3, 100 + (2 : Fin 4).val < it.lvl := by decide +kernel
theorem above_ax3 : ∀ it ∈ agL, 100 + (3 : Fin 4).val < it.lvl := by decide +kernel
theorem above_ag0 : ∀ it ∈ ag2, 200 + (0 : Fin 6).val < it.lvl := by decide +kernel
theorem above_ag1 : ∀ it ∈ ag3, 200 + (1 : Fin 6).val < it.lvl := by decide +kernel
theorem above_ag2 : ∀ it ∈ ag4, 200 + (2 : Fin 6).val < it.lvl := by decide +kernel
theorem above_ag3 : ∀ it ∈ ag5, 200 + (3 : Fin 6).val < it.lvl := by decide +kernel
theorem above_ag4 : ∀ it ∈ ag6, 200 + (4 : Fin 6).val < it.lvl := by decide +kernel
theorem above_ag5 : ∀ it ∈ ([] : List It), 200 + (5 : Fin 6).val < it.lvl := fun _ h => absurd h List.not_mem_nil

/-! ## The all-gather -/

/-- The semaphores and the pieces done with in the all-gather. -/
def agAll (D : List Ck) : List Ck := agDone 6 (agDone 5 (agDone 4 (agDone 3 (agDone 2 (agDone 1 (agDone 0 D))))))
def qAll : List (Fin 2 × Fin 2 × Fin 8) := qDone 6 (qDone 5 (qDone 4 (qDone 3 (qDone 2 (qDone 1 (qDone 0 (qDone 7 [])))))))

/-- The first copy of stream `(d, u)` of the all-gather. -/
theorem wp_firstAG (c : Dev nD) (d u : Fin 2) (l : List It) (D : List Ck) (k : P F) (Q' : PUnit → sProp 𝕄) :
    iprop(St A K c (.tr (.ag d 0 u) :: l) D ∗ qPts fullShare c d u 7 (Q A))
      ⊢ iprop(((St A K c l D ∗ LaneG A c d u 0) -∗ WP c k Q') -∗ WP c (startAG c d u 0 k) Q') :=
  wp_startAG A K c d u 0 l D k Q'

/-- A row of the all-gather, its indices given apart. -/
theorem wp_rowAG_at (c : Dev nD) (t : Fin 6) (t₀ t₁ : Fin 7) (n₀ n₁ : ℕ) (l₀ l : List It) (D : List Ck) (E : List (Fin 2 × Fin 2 × Fin 8))
    (hl : ∀ it ∈ l, 200 + t.val < it.lvl) (k : P F) (Q' : PUnit → sProp 𝕄)
    (h₀ : t₀ = t.castSucc) (h₁ : t₁ = t.succ) (hn₀ : n₀ = t.val) (hn₁ : n₁ = t.val + 1) (hl₀ : l₀ = agRow t.succ ++ l) :
    iprop(St A K c l₀ D ∗ LanesG A c t₀ ∗ Qn A c E ∗ oP c (oD A c (fin c n₀)))
      ⊢ iprop(((St A K c l (agDone t₀ D) ∗ LanesG A c t₁ ∗ Qn A c (qDone (srcF t₀) E) ∗ oP c (oD A c (fin c n₁))) -∗ WP c k Q')
          -∗ WP c (rowAG c t (mx A c) k) Q') := by
  subst h₀ h₁ hn₀ hn₁ hl₀
  exact wp_rowAG A K c t l D E hl k Q'

theorem wp_phaseAG (c : Dev nD) (D : List Ck) (k : P F) (Q' : PUnit → sProp 𝕄) :
    iprop(St A K c agL D ∗ Half c 0 (Q A) ∗ Half c 1 (Q A) ∗ oP c (oD A c (fin c 0)))
      ⊢ iprop(((St A K c [] (agAll D) ∗ Qn A c qAll ∗ oP c (Out A c)) -∗ WP c k Q') -∗ WP c (phaseAG c (mx A c) k) Q') := by
  rw [agL_eq]
  unfold phaseAG Half
  iintro ⟨HS, H0, H1, Ho⟩ Hk
  ihave H0' := (q_pieces (F := F) fullShare c 0 7 (Q A)).1 $$ H0
  ihave H1' := (q_pieces (F := F) fullShare c 1 7 (Q A)).1 $$ H1
  icases H0' with ⟨Q00, Q01⟩
  icases H1' with ⟨Q10, Q11⟩
  iapply (wp_firstAG A K c 0 0 _ D) $$ [HS Q00]
  · isplitl [HS]; · iexact HS
    iexact Q00
  iintro ⟨HS, L00⟩
  iapply (wp_firstAG A K c 1 0 _ D) $$ [HS Q10]
  · isplitl [HS]; · iexact HS
    iexact Q10
  iintro ⟨HS, L10⟩
  iapply (wp_firstAG A K c 0 1 _ D) $$ [HS Q01]
  · isplitl [HS]; · iexact HS
    iexact Q01
  iintro ⟨HS, L01⟩
  iapply (wp_firstAG A K c 1 1 _ D) $$ [HS Q11]
  · isplitl [HS]; · iexact HS
    iexact Q11
  iintro ⟨HS, L11⟩
  iapply (wp_rowAG_at A K c 0 0 1 0 1 ag1 ag2 D [] above_ag0 _ _ rfl rfl rfl rfl rfl) $$ [HS L00 L10 L01 L11 Ho]
  · isplitl [HS]; · iexact HS
    isplitl [L00 L10 L01 L11]
    · unfold LanesG
      isplitl [L00]; · iexact L00
      isplitl [L10]; · iexact L10
      isplitl [L01]; · iexact L01
      iexact L11
    isplitr [Ho]; · unfold Qn; rw [bigSepL_nil]; iempintro
    iexact Ho
  iintro HS
  iapply (wp_rowAG_at A K c 1 1 2 1 2 ag2 ag3 _ _ above_ag1 _ _ rfl rfl rfl rfl rfl) $$ HS
  iintro HS
  iapply (wp_rowAG_at A K c 2 2 3 2 3 ag3 ag4 _ _ above_ag2 _ _ rfl rfl rfl rfl rfl) $$ HS
  iintro HS
  iapply (wp_rowAG_at A K c 3 3 4 3 4 ag4 ag5 _ _ above_ag3 _ _ rfl rfl rfl rfl rfl) $$ HS
  iintro HS
  iapply (wp_rowAG_at A K c 4 4 5 4 5 ag5 ag6 _ _ above_ag4 _ _ rfl rfl rfl rfl rfl) $$ HS
  iintro HS
  iapply (wp_rowAG_at A K c 5 5 6 5 6 ag6 [] _ _ above_ag5 _ _ rfl rfl rfl rfl rfl) $$ HS
  iintro HS
  iapply (wp_lastAG A K c _ _) $$ HS
  iintro ⟨HS, HE, Ho⟩
  iapply Hk
  isplitl [HS]; · iexact HS
  isplitl [HE]
  · iapply (Entails.of_eq (congrArg (Qn A c) (show _ = qAll from rfl))); iexact HE
  iexact Ho

/-! ## The maximum and the quantiser -/

def axAll (D : List Ck) : List Ck :=
  .snd (.ax 0 3) :: .rcv (.ax 0 3) ::
  .snd (.ax 1 2) :: .rcv (.ax 1 2) :: .snd (.ax 0 2) :: .rcv (.ax 0 2) ::
  .snd (.ax 1 1) :: .rcv (.ax 1 1) :: .snd (.ax 0 1) :: .rcv (.ax 0 1) ::
  .snd (.ax 1 0) :: .rcv (.ax 1 0) :: .snd (.ax 0 0) :: .rcv (.ax 0 0) :: D
def rAll : List (Fin 2 × Fin 4) := [(0, 3), (1, 2), (0, 2), (1, 1), (0, 1), (1, 0), (0, 0), (1, 3)]

theorem wp_phaseAX (c : Dev nD) (D : List Ck) (k : P F) (Q' : PUnit → sProp 𝕄) :
    iprop(St A K c axL D ∗ Aslots c ∗ Rn c [(1, 3)] ∗ (∃ f, Half c 0 f) ∗ (∃ f, Half c 1 f) ∗ oP c (oD A c ∅))
      ⊢ iprop(((St A K c [] (agAll (axAll D)) ∗ Aslots c ∗ Rn c rAll ∗ Qn A c qAll ∗ oP c (Out A c)) -∗ WP c k Q') -∗ WP c (phaseAX c k) Q') := by
  rw [axL_eq]
  unfold phaseAX
  iintro ⟨HS, HA, HR, H0, H1, Ho⟩ Hk
  iapply (wp_amaxStart A c) $$ Ho
  iintro Ho
  iapply (wp_hopAX A K c 0 (by decide) ax1 D [(1, 3)] above_ax0) $$ [HS HA HR]
  · isplitl [HS]; · iexact HS
    isplitl [HA]; · iexact HA
    iexact HR
  iintro HS
  iapply (wp_hopAX A K c 1 (by decide) ax2 _ _ above_ax1) $$ HS
  iintro HS
  iapply (wp_hopAX A K c 2 (by decide) ax3 _ _ above_ax2) $$ HS
  iintro ⟨HS, HA, HR⟩
  unfold Aslots
  icases HA with ⟨HA0, HA1⟩
  iapply (wp_startAX A K c 0 3 (by decide) agL _) $$ [HS HA0]
  · isplitl [HS]; · iexact HS
    iexact HA0
  iintro ⟨HS, Hf⟩
  iapply (wp_takeAX A K c 0 3 (by decide) agL _ above_ax3) $$ [HS Hf]
  · isplitl [HS]; · iexact HS
    iexact Hf
  iintro ⟨HS, HA0, Hr⟩
  iapply (wp_quant A c 0 ∅ (Finset.disjoint_empty_left _)) $$ [Ho H0]
  · isplitl [Ho]; · iexact Ho
    iexact H0
  iintro ⟨Ho, H0⟩
  iapply (wp_quant A c 1 (∅ ∪ hf c 0 7) (own_disj c)) $$ [Ho H1]
  · isplitl [Ho]; · iexact Ho
    iexact H1
  rw [fin_zero]
  iintro ⟨Ho, H1⟩
  iapply (wp_phaseAG A K c _) $$ [HS H0 H1 Ho]
  · isplitl [HS]; · iexact HS
    isplitl [H0]; · iexact H0
    isplitl [H1]; · iexact H1
    iexact Ho
  iintro ⟨HS, HQ, Ho⟩
  iapply Hk
  isplitl [HS]; · iexact HS
  isplitl [HA0 HA1]
  · isplitl [HA0]; · iexact HA0
    iexact HA1
  isplitl [HR Hr]
  · unfold rAll
    iapply (Rn_cons (F := F) c 0 3)
    isplitl [Hr]; · iexact Hr
    iexact HR
  isplitl [HQ]; · iexact HQ
  iexact Ho

/-! ## The reduce-scatter -/

def rsAll (D : List Ck) : List Ck := lastDone (rowDone 5 (rowDone 4 (rowDone 3 (rowDone 2 (rowDone 1 (rowDone 0 D))))))

/-- A row of the reduce-scatter, its indices given apart. -/
theorem wp_rowRS_at (c : Dev nD) (s : Fin 6) (s₀ s₁ : Fin 7) (n₀ n₁ : ℕ) (l₀ l : List It) (D : List Ck)
    (hl : ∀ it ∈ l, 10 + 10 * s.val + 4 < it.lvl) (k : P F) (Q' : PUnit → sProp 𝕄)
    (h₀ : s₀ = s.castSucc) (h₁ : s₁ = s.succ) (hn₀ : n₀ = s.val) (hn₁ : n₁ = s.val + 1) (hl₀ : l₀ = rsRow s ++ l) :
    iprop(St A K c l₀ D ∗ Lanes c s₀ ∗ oP c (oRS A c (row n₀)))
      ⊢ iprop(((St A K c l (rowDone s₀ D) ∗ Lanes c s₁ ∗ oP c (oRS A c (row n₁))) -∗ WP c k Q')
          -∗ WP c (rowRS c s k) Q') := by
  subst h₀ h₁ hn₀ hn₁ hl₀
  exact wp_rowRS A K c s l D hl k Q'

theorem wp_phaseRS (c : Dev nD) (D : List Ck) (k : P F) (Q' : PUnit → sProp 𝕄) :
    iprop((St A K c rsL D ∗ Lanes c 0 ∗ oP c (oRS A c (row 0))) ∗ Aslots c ∗ Rn c [(1, 3)] ∗ (∃ f, Half c 0 f) ∗ (∃ f, Half c 1 f))
      ⊢ iprop(((St A K c [] (agAll (axAll (rsAll D))) ∗ Slots c ∗ Aslots c ∗ Rn c rAll ∗ Qn A c qAll ∗ oP c (Out A c)) -∗ WP c k Q')
          -∗ WP c (phaseRS c k) Q') := by
  rw [rsL_eq]
  unfold phaseRS
  iintro ⟨HS, HA, HR, H0, H1⟩ Hk
  iapply (wp_rowRS_at A K c 0 0 1 0 1 (rsRow 0 ++ rs1) rs1 D above_rs0 _ _ rfl rfl rfl rfl rfl) $$ HS
  iintro HS
  iapply (wp_rowRS_at A K c 1 1 2 1 2 rs1 rs2 _ above_rs1 _ _ rfl rfl rfl rfl rfl) $$ HS
  iintro HS
  iapply (wp_rowRS_at A K c 2 2 3 2 3 rs2 rs3 _ above_rs2 _ _ rfl rfl rfl rfl rfl) $$ HS
  iintro HS
  iapply (wp_rowRS_at A K c 3 3 4 3 4 rs3 rs4 _ above_rs3 _ _ rfl rfl rfl rfl rfl) $$ HS
  iintro HS
  iapply (wp_rowRS_at A K c 4 4 5 4 5 rs4 rs5 _ above_rs4 _ _ rfl rfl rfl rfl rfl) $$ HS
  iintro HS
  iapply (wp_rowRS_at A K c 5 5 6 5 6 rs5 axL _ above_rs5 _ _ rfl rfl rfl rfl rfl) $$ HS
  iintro HS
  iapply (wp_lastRS A K c axL _ above_rs6) $$ HS
  iintro ⟨HS, HL, Ho⟩
  iapply (wp_phaseAX A K c _) $$ [HS HA HR H0 H1 Ho]
  · isplitl [HS]; · iexact HS
    isplitl [HA]; · iexact HA
    isplitl [HR]; · iexact HR
    isplitl [H0]; · iexact H0
    isplitl [H1]; · iexact H1
    iexact Ho
  iintro ⟨HS, HA, HR, HQ, Ho⟩
  iapply Hk
  isplitl [HS]; · iexact HS
  isplitl [HL]; · iexact HL
  isplitl [HA]; · iexact HA
  isplitl [HR]; · iexact HR
  isplitl [HQ]; · iexact HQ
  iexact Ho

/-! ## The products -/

theorem off1_eq (c : Dev nD) : k0_off1 c = ![512 * chunkAt 0 c 0, 0] := by revert c; decide +kernel
theorem off2_eq (c : Dev nD) : k0_off2 c = ![512 * chunkAt 0 c 0, 0] := by revert c; decide +kernel
theorem off7_eq (c : Dev nD) (t : Fin 7) : k0_off7 c t = ![512 * chunkAt 0 c (t.val + 1), 0] := by
  fin_cases t <;> revert c <;> decide +kernel
theorem off8_eq (c : Dev nD) (t : Fin 7) : k0_off8 c t = ![512 * chunkAt 0 c (t.val + 1), 0] := by
  fin_cases t <;> revert c <;> decide +kernel

theorem wp_gemmAt (c : Dev nD) (t : Fin 7) (n₀ n₁ : ℕ) (k : P F) (Q' : PUnit → sProp 𝕄) (h₀ : n₀ = t.val + 1) (h₁ : n₁ = t.val + 2) :
    Gm A c n₀ ⊢ iprop((Gm A c n₁ -∗ WP c k Q') -∗ WP c (gemmAt c t k) Q') := by
  subst h₀ h₁
  unfold gemmAt
  exact wp_gemm A c (t.val + 1) (by omega) _ _ _ _ (off7_eq c t) (off8_eq c t) k Q'

/-! ## The body -/

/-- What the body starts from, and what it leaves. -/
def Begin (c : Dev nD) : sProp 𝕄 :=
  iprop((Env A K ∗ Ow c items ∗ itR c (.bar 0) ∗ itR c (.bar 1) ∗ atPos ER (cell c .bar) 0 ∅ 0 ∗ cred (tallyAt (cell c .bar) 0 2)
        ∗ bigSepL post (itR c) ∗ bigSepL post (lndAt c))
    ∗ (CrAt c 0 0 0 ∗ CrAt c 1 0 0 ∗ CrAt c 0 1 0 ∗ CrAt c 1 1 0)
    ∗ ((∃ f, sPts c 0 0 f) ∗ (∃ f, sPts c 1 0 f) ∗ (∃ f, sPts c 0 1 f) ∗ (∃ f, sPts c 1 1 f))
    ∗ (atPos ER (cell c (.snd (.ax 1 3))) 0 ∅ 0 ∗ atPos ER (cell c (.rcv (.ax 1 3))) 0 ∅ 0)
    ∗ (Aslots c ∗ Rn c [(1, 3)] ∗ (∃ f, Half c 0 f) ∗ (∃ f, Half c 1 f))
    ∗ Gm A c 0)
def ckDone : List Ck := .snd (.ax 1 3) :: .rcv (.ax 1 3) :: agAll (axAll (rsAll [.bar]))
def End (c : Dev nD) : sProp 𝕄 :=
  iprop(Ow c [] ∗ Dn c ckDone ∗ Slots c ∗ Aslots c ∗ Rn c rAll ∗ Qn A c qAll ∗ xP c (A.x c) ∗ wP c (A.w c) ∗ oP c (Out A c))

theorem ckDone_perm : ckDone.Nodup ∧ ∀ k, k ∈ ckDone := by decide +kernel

/-- A semaphore that is never used. -/
theorem close_idle (c : Dev nD) (k : Ck) (h : ∀ r, k.duties r = ∅) :
    iprop(Env A K ∗ atPos ER (cell c k) 0 ∅ 0) ⊢ iprop(|={Set.univ}=> semVal (cell c k) 0) :=
  (sep_mono_left (Env_inv A K c k)).trans
    (Rounds.cell_close ER (Rd A) (Set.mem_univ (K (c, k))) (fun h => h) fun r' hr => by rw [duties_eq]; exact h r')

theorem wp_body (c : Dev nD) (Q' : PUnit → sProp 𝕄) :
    Begin A K c ⊢ iprop((End A c -∗ Q' ⟨⟩) -∗ WP c (bodyAt c) Q') := by
  unfold Begin bodyAt
  iintro ⟨HB, ⟨C00, C10, C01, C11⟩, ⟨S00, S10, S01, S11⟩, ⟨HI1, HI2⟩, HX, HG⟩ Hk
  iapply (wp_barrier A K c) $$ HB
  iintro HS
  iapply (wp_gemm A c 0 (by decide) _ _ _ _ (off1_eq c) (off2_eq c)) $$ HG
  unfold Gm
  iintro ⟨Hx, Hw, %f, %hf, Ho⟩
  rw [post_eq]
  iapply (wp_first A K c 0 0 _ [.bar] f (GInv_first A c hf 0 0)) $$ [HS S00 C00 Ho]
  · isplitl [HS]; · iexact HS
    isplitl [S00]; · iexact S00
    isplitl [C00]; · iexact C00
    iexact Ho
  iintro ⟨HS, L00, Ho⟩
  iapply (wp_first A K c 1 0 _ [.bar] f (GInv_first A c hf 1 0)) $$ [HS S10 C10 Ho]
  · isplitl [HS]; · iexact HS
    isplitl [S10]; · iexact S10
    isplitl [C10]; · iexact C10
    iexact Ho
  iintro ⟨HS, L10, Ho⟩
  iapply (wp_first A K c 0 1 _ [.bar] f (GInv_first A c hf 0 1)) $$ [HS S01 C01 Ho]
  · isplitl [HS]; · iexact HS
    isplitl [S01]; · iexact S01
    isplitl [C01]; · iexact C01
    iexact Ho
  iintro ⟨HS, L01, Ho⟩
  iapply (wp_first A K c 1 1 _ [.bar] f (GInv_first A c hf 1 1)) $$ [HS S11 C11 Ho]
  · isplitl [HS]; · iexact HS
    isplitl [S11]; · iexact S11
    isplitl [C11]; · iexact C11
    iexact Ho
  iintro ⟨HS, L11, Ho⟩
  ihave HG := (show iprop(xP c (A.x c) ∗ wP c (A.w c) ∗ oP c f) ⊢ Gm A c 1 from by
    unfold Gm
    iintro ⟨Hx, Hw, Ho⟩
    isplitl [Hx]; · iexact Hx
    isplitl [Hw]; · iexact Hw
    iexists f
    isplitr; · ipureintro; exact hf
    iexact Ho) $$ [Hx Hw Ho]
  · isplitl [Hx]; · iexact Hx
    isplitl [Hw]; · iexact Hw
    iexact Ho
  iapply (wp_gemmAt A c 0 1 2 _ _ rfl rfl) $$ HG
  iintro HG
  iapply (wp_gemmAt A c 1 2 3 _ _ rfl rfl) $$ HG
  iintro HG
  iapply (wp_gemmAt A c 2 3 4 _ _ rfl rfl) $$ HG
  iintro HG
  iapply (wp_gemmAt A c 3 4 5 _ _ rfl rfl) $$ HG
  iintro HG
  iapply (wp_gemmAt A c 4 5 6 _ _ rfl rfl) $$ HG
  iintro HG
  iapply (wp_gemmAt A c 5 6 7 _ _ rfl rfl) $$ HG
  iintro HG
  iapply (wp_gemmAt A c 6 7 8 _ _ rfl rfl) $$ HG
  unfold Gm
  iintro ⟨Hx, Hw, %g, %hg, Ho⟩
  obtain rfl := GInv_all A c hg
  iapply (wp_phaseRS A K c [.bar]) $$ [HS L00 L10 L01 L11 Ho HX]
  · isplitr [HX]
    · isplitl [HS]; · iexact HS
      isplitl [L00 L10 L01 L11]
      · unfold Lanes Lane
        isplitl [L00]; · iexact L00
        isplitl [L10]; · iexact L10
        isplitl [L01]; · iexact L01
        iexact L11
      iexact Ho
    iexact HX
  unfold St
  iintro ⟨⟨#HE, HO, -, HD⟩, HR⟩
  imod (close_idle A K c (.snd (.ax 1 3)) (fun r => if_neg (fun h => absurd h.2 (by decide)))) $$ [HI1] with Hz1
  · isplitr; · iexact HE
    iexact HI1
  imod (close_idle A K c (.rcv (.ax 1 3)) (fun r => if_neg (fun h => absurd h.2 (by decide)))) $$ [HI2] with Hz2
  · isplitr; · iexact HE
    iexact HI2
  rw [wp_ret]
  imodintro
  iapply Hk
  unfold End
  icases HR with ⟨HR1, HR2, HR3, HR4, Ho⟩
  isplitl [HO]; · iexact HO
  isplitl [HD Hz1 Hz2]
  · unfold ckDone
    iapply (Dn_cons (F := F) c (.snd (.ax 1 3))); isplitl [Hz1]; · iexact Hz1
    iapply (Dn_cons (F := F) c (.rcv (.ax 1 3))); isplitl [Hz2]; · iexact Hz2
    iexact HD
  isplitl [HR1]; · iexact HR1
  isplitl [HR2]; · iexact HR2
  isplitl [HR3]; · iexact HR3
  isplitl [HR4]; · iexact HR4
  isplitl [Hx]; · iexact Hx
  isplitl [Hw]; · iexact Hw
  iexact Ho

end Cert.KernelIdeal.Own

end
-- ==== Proof.Buffers.lean ====
/- The buffers a device is given at launch, cut into the pieces the copies move, and put together again at the end. -/
module

public import proofs.«01_k».proof.Proof.Body

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig (Fin 8) (Elt F) ℕ UU ℕ

variable (A : Args F) (K : Dev nD × Ck → ℕ)

/-! ## Lists and finite sets -/

omit [FloatOps F] in
/-- Only the entries that hold something count. -/
theorem bigSepL_filter {I : Type} (p : I → Bool) (l : List I) (Φ : I → sProp 𝕄) (h : ∀ i, p i = false → Φ i = iprop(emp)) :
    bigSepL (l.filter p) Φ = bigSepL l Φ := by
  induction l with
  | nil => rfl
  | cons i l ih =>
    rw [bigSepL_cons', List.filter_cons]
    cases e : p i with
    | true => rw [if_pos rfl, bigSepL_cons', ih]
    | false => rw [if_neg (by decide), ih, h i e]; exact (equiv_iff.mp BI.emp_sep).symm

omit [FloatOps F] in
/-- Some entries of a finite type, the rest let go. -/
theorem bigSep_take {I : Type} [Fintype I] [DecidableEq I] (l : List I) (hl : l.Nodup) (Φ : I → sProp 𝕄) : bigSep Finset.univ Φ ⊢ bigSepL l Φ :=
  (bigSep_subset (Finset.subset_univ l.toFinset)).trans (Entails.of_eq (bigSep_eq_bigSepL_of_eq l rfl hl Φ))

omit [FloatOps F] in
/-- A buffer cut into pieces. -/
theorem split_whole {I : Type} [Fintype I] [DecidableEq I] (ℓ : Loc nD τ sig) (R : I → Finset (Idx ℓ)) (hc : Finset.univ.biUnion R = Finset.univ)
    (hd : ∀ i j, i ≠ j → Disjoint (R i) (R j)) :
    iprop(∃ f, ℓ ↦{fullShare} f) ⊢ (bigSep Finset.univ fun i => iprop(∃ f, ℓ ↦[R i]{fullShare} f) : sProp 𝕄) := by
  iintro ⟨%f, H⟩
  iapply (show (ℓ ↦{fullShare} f : sProp 𝕄) ⊢ bigSep Finset.univ fun i => iprop(∃ f, ℓ ↦[R i]{fullShare} f) from by
    rw [← hc, pointsTo_biUnion Finset.univ R fun i _ j _ h => hd i j h]
    exact bigSep_mono fun i _ => show (ℓ ↦[R i]{fullShare} f : sProp 𝕄) ⊢ iprop(∃ f, ℓ ↦[R i]{fullShare} f) from by iintro H; iexists f; iexact H)
  iexact H

omit [FloatOps F] in
/-- The pieces put together. -/
theorem join_whole {I : Type} [Fintype I] [DecidableEq I] (ℓ : Loc nD τ sig) (R : I → Finset (Idx ℓ)) (hc : Finset.univ.biUnion R = Finset.univ)
    (hd : ∀ i j, i ≠ j → Disjoint (R i) (R j)) (f₀ : Buf (Elt F) ℓ) :
    (bigSep Finset.univ fun i => iprop(∃ f, ℓ ↦[R i]{fullShare} f) : sProp 𝕄) ⊢ iprop(∃ f, ℓ ↦{fullShare} f) := by
  haveI : Nonempty (Buf (Elt F) ℓ) := ⟨f₀⟩
  iintro H
  ihave H' := (BI.bigSep_exists_pi Finset.univ fun (i : I) (f : Buf (Elt F) ℓ) => (ℓ ↦[R i]{fullShare} f : sProp 𝕄)) $$ H
  icases H' with ⟨%y, H⟩
  ihave H' := (pointsTo_biUnion_join Finset.univ R y f₀ fun i _ j _ h => hd i j h) $$ H
  icases H' with ⟨%g, -, H⟩
  iexists g
  iapply (Entails.of_eq (congrArg (fun S => (ℓ ↦[S]{fullShare} g : sProp 𝕄)) hc))
  iexact H

omit [FloatOps F] in
theorem four {I : Type} (a b c d : I) (Φ : I → sProp 𝕄) : bigSepL [a, b, c, d] Φ = iprop(Φ a ∗ Φ b ∗ Φ c ∗ Φ d) := rfl

/-! ## The pieces of each buffer -/

theorem slot_cover : (Finset.univ : Finset (Fin 2 × Fin 2)).biUnion (fun p => (slotR p.1 p.2).set) = Finset.univ := by
  ext i
  simp only [Finset.mem_biUnion, Finset.mem_univ, true_and, iff_true]
  refine ⟨(i 0, i 1), Rect.mem_set_unit.mpr fun a => ?_⟩
  have := (i a).isLt
  fin_cases a
  · exact ⟨le_rfl, Nat.lt_succ_self _⟩
  · exact ⟨le_rfl, Nat.lt_succ_self _⟩
  · exact ⟨Nat.zero_le _, by simpa using this⟩
  · exact ⟨Nat.zero_le _, by simpa using this⟩
theorem slot_disj (p p' : Fin 2 × Fin 2) (h : p ≠ p') : Disjoint (slotR p.1 p.2).set (slotR p'.1 p'.2).set := by
  refine Finset.disjoint_left.mpr fun i h1 h2 => h ?_
  rw [Rect.mem_set_unit] at h1 h2
  have a0 := h1 0; have a1 := h1 1; have b0 := h2 0; have b1 := h2 1
  change p.1.val ≤ (i 0).val ∧ (i 0).val < p.1.val + 1 at a0
  change p.2.val ≤ (i 1).val ∧ (i 1).val < p.2.val + 1 at a1
  change p'.1.val ≤ (i 0).val ∧ (i 0).val < p'.1.val + 1 at b0
  change p'.2.val ≤ (i 1).val ∧ (i 1).val < p'.2.val + 1 at b1
  exact Prod.ext (Fin.ext (by omega)) (Fin.ext (by omega))

theorem a_cover : (Finset.univ : Finset (Fin 2)).biUnion (fun d => (aR d).set) = Finset.univ := by
  ext i
  simp only [Finset.mem_biUnion, Finset.mem_univ, true_and, iff_true]
  refine ⟨i 0, Rect.mem_set_unit.mpr fun a => ?_⟩
  have := (i a).isLt
  fin_cases a
  · exact ⟨le_rfl, Nat.lt_succ_self _⟩
  · exact ⟨Nat.zero_le _, by simpa using this⟩
  · exact ⟨Nat.zero_le _, by simpa using this⟩
theorem a_disj (d d' : Fin 2) (h : d ≠ d') : Disjoint (aR d).set (aR d').set := by
  refine Finset.disjoint_left.mpr fun i h1 h2 => h ?_
  rw [Rect.mem_set_unit] at h1 h2
  have a0 := h1 0; have b0 := h2 0
  change d.val ≤ (i 0).val ∧ (i 0).val < d.val + 1 at a0
  change d'.val ≤ (i 0).val ∧ (i 0).val < d'.val + 1 at b0
  exact Fin.ext (by omega)

theorem r_cover : (Finset.univ : Finset (Fin 2 × Fin 4)).biUnion (fun p => (rR p.1 p.2).set) = Finset.univ := by
  ext i
  simp only [Finset.mem_biUnion, Finset.mem_univ, true_and, iff_true]
  refine ⟨(i 0, i 1), Rect.mem_set_unit.mpr fun a => ?_⟩
  have := (i a).isLt
  fin_cases a
  · exact ⟨le_rfl, Nat.lt_succ_self _⟩
  · exact ⟨le_rfl, Nat.lt_succ_self _⟩
  · exact ⟨Nat.zero_le _, by simpa using this⟩
  · exact ⟨Nat.zero_le _, by simpa using this⟩
theorem r_disj (p p' : Fin 2 × Fin 4) (h : p ≠ p') : Disjoint (rR p.1 p.2).set (rR p'.1 p'.2).set := by
  refine Finset.disjoint_left.mpr fun i h1 h2 => h ?_
  rw [Rect.mem_set_unit] at h1 h2
  have a0 := h1 0; have a1 := h1 1; have b0 := h2 0; have b1 := h2 1
  change p.1.val ≤ (i 0).val ∧ (i 0).val < p.1.val + 1 at a0
  change p.2.val ≤ (i 1).val ∧ (i 1).val < p.2.val + 1 at a1
  change p'.1.val ≤ (i 0).val ∧ (i 0).val < p'.1.val + 1 at b0
  change p'.2.val ≤ (i 1).val ∧ (i 1).val < p'.2.val + 1 at b1
  exact Prod.ext (Fin.ext (by omega)) (Fin.ext (by omega))

theorem q_disj (c : Dev nD) (p p' : Fin 2 × Fin 2 × Fin 8) (h : p ≠ p') :
    Disjoint (pc c p.1 p.2.1 p.2.2.val) (pc c p'.1 p'.2.1 p'.2.2.val) :=
  pc_disj c fun e => h (Prod.ext (congrArg (·.1) e) (Prod.ext (congrArg (·.2.1) e) (Fin.ext (congrArg (·.2.2) e))))

/-! ## The scratch buffers -/

/-- A scratch buffer, whatever it holds. -/
abbrev Whole (c : Dev nD) (b : Ref sig .tc) : sProp 𝕄 := iprop(∃ f : Buf (Elt F) ((c.tc : Thread nD τ).loc b), ((c.tc : Thread nD τ).loc b) ↦{fullShare} f)

def axIx : List (Fin 2 × Fin 4) := [(0, 0), (1, 0), (0, 1), (1, 1), (0, 2), (1, 2), (0, 3)]
def agIx : List (Fin 2 × Fin 2 × Fin 7) := (List.finRange 7).flatMap fun t => pairs.map fun p => (p.1, p.2, t)
def qIx : List (Fin 2 × Fin 2 × Fin 8) := [(0, 0, 7), (0, 1, 7), (1, 0, 7), (1, 1, 7)] ++ agIx.map fun p => (p.1, p.2.1, p.2.2.castSucc)

/-- An item that comes with a landing place. -/
def It.lands : It → Bool
  | .tr (.rs _ s _) => s = 0
  | .tr _ => true
  | _ => false

theorem post_lands : post.filter It.lands
    = (pairs.map fun p => It.tr (.rs p.1 0 p.2)) ++ ((axIx.map fun p => It.tr (.ax p.1 p.2)) ++ agIx.map fun p => It.tr (.ag p.1 p.2.2 p.2.1)) := by decide +kernel

omit [FloatOps F] in
theorem lnd_none (c : Dev nD) (it : It) (h : it.lands = false) : (lndAt c it : sProp 𝕄) = iprop(emp) := by
  cases it with
  | bar d => rfl
  | cr d u s => rfl
  | tr x => cases x with
    | rs d s u =>
      obtain ⟨s, hs⟩ := s
      cases s with
      | zero => simp [It.lands] at h
      | succ n => rfl
    | ax d h' => simp [It.lands] at h
    | ag d t u => simp [It.lands] at h

omit [FloatOps F] in
/-- The landing places of a device: the landing slots, the places for the maxima, the pieces of the gathered array. -/
theorem lnd_eq (c : Dev nD) : (bigSepL post (lndAt c) : sProp 𝕄)
    = iprop((bigSepL pairs fun p => iprop(∃ f, cPts c p.1 p.2 f)) ∗ (bigSepL axIx fun p => iprop(∃ f, rPts c p.1 p.2 f))
        ∗ bigSepL agIx fun p => iprop(∃ f, qPts fullShare c p.1 p.2.1 p.2.2.val f)) := by
  rw [← bigSepL_filter It.lands post (lndAt c) (lnd_none c), post_lands, bigSepL_append, bigSepL_append, bigSepL_map, bigSepL_map, bigSepL_map]
  rfl

theorem pairs_all : (Finset.univ : Finset (Fin 2 × Fin 2)) = pairs.toFinset ∧ pairs.Nodup := by decide +kernel
theorem rIx_all : (Finset.univ : Finset (Fin 2 × Fin 4)) = ((1, 3) :: axIx).toFinset ∧ ((1, 3) :: axIx).Nodup := by decide +kernel
theorem rAll_all : (Finset.univ : Finset (Fin 2 × Fin 4)) = rAll.toFinset ∧ rAll.Nodup := by decide +kernel
theorem qIx_all : (Finset.univ : Finset (Fin 2 × Fin 2 × Fin 8)) = qIx.toFinset ∧ qIx.Nodup := by decide +kernel
theorem qAll_all : (Finset.univ : Finset (Fin 2 × Fin 2 × Fin 8)) = qAll.toFinset ∧ qAll.Nodup := by decide +kernel

omit [FloatOps F] in
theorem split_c (c : Dev nD) : Whole c cc0_scratch0 ⊢ (bigSepL pairs fun p => iprop(∃ f, cPts c p.1 p.2 f) : sProp 𝕄) :=
  (split_whole ((c.tc : Thread nD τ).loc cc0_scratch0) (fun p : Fin 2 × Fin 2 => (slotR p.1 p.2).set) slot_cover slot_disj).trans
    (Entails.of_eq (bigSep_univ_eq_bigSepL pairs pairs_all.1 pairs_all.2 _))
omit [FloatOps F] in
theorem split_s (c : Dev nD) : Whole c cc0_scratch1 ⊢ (bigSepL pairs fun p => iprop(∃ f, sPts c p.1 p.2 f) : sProp 𝕄) :=
  (split_whole ((c.tc : Thread nD τ).loc cc0_scratch1) (fun p : Fin 2 × Fin 2 => (slotR p.1 p.2).set) slot_cover slot_disj).trans
    (Entails.of_eq (bigSep_univ_eq_bigSepL pairs pairs_all.1 pairs_all.2 _))
omit [FloatOps F] in
theorem split_a (c : Dev nD) : Whole c cc0_scratch3 ⊢ (Aslots c : sProp 𝕄) :=
  (split_whole ((c.tc : Thread nD τ).loc cc0_scratch3) (fun d : Fin 2 => (aR d).set) a_cover a_disj).trans
    (Entails.of_eq (bigSep_univ_eq_bigSepL [0, 1] (by decide) (by decide) _))
omit [FloatOps F] in
theorem split_r (c : Dev nD) : Whole c cc0_scratch4 ⊢ (iprop(Rn c [(1, 3)] ∗ bigSepL axIx fun p => iprop(∃ f, rPts c p.1 p.2 f)) : sProp 𝕄) :=
  (split_whole ((c.tc : Thread nD τ).loc cc0_scratch4) (fun p : Fin 2 × Fin 4 => (rR p.1 p.2).set) r_cover r_disj).trans
    (Entails.of_eq ((bigSep_univ_eq_bigSepL _ rIx_all.1 rIx_all.2 _).trans (bigSepL_cons' _ _ _)))
theorem split_q (c : Dev nD) : Whole c cc0_scratch2
    ⊢ (iprop(((∃ f, Half c 0 f) ∗ ∃ f, Half c 1 f) ∗ bigSepL agIx fun p => iprop(∃ f, qPts fullShare c p.1 p.2.1 p.2.2.val f)) : sProp 𝕄) := by
  have half (d : Fin 2) : iprop((∃ f, qPts fullShare c d 0 7 f) ∗ ∃ f, qPts fullShare c d 1 7 f) ⊢ (iprop(∃ f, Half c d f) : sProp 𝕄) := by
    iintro ⟨⟨%f, H0⟩, %g, H1⟩
    iexists (fun i => if i ∈ pc c d 0 7 then f i else g i)
    unfold Half
    iapply (q_pieces (F := F) fullShare c d 7 _).2
    unfold qPts
    isplitl [H0]
    · iapply (Entails.of_eq (pointsTo_congr fun i hi => (if_pos hi).symm)); iexact H0
    · iapply (Entails.of_eq (pointsTo_congr fun i hi => (if_neg fun h => Finset.disjoint_left.mp (hf_disj c d 7) h hi).symm)); iexact H1
  refine (split_whole ((c.tc : Thread nD τ).loc cc0_scratch2) (fun p : Fin 2 × Fin 2 × Fin 8 => pc c p.1 p.2.1 p.2.2.val) (pc_cover c) (q_disj c)).trans
    ((Entails.of_eq (bigSep_univ_eq_bigSepL qIx qIx_all.1 qIx_all.2 _)).trans ?_)
  unfold qIx
  rw [bigSepL_append, bigSepL_map, four]
  iintro ⟨⟨H00, H01, H10, H11⟩, H⟩
  isplitr [H]
  · isplitl [H00 H01]
    · iapply (half 0)
      isplitl [H00]; · iexact H00
      iexact H01
    · iapply (half 1)
      isplitl [H10]; · iexact H10
      iexact H11
  iexact H

theorem join_cs (A : Args F) (c : Dev nD) : (Slots c : sProp 𝕄) ⊢ iprop(Whole c cc0_scratch0 ∗ Whole c cc0_scratch1) := by
  have jc : (bigSepL pairs fun p => iprop(∃ f, cPts c p.1 p.2 f) : sProp 𝕄) ⊢ Whole c cc0_scratch0 :=
    (Entails.of_eq (bigSep_univ_eq_bigSepL pairs pairs_all.1 pairs_all.2 _).symm).trans
      (join_whole ((c.tc : Thread nD τ).loc cc0_scratch0) (fun p : Fin 2 × Fin 2 => (slotR p.1 p.2).set) slot_cover slot_disj (sB A 0 c))
  have js : (bigSepL pairs fun p => iprop(∃ f, sPts c p.1 p.2 f) : sProp 𝕄) ⊢ Whole c cc0_scratch1 :=
    (Entails.of_eq (bigSep_univ_eq_bigSepL pairs pairs_all.1 pairs_all.2 _).symm).trans
      (join_whole ((c.tc : Thread nD τ).loc cc0_scratch1) (fun p : Fin 2 × Fin 2 => (slotR p.1 p.2).set) slot_cover slot_disj (sB A 0 c))
  unfold Slots
  iintro ⟨⟨C0, S0⟩, ⟨C1, S1⟩, ⟨C2, S2⟩, C3, S3⟩
  isplitl [C0 C1 C2 C3]
  · iapply jc
    iapply (Entails.of_eq (four (0, 0) (1, 0) (0, 1) (1, 1) fun p : Fin 2 × Fin 2 => (iprop(∃ f, cPts c p.1 p.2 f) : sProp 𝕄)).symm)
    isplitl [C0]; · iexact C0
    isplitl [C1]; · iexact C1
    isplitl [C2]; · iexact C2
    iexact C3
  · iapply js
    iapply (Entails.of_eq (four (0, 0) (1, 0) (0, 1) (1, 1) fun p : Fin 2 × Fin 2 => (iprop(∃ f, sPts c p.1 p.2 f) : sProp 𝕄)).symm)
    isplitl [S0]; · iexact S0
    isplitl [S1]; · iexact S1
    isplitl [S2]; · iexact S2
    iexact S3
theorem join_a (A : Args F) (c : Dev nD) : (Aslots c : sProp 𝕄) ⊢ Whole c cc0_scratch3 :=
  (Entails.of_eq (bigSep_univ_eq_bigSepL [0, 1] (by decide) (by decide) fun d : Fin 2 => (iprop(∃ f, aPts c d f) : sProp 𝕄)).symm).trans
    (join_whole ((c.tc : Thread nD τ).loc cc0_scratch3) (fun d : Fin 2 => (aR d).set) a_cover a_disj (fun _ => rAx A 0 0 c))
theorem join_r (A : Args F) (c : Dev nD) : (Rn c rAll : sProp 𝕄) ⊢ Whole c cc0_scratch4 :=
  (Entails.of_eq (bigSep_univ_eq_bigSepL rAll rAll_all.1 rAll_all.2 fun p : Fin 2 × Fin 4 => (iprop(∃ f, rPts c p.1 p.2 f) : sProp 𝕄)).symm).trans
    (join_whole ((c.tc : Thread nD τ).loc cc0_scratch4) (fun p : Fin 2 × Fin 4 => (rR p.1 p.2).set) r_cover r_disj (fun _ => rAx A 0 0 c))
theorem join_q (c : Dev nD) : Qn A c qAll ⊢ Whole c cc0_scratch2 := by
  refine (show Qn A c qAll ⊢ bigSepL qAll fun p => iprop(∃ f, qPts fullShare c p.1 p.2.1 p.2.2.val f) from
    BI.bigSepL_mono fun p _ => by iintro H; iexists (Q A); iexact H).trans ?_
  exact (Entails.of_eq (bigSep_univ_eq_bigSepL qAll qAll_all.1 qAll_all.2 _).symm).trans
    (join_whole ((c.tc : Thread nD τ).loc cc0_scratch2) (fun p : Fin 2 × Fin 2 × Fin 8 => pc c p.1 p.2.1 p.2.2.val) (pc_cover c) (q_disj c) (Q A))

end Cert.KernelIdeal.Own

end
-- ==== Proof.Ghost.lean ====
/- The protocol set up at launch: every cell's invariant, and on every device what it pays and waits with. -/
module

public import proofs.«01_k».proof.Proof.Buffers

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig (Fin 8) (Elt F) ℕ UU ℕ

variable (A : Args F) (K : Dev nD × Ck → ℕ)

/-! ## Transfers among the items -/

def It.tr? : It → Option Tr
  | .tr x => some x
  | _ => none
/-- The transfers of a device, in the order of the program. -/
def trL : List Tr := items.filterMap It.tr?

/-- A resource for each transfer among the items. -/
def onTr (Φ : Tr → sProp 𝕄) : It → sProp 𝕄
  | .tr x => Φ x
  | _ => iprop(emp)

omit [FloatOps F] in
theorem bigSepL_tr (l : List It) (Φ : Tr → sProp 𝕄) : bigSepL (l.filterMap It.tr?) Φ = bigSepL l (onTr Φ) := by
  induction l with
  | nil => rfl
  | cons it l ih =>
    rw [bigSepL_cons', List.filterMap_cons]
    cases it with
    | bar d => exact ih.trans (equiv_iff.mp BI.emp_sep).symm
    | cr d u s => exact ih.trans (equiv_iff.mp BI.emp_sep).symm
    | tr x => exact (bigSepL_cons' _ _ _).trans (congrArg (fun P : sProp 𝕄 => iprop(Φ x ∗ P)) ih)

/-- Around the ring: who is paid, from who pays. -/
def It.turn : It → (Dev nD ≃ Dev nD)
  | .bar d => (ring d).symm
  | .cr d _ _ => (ring d).symm
  | .tr x => ring x.dir
theorem turn_eq (it : It) (c : Dev nD) : it.turn c = it.tgt c := by cases it <;> rfl

omit [FloatOps F] in
/-- What each device has for its own items, given to those who pay them. -/
theorem around (l : List It) (Φ : Dev nD → It → sProp 𝕄) :
    (bigSep Finset.univ fun c : Dev nD => bigSepL l (Φ c)) = bigSep Finset.univ fun c : Dev nD => bigSepL l fun it => Φ (it.tgt c) it := by
  induction l with
  | nil => rfl
  | cons it l ih =>
    simp only [bigSepL_cons']
    rw [bigSep_sep', bigSep_sep', ih, bigSep_univ_equiv it.turn fun c => Φ c it]
    simp only [turn_eq]

/-! ## Cells and tokens -/

abbrev kcell (p : Dev nD × Ck) : GSem nD τ sig := cell p.1 p.2
def ringCells : Finset (GSem nD τ sig) := Finset.univ.map ⟨kcell, cell_inj⟩

abbrev tokOf (p : Dev nD × (Ck × Fin 8 × Fin 2)) : GSem nD τ sig × ℕ × Fin 2 := (cell p.1 p.2.1, p.2.2.1.val, p.2.2.2)
theorem tokOf_inj : Function.Injective tokOf := by
  rintro ⟨c, k, r, d⟩ ⟨c', k', r', d'⟩ h
  have h1 : (c, k) = (c', k') := cell_inj (congrArg Prod.fst h)
  have h2 : r = r' := Fin.ext (congrArg (fun x : GSem nD τ sig × ℕ × Fin 2 => x.2.1) h)
  have h3 : d = d' := congrArg (fun x : GSem nD τ sig × ℕ × Fin 2 => x.2.2) h
  obtain ⟨rfl, rfl⟩ := Prod.mk.inj h1
  rw [h2, h3]
def ringToks : Finset (GSem nD τ sig × ℕ × Fin 2) := Finset.univ.map ⟨tokOf, tokOf_inj⟩

def u₀ : UU :=
  (initOf (Pipeline.cells (nD := nD) (τ := τ) cfgs cellOf_inj) (Pipeline.launchToks cfgs cellOf_inj), initOf ringCells ringToks)

/-- The tokens of the duties of one device's own cells that are paid by anyone. -/
def tokIx : List (Ck × Fin 8 × Fin 2) := (items.map fun it => (it.key, it.ix, it.duty)) ++ trL.map fun x => (.snd x, 0, 0)
theorem tokIx_nodup : tokIx.Nodup := by decide +kernel

/-- The cells a device waits at. -/
def posL : List Ck := [.bar, .cr 0 0, .cr 1 0, .cr 0 1, .cr 1 1, .snd (.ax 1 3), .rcv (.ax 1 3)] ++ (trL.map .snd ++ trL.map .rcv)
theorem posL_nodup : posL.Nodup := by decide +kernel

variable (A : Args F)

/-- What the launch deals a device. -/
def Deal (c : Dev nD) : sProp 𝕄 :=
  iprop((bigSep Finset.univ fun k : Ck => roundState ER (Rd A) (kcell (c, k)) 0)
    ∗ (bigSep Finset.univ fun k : Ck => iprop(atPos ER (kcell (c, k)) 0 ∅ 0 ∗ reached ER (kcell (c, k)) 0))
    ∗ bigSep Finset.univ fun t : Ck × Fin 8 × Fin 2 => dutyTok ER (cell c t.1) t.2.1.val t.2.2)

theorem fund_ring : BI.own (ER (initOf ringCells ringToks)) ⊢ (|==> bigSep Finset.univ (Deal A) : sProp 𝕄) := by
  have hX (Φ : GSem nD τ sig → sProp 𝕄) : bigSep ringCells Φ = bigSep Finset.univ fun c : Dev nD => bigSep Finset.univ fun k : Ck => Φ (kcell (c, k)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun t : Ck × Fin 8 × Fin 2 => (dutyTok ER (cell c t.1) t.2.1.val t.2.2 : sProp 𝕄) := by
    unfold ringToks; rw [bigSep_map, bigSep_univ_prod]; rfl
  iintro HX
  imod (Rounds.fund ER (Rd A) ringCells ringToks) $$ HX with ⟨Hst, Hr, Hat, Htok⟩
  imodintro
  ihave Hst' := (Entails.of_eq (hX fun g => roundState ER (Rd A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Deal; simp only [bigSep_sep']
  isplitl [Hst']; · iexact Hst'
  isplitl [Hat' Hr']
  · isplitl [Hat'] <;> iassumption
  iexact Htok'

/-! ## Semaphores -/

/-- All semaphores of the protocol but the barrier are the kernel's own. -/
abbrev OwnCk : Type := {k : Ck // k ≠ .bar}
def osem (k : OwnCk) : SemLoc sig := csem k.1

theorem scoped_own (k : Ck) (h : k ≠ .bar) : (csem k).isScoped .tc = true := by
  cases k with
  | bar => exact absurd rfl h
  | cr d u => clear h; revert d u; decide +kernel
  | snd x => exact (show ∀ i : DmaSem sig, (SemLoc.dma i : SemLoc sig).isScoped .tc = true by decide +kernel) _
  | rcv x => exact (show ∀ i : DmaSem sig, (SemLoc.dma i : SemLoc sig).isScoped .tc = true by decide +kernel) _

theorem stage_dec : ∀ (w : Fin 3) (s : Fin (spec0 w).nbuf), dec (.dma ((spec0 w).sem s)) = none := by decide +kernel

theorem ownSemFacts : Pipeline.OwnSemFacts cfg0.spec osem :=
  ⟨fun k => scoped_own k.1 k.2, fun a b h => Subtype.ext (csem_inj h), fun k w s h => by
    have := congrArg dec h
    unfold osem at this
    rw [dec_csem] at this
    exact Option.some_ne_none _ (this.trans (stage_dec w s))⟩

omit [FloatOps F] in
theorem unscopedSems0_eq (c : Dev nD) : (unscopedSems0 c : sProp 𝕄) = semVal (cell c .bar) 0 := by
  unfold unscopedSems0; rw [bigSep_eq_bigSepL_of_eq [SemLoc.reg barSem] (by decide +kernel) (by decide)]; rfl

omit [FloatOps F] in
theorem sems0_eq (c : Dev nD) :
    iprop(unscopedSems0 c ∗ Pipeline.ownSems0 (Ix := Fin 8) (Name := ℕ) (U := UU) (Lvl := ℕ) (Val := Elt F) (τ := τ) osem c)
      = (bigSep Finset.univ fun k : Ck => semVal (kcell (c, k)) 0 : sProp 𝕄) := by
  rw [unscopedSems0_eq, bigSep_univ_at (fun k : Ck => (semVal (kcell (c, k)) 0 : sProp 𝕄)) .bar]
  refine congrArg (fun P : sProp 𝕄 => iprop(semVal (cell c .bar) 0 ∗ P)) ?_
  refine (bigSep_subtype (fun k : Ck => k ≠ .bar) fun k : Ck => (semVal (kcell (c, k)) 0 : sProp 𝕄)).trans ?_
  rw [Finset.filter_ne']

/-! ## The invariants, and what each device gets -/

theorem core_alloc (c : Dev nD) :
    iprop(Pipeline.ownSems0 (Ix := Fin 8) (Name := ℕ) (U := UU) (Lvl := ℕ) (Val := Elt F) (τ := τ) osem c ∗ unscopedSems0 c ∗ Deal A c)
      ⊢ |={Set.univ}=> iprop((bigSep Finset.univ fun k => iprop(∃ κ : ℕ, cellInv ER (Rd A) κ (kcell (c, k))))
          ∗ (bigSep Finset.univ fun k : Ck => iprop(atPos ER (kcell (c, k)) 0 ∅ 0 ∗ reached ER (kcell (c, k)) 0))
          ∗ bigSep Finset.univ fun t : Ck × Fin 8 × Fin 2 => dutyTok ER (cell c t.1) t.2.1.val t.2.2) := by
  unfold Deal
  iintro ⟨Hos, Hus, Hst, Hat, Htok⟩
  ihave Hv := (Entails.of_eq (sems0_eq (F := F) c)) $$ [Hos Hus]
  · isplitl [Hus] <;> iassumption
  imod (show iprop((bigSep Finset.univ fun k : Ck => semVal (kcell (c, k)) 0) ∗ bigSep Finset.univ fun k : Ck => roundState ER (Rd A) (kcell (c, k)) 0)
      ⊢ (|={Set.univ}=> bigSep Finset.univ fun k => iprop(∃ κ : ℕ, cellInv ER (Rd A) κ (kcell (c, k))) : sProp 𝕄) from by
        rw [← bigSep_sep']
        exact (bigSep_mono fun k _ => (Rounds.body_intro ER (Rd A) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The invariants, and that every cell is at its first round. -/
def Rec (K : Dev nD × Ck → ℕ) : sProp 𝕄 :=
  iprop((bigSep Finset.univ fun p : Dev nD × Ck => cellInv ER (Rd A) (K p) (kcell p))
    ∗ bigSep Finset.univ fun p : Dev nD × Ck => reached ER (kcell p) 0)
instance Rec_persistent (K : Dev nD × Ck → ℕ) : BI.Persistent (Rec A K) := by unfold Rec; infer_instance

/-- A device's positions; the tokens it pays others with; the tokens of its own sending semaphores. -/
def Pos (c : Dev nD) : sProp 𝕄 := bigSepL posL fun k => atPos ER (cell c k) 0 ∅ 0
def Pay (c : Dev nD) : sProp 𝕄 := bigSepL items fun it => dutyTok ER (cell (it.tgt c) it.key) it.ix.val it.duty
def Snd (c : Dev nD) : sProp 𝕄 := bigSepL trL fun x => dutyTok ER (cell c (.snd x)) 0 0
def G' (c : Dev nD) : sProp 𝕄 := iprop(∃ K, Rec A K ∗ Pos c ∗ Pay c ∗ Snd c)

omit [FloatOps F] in
theorem toks_around : (bigSep Finset.univ fun c : Dev nD => bigSep Finset.univ fun t : Ck × Fin 8 × Fin 2 => (dutyTok ER (cell c t.1) t.2.1.val t.2.2 : sProp 𝕄))
    ⊢ iprop((bigSep Finset.univ fun c : Dev nD => Pay c) ∗ bigSep Finset.univ fun c : Dev nD => Snd c) := by
  refine (bigSep_mono fun c _ => bigSep_take tokIx tokIx_nodup _).trans ?_
  unfold tokIx
  simp only [bigSepL_append, bigSepL_map]
  rw [bigSep_sep', around items fun c it => dutyTok ER (cell c it.key) it.ix.val it.duty]
  exact BI.Entails.refl _

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  iintro ⟨HR, H⟩
  ihave HR' := (BI.bigSep_of_persistent S R) $$ HR
  iapply (show iprop(bigSep S (fun _ => R) ∗ bigSep S Φ) ⊢ bigSep S Ψ from by rw [← bigSep_sep']; exact bigSep_mono h)
  isplitl [HR'] <;> iassumption

theorem regroup :
    (bigSep Finset.univ fun c : Dev nD => iprop((bigSep Finset.univ fun k => iprop(∃ κ : ℕ, cellInv ER (Rd A) κ (kcell (c, k))))
          ∗ (bigSep Finset.univ fun k : Ck => iprop(atPos ER (kcell (c, k)) 0 ∅ 0 ∗ reached ER (kcell (c, k)) 0))
          ∗ bigSep Finset.univ fun t : Ck × Fin 8 × Fin 2 => dutyTok ER (cell c t.1) t.2.1.val t.2.2) : sProp 𝕄)
      ⊢ bigSep Finset.univ (G' A) := by
  rw [bigSep_sep', bigSep_sep', ← bigSep_univ_prod (fun p : Dev nD × Ck => iprop(∃ κ : ℕ, cellInv ER (Rd A) κ (kcell p))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun p : Dev nD × Ck => (reached ER (kcell p) 0 : sProp 𝕄))]
  iintro ⟨HI, ⟨Hat, #HR⟩, Htok⟩
  ihave HK := (BI.bigSep_exists_pi Finset.univ (fun (p : Dev nD × Ck) (κ : ℕ) => (cellInv ER (Rd A) κ (kcell p) : sProp 𝕄))) $$ HI
  icases HK with ⟨%K, #HI⟩
  ihave Htk := (toks_around (F := F)) $$ Htok
  icases Htk with ⟨HP, HS⟩
  ihave Hpos := (show (bigSep Finset.univ fun c : Dev nD => bigSep Finset.univ fun k : Ck => (atPos ER (kcell (c, k)) 0 ∅ 0 : sProp 𝕄))
      ⊢ bigSep Finset.univ fun c : Dev nD => Pos c from bigSep_mono fun c _ => bigSep_take posL posL_nodup _) $$ Hat
  iapply (with_persistent (R := Rec A K) fun c _ => show iprop(Rec A K ∗ (Pos c ∗ Pay c ∗ Snd c)) ⊢ G' A c from by
    unfold G'
    iintro H
    iexists K
    iexact H)
  isplitr
  · unfold Rec; isplitl; · iexact HI
    iexact HR
  · rw [bigSep_sep', bigSep_sep']
    isplitl [Hpos]; · iexact Hpos
    isplitl [HP] <;> iassumption

/-- The cells of every device at once. -/
theorem glob : (bigSep Finset.univ fun c => iprop(Pipeline.ownSems0 (Ix := Fin 8) (Name := ℕ) (U := UU) (Lvl := ℕ) (Val := Elt F) (τ := τ) osem c ∗ unscopedSems0 c ∗ Deal A c) : sProp 𝕄)
    ⊢ |={Set.univ}=> bigSep Finset.univ (G' A) :=
  ((bigSep_mono fun c _ => core_alloc A c).trans (bigSep_fupd _ _)).trans (BI.fupd_mono (regroup A))

/-! ## The credits -/

def Crd (c : Dev nD) (l : List It) : sProp 𝕄 := bigSepL l fun it => cred (tallyAt (cell c it.key) it.ix it.amt)

omit [FloatOps F] in
theorem creds (c : Dev nD) (l : List It) : (Pipeline.launchCred (fun d => oweL d l) c : sProp 𝕄) ⊢ Crd c l := by
  induction l with
  | nil => exact Entails.of_eq (Pipeline.launchCred_zero c)
  | cons it l ih =>
    refine (Entails.of_eq (Pipeline.launchCred_add (fun d => oweL d l) (fun d => tallyAt (cell (it.tgt d) it.key) it.ix it.amt) c)).trans ?_
    unfold Crd
    rw [bigSepL_cons', Pipeline.launchCred_of_sum (fun d => tallyAt (cell (it.tgt d) it.key) it.ix it.amt) (fun d => tallyAt (cell d it.key) it.ix it.amt)
      (by
        refine (Finset.sum_congr rfl fun d _ => ?_).trans (Equiv.sum_comp it.turn fun d => (tallyAt (cell d it.key) it.ix it.amt : CellTallies nD τ sig (Fin 8)))
        rw [turn_eq])
      (fun d g h => by
        by_contra hg
        exact h (tallyAt_ne_cell (fun e : g = cell d it.key => hg (congrArg Prod.fst e)) _ _)) c]
    iintro ⟨H, Hc⟩
    isplitl [Hc]; · iexact Hc
    iapply (show (Pipeline.launchCred (fun d => oweL d l) c : sProp 𝕄) ⊢ bigSepL l fun it => cred (tallyAt (cell c it.key) it.ix it.amt) from ih)
    iexact H

end Cert.KernelIdeal.Own

end
-- ==== Proof.Start.lean ====
/- The launch: eight devices run the body from any memory, each with its operands as the arrays hold them. -/
module

public import proofs.«01_k».proof.Proof.Ghost
public import Idealize.ShloMosaic.Lib.Pipeline.ValueKit

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig (Fin 8) (Elt F) ℕ UU ℕ

variable (A : Args F) (K : Dev nD × Ck → ℕ)

/-! ## From what the launch gives to what the body starts with -/

/-- What a device gets from the launch. -/
def start (c : Dev nD) : sProp 𝕄 := iprop(G' A c ∗ Crd c items ∗ levAts L lv)

/-- The five scratch buffers. -/
def Scr (c : Dev nD) : sProp 𝕄 :=
  iprop(Whole c cc0_scratch0 ∗ Whole c cc0_scratch1 ∗ Whole c cc0_scratch2 ∗ Whole c cc0_scratch3 ∗ Whole c cc0_scratch4)

/-- The two ends of a device's transfers. -/
abbrev At (c : Dev nD) (k : Ck) : sProp 𝕄 := atPos ER (cell c k) 0 ∅ 0

omit [FloatOps F] in
theorem seven {I : Type} (a b c d e f g : I) (Φ : I → sProp 𝕄) :
    bigSepL [a, b, c, d, e, f, g] Φ = iprop(Φ a ∗ Φ b ∗ Φ c ∗ Φ d ∗ Φ e ∗ Φ f ∗ Φ g) := rfl

omit [FloatOps F] in
theorem pos_eq (c : Dev nD) : (Pos c : sProp 𝕄)
    = iprop((At c .bar ∗ At c (.cr 0 0) ∗ At c (.cr 1 0) ∗ At c (.cr 0 1) ∗ At c (.cr 1 1) ∗ At c (.snd (.ax 1 3)) ∗ At c (.rcv (.ax 1 3)))
        ∗ (bigSepL trL fun x => At c (.snd x)) ∗ bigSepL trL fun x => At c (.rcv x)) := by
  unfold Pos posL
  rw [bigSepL_append, bigSepL_append, bigSepL_map, bigSepL_map, seven]

/-- All a device keeps for an item. -/
def Each (c : Dev nD) (it : It) : sProp 𝕄 :=
  iprop(dutyTok ER (cell (it.tgt c) it.key) it.ix.val it.duty ∗ cred (tallyAt (cell c it.key) it.ix it.amt)
    ∗ onTr (fun x => dutyTok ER (cell c (.snd x)) 0 0) it ∗ onTr (fun x => At c (.snd x)) it ∗ onTr (fun x => At c (.rcv x)) it)

omit [FloatOps F] in
theorem each_all (c : Dev nD) :
    iprop(Pay c ∗ Crd c items ∗ Snd c ∗ (bigSepL trL fun x => At c (.snd x)) ∗ bigSepL trL fun x => At c (.rcv x))
      ⊢ (bigSepL items (Each c) : sProp 𝕄) := by
  unfold Pay Crd Snd trL
  rw [bigSepL_tr, bigSepL_tr, bigSepL_tr]
  iintro ⟨H1, H2, H3, H4, H5⟩
  ihave H45 := (bigSepL_zip items (onTr fun x => (At c (.snd x) : sProp 𝕄)) (onTr fun x => At c (.rcv x))) $$ [H4 H5]
  · isplitl [H4] <;> iassumption
  ihave H345 := (bigSepL_zip items (onTr fun x => (dutyTok ER (cell c (.snd x)) 0 0 : sProp 𝕄)) _) $$ [H3 H45]
  · isplitl [H3]; · iexact H3
    iexact H45
  ihave H25 := (bigSepL_zip items (fun it => (cred (tallyAt (cell c it.key) it.ix it.amt) : sProp 𝕄)) _) $$ [H2 H345]
  · isplitl [H2]; · iexact H2
    iexact H345
  ihave H := (bigSepL_zip items (fun it => (dutyTok ER (cell (it.tgt c) it.key) it.ix.val it.duty : sProp 𝕄)) _) $$ [H1 H25]
  · isplitl [H1]; · iexact H1
    iexact H25
  iexact H

omit [FloatOps F] in
theorem each_bar (c : Dev nD) (d : Fin 2) : (Each c (.bar d) : sProp 𝕄) = iprop(itR c (.bar d) ∗ cred (tallyAt (cell c .bar) 0 1) ∗ emp ∗ emp ∗ emp) := rfl
omit [FloatOps F] in
theorem each_cr (c : Dev nD) (d u : Fin 2) (s : Fin 6) : (Each c (.cr d u s) : sProp 𝕄)
    = iprop(dutyTok ER (cell (frDev d c) (.cr d u)) s.val 0 ∗ cred (tallyAt (cell c (.cr d u)) s.castSucc.castSucc 1) ∗ emp ∗ emp ∗ emp) := rfl
omit [FloatOps F] in
theorem each_tr (c : Dev nD) (x : Tr) : (Each c (.tr x) : sProp 𝕄)
    = iprop(dutyTok ER (cell (toDev x.dir c) (.rcv x)) 0 0 ∗ cred (tallyAt (cell c (.rcv x)) 0 x.amt) ∗ dutyTok ER (cell c (.snd x)) 0 0
        ∗ At c (.snd x) ∗ At c (.rcv x)) := rfl

omit [FloatOps F] in
theorem each_itR (c : Dev nD) (it : It) : Each c it ⊢ (itR c it : sProp 𝕄) := by
  cases it with
  | bar d =>
    rw [each_bar]
    iintro ⟨H, -⟩
    iexact H
  | cr d u s =>
    rw [each_cr]
    iintro ⟨H, Hc, -⟩
    unfold itR
    isplitl [H]; · iexact H
    iexact Hc
  | tr x =>
    rw [each_tr]
    iintro ⟨H, Hc, Hs, H1, H2⟩
    unfold itR
    isplitl [H]; · iexact H
    isplitl [Hs]; · iexact Hs
    isplitl [Hc]; · iexact Hc
    isplitl [H1]; · iexact H1
    iexact H2

omit [FloatOps F] in
theorem cred_two (c : Dev nD) (a b : ℕ) :
    iprop(cred (tallyAt (cell c .bar) 0 a) ∗ cred (tallyAt (cell c .bar) 0 b)) ⊢ (cred (tallyAt (cell c .bar) 0 (a + b)) : sProp 𝕄) := by
  rw [← tallyAt_add]
  exact (cred_add _ _).2

omit [FloatOps F] in
/-- The two units of the barrier are waited for together. -/
theorem bar_two (c : Dev nD) :
    iprop(Each c (.bar 0) ∗ Each c (.bar 1)) ⊢ (iprop(itR c (.bar 0) ∗ itR c (.bar 1) ∗ cred (tallyAt (cell c .bar) 0 2)) : sProp 𝕄) := by
  rw [each_bar, each_bar]
  iintro ⟨⟨H0, C0, -⟩, H1, C1, -⟩
  isplitl [H0]; · iexact H0
  isplitl [H1]; · iexact H1
  iapply (cred_two (F := F) c 1 1)
  isplitl [C0]; · iexact C0
  iexact C1

omit [FloatOps F] in
theorem each_split (c : Dev nD) :
    (bigSepL items (Each c) : sProp 𝕄) ⊢ iprop((itR c (.bar 0) ∗ itR c (.bar 1) ∗ cred (tallyAt (cell c .bar) 0 2)) ∗ bigSepL post (itR c)) := by
  unfold items
  rw [bigSepL_cons', bigSepL_cons']
  iintro ⟨H0, H1, H⟩
  isplitl [H0 H1]
  · iapply (bar_two (F := F) c)
    isplitl [H0] <;> iassumption
  · iapply (BI.bigSepL_mono fun it _ => each_itR (F := F) c it)
    iexact H

/-- The scratch buffers, as the body uses them. -/
theorem scr_split (c : Dev nD) : Scr c
    ⊢ (iprop(bigSepL post (lndAt c) ∗ ((∃ f, sPts c 0 0 f) ∗ (∃ f, sPts c 1 0 f) ∗ (∃ f, sPts c 0 1 f) ∗ (∃ f, sPts c 1 1 f))
        ∗ Aslots c ∗ Rn c [(1, 3)] ∗ (∃ f, Half c 0 f) ∗ (∃ f, Half c 1 f)) : sProp 𝕄) := by
  unfold Scr
  iintro ⟨H0, H1, H2, H3, H4⟩
  ihave C := (split_c (F := F) c) $$ H0
  ihave S := (split_s (F := F) c) $$ H1
  ihave Q := (split_q (F := F) c) $$ H2
  ihave As := (split_a (F := F) c) $$ H3
  ihave R := (split_r (F := F) c) $$ H4
  icases Q with ⟨⟨Q0, Q1⟩, Q⟩
  icases R with ⟨R3, R⟩
  isplitl [C R Q]
  · iapply (Entails.of_eq (lnd_eq (F := F) c).symm)
    isplitl [C]; · iexact C
    isplitl [R]; · iexact R
    iexact Q
  isplitl [S]
  · iapply (Entails.of_eq (four (0, 0) (1, 0) (0, 1) (1, 1) fun p : Fin 2 × Fin 2 => (iprop(∃ f, sPts c p.1 p.2 f) : sProp 𝕄)))
    iexact S
  isplitl [As]; · iexact As
  isplitl [R3]; · iexact R3
  isplitl [Q0]; · iexact Q0
  iexact Q1

/-- What the body starts with. -/
theorem begin_intro (c : Dev nD) :
    iprop((start A c ∗ Scr c) ∗ Ow c items ∗ xP c (A.x c) ∗ wP c (A.w c) ∗ ∃ f, oP c f) ⊢ iprop(∃ K, Begin A K c) := by
  unfold start G' Rec
  iintro ⟨⟨⟨⟨%K, ⟨#HI, #HR⟩, Hpos, Hpay, Hsnd⟩, Hcr, #Hlev⟩, Hs⟩, HO, Hx, Hw, %f, Ho⟩
  ihave Hp := (Entails.of_eq (pos_eq (F := F) c)) $$ Hpos
  icases Hp with ⟨⟨Pb, P00, P10, P01, P11, Pi1, Pi2⟩, Ps, Pr⟩
  ihave He := (each_all (F := F) c) $$ [Hpay Hcr Hsnd Ps Pr]
  · isplitl [Hpay]; · iexact Hpay
    isplitl [Hcr]; · iexact Hcr
    isplitl [Hsnd]; · iexact Hsnd
    isplitl [Ps] <;> iassumption
  ihave He' := (each_split (F := F) c) $$ He
  icases He' with ⟨⟨B0, B1, Bc⟩, Hit⟩
  ihave Hs' := (scr_split (F := F) c) $$ Hs
  icases Hs' with ⟨Hl, HS, HA⟩
  iexists K
  unfold Begin CrAt Env Gm
  isplitl [HO B0 B1 Pb Bc Hit Hl]
  · isplitr
    · isplitr; · iexact HI
      isplitr; · iexact HR
      iexact Hlev
    isplitl [HO]; · iexact HO
    isplitl [B0]; · iexact B0
    isplitl [B1]; · iexact B1
    isplitl [Pb]; · iexact Pb
    isplitl [Bc]; · iexact Bc
    isplitl [Hit]; · iexact Hit
    iexact Hl
  isplitl [P00 P10 P01 P11]
  · isplitl [P00]
    · isplitl [P00]; · iexact P00
      iapply (reached_at (F := F) (c, .cr 0 0)); iexact HR
    isplitl [P10]
    · isplitl [P10]; · iexact P10
      iapply (reached_at (F := F) (c, .cr 1 0)); iexact HR
    isplitl [P01]
    · isplitl [P01]; · iexact P01
      iapply (reached_at (F := F) (c, .cr 0 1)); iexact HR
    · isplitl [P11]; · iexact P11
      iapply (reached_at (F := F) (c, .cr 1 1)); iexact HR
  isplitl [HS]; · iexact HS
  isplitl [Pi1 Pi2]
  · isplitl [Pi1]; · iexact Pi1
    iexact Pi2
  isplitl [HA]; · iexact HA
  isplitl [Hx]; · iexact Hx
  isplitl [Hw]; · iexact Hw
  iexists f
  isplitr
  · ipureintro; exact fun i h => absurd h (Nat.not_lt_zero _)
  iexact Ho

/-- What is left after the body. -/
def Φ₁ (c : Dev nD) : sProp 𝕄 :=
  iprop((unscopedSems0 c ∗ Pipeline.ownSems0 (Ix := Fin 8) (Name := ℕ) (U := UU) (Lvl := ℕ) (Val := Elt F) (τ := τ) osem c) ∗ Scr c)

theorem end_elim (c : Dev nD) : End A c ⊢ iprop(Φ₁ c ∗ Ow c [] ∗ xP c (A.x c) ∗ wP c (A.w c) ∗ oP c (Out A c)) := by
  have hd : (Dn c ckDone : sProp 𝕄) ⊢ iprop(unscopedSems0 c ∗ Pipeline.ownSems0 (Ix := Fin 8) (Name := ℕ) (U := UU) (Lvl := ℕ) (Val := Elt F) (τ := τ) osem c) := by
    rw [sems0_eq]
    exact Entails.of_eq (bigSep_univ_eq_bigSepL ckDone (Finset.ext fun k => by simp [ckDone_perm.2 k]) ckDone_perm.1 _).symm
  unfold End
  iintro ⟨HO, HD, HS, HA, HR, HQ, Hx, Hw, Ho⟩
  ihave H01 := (join_cs A c) $$ HS
  ihave H3 := (join_a A c) $$ HA
  ihave H4 := (join_r A c) $$ HR
  ihave H2 := (join_q A c) $$ HQ
  icases H01 with ⟨H0, H1⟩
  isplitl [HD H0 H1 H2 H3 H4]
  · unfold Φ₁ Scr
    isplitl [HD]; · iapply hd; iexact HD
    isplitl [H0]; · iexact H0
    isplitl [H1]; · iexact H1
    isplitl [H2]; · iexact H2
    isplitl [H3] <;> iassumption
  isplitl [HO]; · iexact HO
  isplitl [Hx]; · iexact Hx
  isplitl [Hw]; · iexact Hw
  iexact Ho

end Cert.KernelIdeal.Own

end
-- ==== Proof.Launch.lean ====
/- The launch: eight devices run the body from any memory, each with its operands as the arrays hold them. -/
module

public import proofs.«01_k».proof.Proof.Start
public import Idealize.ShloMosaic.Lib.Pipeline.ValueKit
public import Idealize.ShloMosaic.Lib.Pipeline.CollectiveSegs

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig (Fin 8) (Elt F) ℕ UU ℕ

variable (m : (ℓ : Loc nD τ sig) → Buf (Elt F) ℓ) (ρ : Dev nD → PrngReg)

def s₀ : MemSt nD τ sig (Elt F) := ⟨m, fun _ => 0, ρ⟩

/-- The operands, as the arrays hold them. -/
def args : Args F := ⟨fun c => m ((c.tc : Thread nD τ).loc main_arg0), fun c => m ((c.tc : Thread nD τ).loc main_arg1)⟩

def t₀ : Fin cfg0.N := t0_0
theorem fin_N (t : Fin cfg0.N) : t = t₀ := fin_N0 t

/-- What a device owes at first. -/
def O₀ (c : Dev nD) : CellTallies nD τ sig (Fin 8) := oweL c items

def Φ₀ (c : Dev nD) : sProp 𝕄 := iprop(start (args m) c ∗ Scr c)

def dats (_ : Fin 1) (c : Dev nD) : Dat τ (Elt F) (Fin 8) ℕ UU ℕ cfg0 c where
  A w := (s₀ m ρ).mem ((cfg0.win w).arr.view.loc (c : Thread nD τ))
  after w _ := match w with
    | ⟨0, _⟩ => (args m).x c
    | ⟨1, _⟩ => (args m).w c
    | ⟨2, _⟩ => Out (args m) c
    | ⟨_ + 3, h⟩ => absurd h (Nat.not_lt.2 (Nat.le_add_left _ _))
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

/-- The block of an operand's window is the whole array. -/
theorem blk_x (f : Vec F S4096x512 .f32) : (win0_0.blk t0_0).view.read (Elt F) f = f := by
  funext j
  show f _ = f j
  congr 1
  funext a
  apply Fin.ext
  show 0 * _ + 1 * (j a).val = (j a).val
  omega
theorem blk_w (f : Vec F S512x2048 .f32) : (win0_1.blk t0_0).view.read (Elt F) f = f := by
  funext j
  show f _ = f j
  congr 1
  funext a
  apply Fin.ext
  show 0 * _ + 1 * (j a).val = (j a).val
  omega

theorem before_x (c : Dev nD) (d) : (dats m ρ 0 c).before (0 : Fin 3) t₀ d = (args m).x c := by
  unfold Dat.before; rw [if_pos (fetch_0 t₀)]
  exact blk_x (F := F) _
theorem before_w (c : Dev nD) (d) : (dats m ρ 0 c).before (1 : Fin 3) t₀ d = (args m).w c := by
  unfold Dat.before; rw [if_pos (fetch_1 t₀)]
  exact blk_w (F := F) _

omit [FloatOps F] in
theorem owns_whole_eq (c : Dev nD) (b : Ref sig .tc) (X : b.ty.Contents (Elt F)) :
    (owns (Ix := Fin 8) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt (0 : Fin 8) t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt (0 : Fin 8) t₀.succ ∗ stg c cc0_stg0_0 ((args m).x c) ∗ stg c cc0_stg1_0 ((args m).w c)
    ∗ stg c cc0_stg2_0 (Out (args m) c))

theorem pre_begin (c : Dev nD) : bodyPre m ρ c ⊢ iprop(∃ K, Begin (args m) K c) := by
  unfold bodyPre Φ₀
  iintro ⟨HS, HO, ⟨%d0, %g0, %hg0, Hx⟩, ⟨%d1, %g1, %hg1, Hw⟩, ⟨%d2, %g2, %hg2, Ho⟩⟩
  rw [before_x] at hg0
  rw [before_w] at hg1
  subst hg0 hg1
  unfold Dat.owesAt Pipeline.owesWithin
  icases HO with ⟨%W, %hW, HO⟩
  iapply (begin_intro (args m) c)
  isplitl [HS]; · iexact HS
  isplitl [HO]
  · unfold Ow
    iexists W
    iexact HO
  unfold xP wP oP
  isplitl [Hx]; · iexact Hx
  isplitl [Hw]; · iexact Hw
  iexists g2
  iexact Ho

theorem end_post (c : Dev nD) : End (args m) c ⊢ bodyPost m ρ c := by
  refine (end_elim (args m) c).trans ?_
  unfold bodyPost Ow xP wP oP Dat.owesAt Pipeline.owesWithin
  iintro ⟨HΦ, ⟨%W, HO⟩, Hx, Hw, Ho⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

/-- The body, from what it is given to what it leaves. -/
theorem sound (c : Dev nD) : bodyPre m ρ c ⊢ WP c (.op .deviceId fun c => bodyAt c) (fun _ => bodyPost m ρ c) := by
  unfold WP
  rw [wp_deviceId]
  iintro H
  ihave HB := (pre_begin m ρ c) $$ H
  icases HB with ⟨%K, HB⟩
  iapply (wp_body (args m) K c fun _ => bodyPost m ρ c) $$ HB
  iintro HE
  iapply (end_post m ρ c)
  iexact HE

set_option maxRecDepth 8000 in
theorem body_obligation (c : Dev nD) : BodyObligation (dats (F := F) m ρ 0 c) (defs₀ (F := F)) 𝒱₀ (0 : Fin 8) Set.univ := fun t => by
  rw [fin_N t]
  rw [bigSep_W0, bigSep_W0]
  simp only [owns_whole_eq]
  have h := sound m ρ c
  rw [← body_eq] at h
  exact h

/-! ## The side conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (args m) c)
      ⊢ |={Set.univ}=> iprop(start (args m) c ∗ emp) := by
  iintro ⟨-, Hlev, Hcr, -, HG⟩
  ihave Hc := (show (Pipeline.launchCred O₀ c : sProp 𝕄) ⊢ Crd c items from creds (F := F) c items) $$ Hcr
  imodintro
  unfold start
  isplitl
  · isplitl [HG]; · iexact HG
    isplitl [Hc]; · iexact Hc
    iexact Hlev
  · iempintro

omit [FloatOps F] in
theorem scr_eq (c : Dev nD) : (Pipeline.scopedRest (Ix := Fin 8) (Name := ℕ) (U := UU) (Lvl := ℕ) (Val := Elt F) spec0 c : sProp 𝕄) = Scr c :=
  scopedRest0_eq c

theorem phi0_intro (c : Dev nD) :
    iprop(start (args m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (Entails.of_eq (scr_eq (F := F) c)); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro ⟨⟨Hu, Ho⟩, Hr⟩
  isplitl [Hu]; · iexact Hu
  isplitl [Ho]; · iexact Ho
  iapply (Entails.of_eq (scr_eq (F := F) c).symm); iexact Hr

theorem lvl_pos : ∀ it ∈ items, 0 < it.lvl := by decide +kernel

theorem waits (c : Dev nD) : (levAts L lv : sProp 𝕄) ⊢ Pipeline.cellsWaits cfgs (dats m ρ) (0 : Fin 8) 0 c :=
  Pipeline.cellsWaits_intro cfgs (dats m ρ) (0 : Fin 8) 0 c fun w s t => by
    have hl : lv ((c.tc : Thread nD τ), (.dma ((spec0 w).sem s) : SemLoc sig)) 0 = 0 := by
      unfold lv; rw [stage_dec w s]
    rcases t with ⟨_ | _, ht⟩
    · exact mayWait_at c _ 0 items fun it h => hl.symm ▸ lvl_pos it h
    · exact mayWait_at c _ 0 [] fun it h => absurd h List.not_mem_nil

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution terminates, with each window's array as the
    library computes it from what the body leaves, and every counter at zero. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : Fin 8) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := Deal (args m)) (G' := G' (args m)) (u₀ := u₀)
    (hu₀ := by
      unfold u₀
      iintro Hu
      ihave H := (ownU_pair _ _) $$ Hu
      icases H with ⟨HP, HX⟩
      imod (fund_ring (args m)) $$ HX with HG
      imodintro
      isplitl [HP] <;> iassumption)
    (hglob := glob (args m))
    (hA := fun _ _ => rfl) (hpf := fun _ k => k.elim0)
    (X := start (args m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = m ((c.tc : Thread nD τ).loc main_arg0) := (dats m ρ 0 c).arrAt_in (0 : Fin 3) rfl _
theorem finalA_w (c : Dev nD) : finalA m ρ c (1 : Fin 3) = m ((c.tc : Thread nD τ).loc main_arg1) := (dats m ρ 0 c).arrAt_in (1 : Fin 3) rfl _

theorem whole_o : (cfg0.win (2 : Fin 3)).WholeAt t₀ := by decide +kernel
theorem finalA_o (c : Dev nD) : finalA m ρ c (2 : Fin 3) = Out (args m) c :=
  (dats m ρ 0 c).arrAt_eq_of_after_last (2 : Fin 3) t₀ whole_o (Out (args m) c) fun j => rfl

/-- From any memory with zero counters every weakly fair execution terminates; the result array of each device holds
    `Out`, the operands are what they were, and every counter is zero. -/
theorem run_main : θ_run defs (onTc (τ := τ) (main (F := F))) ⟨m, fun _ => 0, ρ⟩ (fun r =>
    (∀ c : Dev nD, r.2.mem ((c.tc : Thread nD τ).loc main_v1) = Out (args m) c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨(h.1 c 2).trans (finalA_o m ρ c), (h.1 c 0).trans (finalA_x m ρ c), (h.1 c 1).trans (finalA_w m ρ c)⟩, h.2⟩)
    (run_arrays m ρ)

/-- The operands are what they were, and every counter is zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => (h.1 c).2, h.2⟩) (run_main m ρ)

end Cert.KernelIdeal.Own

end
-- ==== Proof.Total.lean ====
/- The partial sums at the ideal instance, where floats are extended reals and no operation rounds: every device's partial
   sums end as the sum of the eight partial products, which is the whole product. -/
module

public import proofs.«01_k».proof.Proof.Values
public import proofs.«01_k».proof.Proof.Gen.ReferenceIdeal.Value
public import Idealize.ShloMosaic.Lib.MatmulPlain
public import Idealize.ShloMosaic.Lib.Layout
public import Mathlib.Tactic.NormNum

@[expose] public section

noncomputable section

namespace Cert.KernelIdeal.Own

open Idealize.ShloMosaic Idealize.ShloMosaic.ValueIdx Idealize.SL.Sem Cert.KernelIdeal.Gen
open scoped BigOperators

/-! ## The products -/

/-- A partial product at an index: the sum over the 512 columns that the device holds. -/
theorem G_apply (A : Args Ideal) (c : Dev nD) (i : S4096x2048.Idx) :
    G A c i = ∑ k : Fin 512, (A.x c (ix2 (i 0) k) * A.w c (ix2 k (i 1)) : EReal) := by
  have hx : ∀ k : Fin 512, (xR (qF i)).emb (ix2 (loc i 0) k) = ix2 (i 0) k := by
    intro k
    have h0 : ((xR (qF i)).emb (ix2 (loc i 0) k) 0).val = 512 * ((i 0).val / 512) + (i 0).val % 512 :=
      emb_val (s := S4096x512) ![512 * (qF i).val, 0] S512x512.size (inbX (qF i)) (ix2 (loc i 0) k) 0
    have h1 : ((xR (qF i)).emb (ix2 (loc i 0) k) 1).val = 0 + k.val :=
      emb_val (s := S4096x512) ![512 * (qF i).val, 0] S512x512.size (inbX (qF i)) (ix2 (loc i 0) k) 1
    funext a
    apply Fin.ext
    match a with
    | ⟨0, _⟩ => exact h0.trans (Nat.div_add_mod _ _)
    | ⟨1, _⟩ => exact h1.trans (Nat.zero_add _)
  unfold G k0_pay1
  rw [shapeCast_self, shapeCast_self]
  refine (congrArg _ (eq_ix2 (loc i))).trans ((Ideal.matmul_plain_apply none (fun y => A.x c ((xR (qF i)).emb y)) (A.w c)
    (constant S512x2048 .f32 0x00000000#32) (loc i 0) (loc i 1)).trans ?_)
  refine (congrArg (· + _) (Ideal.ofBits_zero_f32)).trans ((zero_add _).trans (Finset.sum_congr rfl fun k _ => ?_))
  exact congrArg (fun j => A.x c j * A.w c (ix2 k (i 1))) (hx k)

/-- The whole product at an index. -/
def Y (a0 : Vec Ideal Cert.ReferenceIdeal.S4096x4096 .f32) (a1 : Vec Ideal S4096x2048 .f32) (i : S4096x2048.Idx) : EReal :=
  ∑ k : Fin 4096, a0 (ix2 (i 0) k) * a1 (ix2 k (i 1))

/-- The devices' blocks are those of the whole operands. -/
structure Cuts (A : Args Ideal) (a0 : Vec Ideal Cert.ReferenceIdeal.S4096x4096 .f32) (a1 : Vec Ideal S4096x2048 .f32) : Prop where
  x : ∀ c : Dev nD, A.x c = Layout.block ⟨2, ![4096, 512]⟩ ⟨2, ![4096, 4096]⟩ 1 8 c a0
  w : ∀ c : Dev nD, A.w c = Layout.block ⟨2, ![512, 2048]⟩ ⟨2, ![4096, 2048]⟩ 0 8 c a1

variable {A : Args Ideal} {a0 : Vec Ideal Cert.ReferenceIdeal.S4096x4096 .f32} {a1 : Vec Ideal S4096x2048 .f32}

/-- Position `k` of block `c` of the contracted axis. -/
def at8 (c : Fin 8) (k : Fin 512) : Fin 4096 := ⟨c.val * 512 + k.val, by omega⟩

/-- A sum over the contracted axis, block by block. -/
theorem sum_blocks (f : Fin 4096 → EReal) : ∑ c : Fin 8, ∑ k : Fin 512, f (at8 c k) = ∑ k : Fin 4096, f k := by
  rw [← Fintype.sum_prod_type']
  refine (Equiv.sum_comp (finProdFinEquiv (m := 8) (n := 512)) f).symm.trans ?_ |>.symm
  refine Finset.sum_congr rfl fun p _ => congrArg f (Fin.ext ?_)
  show p.2.val + 512 * p.1.val = p.1.val * 512 + p.2.val
  omega

/-- The partial products add up to the whole product. -/
theorem sum_G (h : Cuts A a0 a1) (i : S4096x2048.Idx) : (∑ c : Dev nD, G A c i : EReal) = Y a0 a1 i := by
  unfold Y
  rw [← sum_blocks]
  refine Finset.sum_congr rfl fun c _ => (G_apply A c i).trans (Finset.sum_congr rfl fun k _ => ?_)
  rw [h.x c, h.w c, Layout.block_apply, Layout.block_apply]
  refine congrArg₂ (fun p q => a0 p * a1 q) ?_ ?_
  · funext a; apply Fin.ext
    match a with
    | ⟨0, _⟩ => rfl
    | ⟨1, _⟩ => rfl
  · funext a; apply Fin.ext
    match a with
    | ⟨0, _⟩ => rfl
    | ⟨1, _⟩ => rfl

/-! ## The reduce-scatter -/

/-- After `k` steps a partial sum holds the products of the last `k + 1` devices on the ring. -/
theorem acc_range (A : Args Ideal) (d : Fin 2) (k : ℕ) (c : Dev nD) (i : S4096x2048.Idx) :
    (acc A d k c i : EReal) = ∑ j ∈ Finset.range (k + 1), G A ((frDev d)^[j] c) i := by
  induction k generalizing c with
  | zero => rw [Finset.sum_range_one]; rfl
  | succ k ih =>
    rw [Finset.sum_range_succ']
    refine (show (acc A d (k + 1) c i : EReal) = G A c i + acc A d k (frDev d c) i from rfl).trans ?_
    rw [ih, add_comm]
    rfl

/-- The device that device `c` hears from in each direction. -/
theorem fr_right : frDev 0 = fun c : Fin 8 => c + 7 := funext (by decide +kernel)
theorem fr_left : frDev 1 = fun c : Fin 8 => c + 1 := funext (by decide +kernel)

/-- Eight steps either way meet every device once. -/
theorem ring_right : ∀ c : Fin 8, Function.Bijective (fun j : Fin 8 => (fun c : Fin 8 => c + 7)^[j.val] c) := by decide +kernel
theorem ring_left : ∀ c : Fin 8, Function.Bijective (fun j : Fin 8 => (fun c : Fin 8 => c + 1)^[j.val] c) := by decide +kernel

/-- Going round the ring meets every device once. -/
theorem ring_bij : ∀ (d : Fin 2) (c : Dev nD), Function.Bijective (fun j : Fin 8 => (frDev d)^[j.val] c) := by
  intro d c
  match d with
  | ⟨0, _⟩ => show Function.Bijective (fun j : Fin 8 => (frDev 0)^[j.val] c); rw [fr_right]; exact ring_right c
  | ⟨1, _⟩ => show Function.Bijective (fun j : Fin 8 => (frDev 1)^[j.val] c); rw [fr_left]; exact ring_left c

/-- After seven steps it holds the whole product. -/
theorem acc_all (h : Cuts A a0 a1) (d : Fin 2) (c : Dev nD) (i : S4096x2048.Idx) : (acc A d 7 c i : EReal) = Y a0 a1 i := by
  rw [acc_range, ← sum_G h i, ← Fin.sum_univ_eq_sum_range (fun j => (G A ((frDev d)^[j] c) i : EReal)) 8]
  exact (ring_bij d c).sum_comp (fun c' => (G A c' i : EReal))

end Cert.KernelIdeal.Own

end
-- ==== Proof.Scale.lean ====
/- The quantiser at the ideal instance: scaling by 448 / m and back by m / 448 is what the reference does with its quotient
   and its clip, at every extended real of magnitude at most m. -/
module

public import proofs.«01_k».proof.Proof.Values
public import Idealize.ShloMosaic.Lib.MatmulPlain
public import Idealize.ShloMosaic.Lib.Layout
public import Mathlib.Tactic.NormNum

@[expose] public section

noncomputable section

namespace Cert.KernelIdeal.Own

open Idealize.ShloMosaic Idealize.ShloMosaic.ValueIdx Idealize.SL.Sem Cert.KernelIdeal.Gen
open scoped BigOperators

/-- A magnitude. -/
def ab (x : EReal) : EReal := max x (-x)

/-! ## The quantiser -/

/-- The words of 448 and of −448. -/
theorem word448 : Ideal.ofBits .f32 0x43E00000#32 = ((448 : ℝ) : EReal) := by
  simp [Ideal.ofBits, Ideal.ieee]; norm_num; rw [← EReal.coe_mul]; norm_num
theorem word448n : Ideal.ofBits .f32 0xC3E00000#32 = ((-448 : ℝ) : EReal) := by
  simp [Ideal.ofBits, Ideal.ieee]; norm_num; rw [← EReal.coe_mul]; norm_num

/-- Scaling by 448 / m and back by m / 448 is the quotient by m / 448, clipped to ±448, scaled back: for every value whose
    magnitude is at most m. -/
theorem scale_back (y m : EReal) (h : ab y ≤ m) :
    y * Ideal.div ((448 : ℝ) : EReal) m * Ideal.div m ((448 : ℝ) : EReal)
      = min ((448 : ℝ) : EReal) (max ((-448 : ℝ) : EReal) (Ideal.div y (Ideal.div m ((448 : ℝ) : EReal)))) * Ideal.div m ((448 : ℝ) : EReal) := by
  have hy : y ≤ m := (le_max_left _ _).trans h
  have hn : -y ≤ m := (le_max_right _ _).trans h
  have h448 : ((448 : ℝ) : EReal) ≠ 0 := by exact_mod_cast (by norm_num : (448 : ℝ) ≠ 0)
  have hs : Ideal.div m ((448 : ℝ) : EReal) = m * ((448 : ℝ) : EReal)⁻¹ := if_neg h448
  rw [hs]
  induction m with
  | bot =>
    have e1 : y = ⊥ := le_bot_iff.mp hy
    rw [e1] at hn
    exact absurd (le_bot_iff.mp hn) (by simp)
  | top =>
    have e1 : Ideal.div ((448 : ℝ) : EReal) ⊤ = 0 := by unfold Ideal.div; rw [if_neg (by simp)]; simp
    have e2 : (⊤ : EReal) * ((448 : ℝ) : EReal)⁻¹ = ⊤ := by
      rw [← EReal.coe_inv]; exact EReal.top_mul_coe_of_pos (by norm_num)
    have e3 : Ideal.div y ⊤ = 0 := by unfold Ideal.div; rw [if_neg (by simp)]; simp
    have e4 : min ((448 : ℝ) : EReal) (max ((-448 : ℝ) : EReal) 0) = 0 := by
      rw [max_eq_right (by exact_mod_cast (by norm_num : (-448 : ℝ) ≤ 0)), min_eq_right (by exact_mod_cast (by norm_num : (0 : ℝ) ≤ 448))]
    rw [e1, e2, e3, e4, mul_zero, zero_mul]
  | coe m =>
    induction y with
    | bot => exact absurd hn (by simp)
    | top => exact absurd hy (by simp)
    | coe y =>
      have hy' : y ≤ m := by exact_mod_cast hy
      have hn' : -y ≤ m := by exact_mod_cast hn
      rw [← EReal.coe_inv, ← EReal.coe_mul]
      by_cases hm : m = 0
      · have e : y = 0 := le_antisymm (hm ▸ hy') (by rw [hm] at hn'; linarith)
        rw [hm, zero_mul, EReal.coe_zero, mul_zero, mul_zero]
      · have hp : 0 < m := lt_of_le_of_ne (by linarith) (Ne.symm hm)
        have hsn : m * (448 : ℝ)⁻¹ ≠ 0 := mul_ne_zero hm (by norm_num)
        have hsp : 0 < m * (448 : ℝ)⁻¹ := mul_pos hp (by norm_num)
        have e1 : Ideal.div ((448 : ℝ) : EReal) (m : EReal) = ((448 * m⁻¹ : ℝ) : EReal) := by
          unfold Ideal.div; rw [if_neg (by exact_mod_cast hm), ← EReal.coe_inv, ← EReal.coe_mul]
        have e2 : Ideal.div (y : EReal) ((m * (448 : ℝ)⁻¹ : ℝ) : EReal) = ((y * (m * (448 : ℝ)⁻¹)⁻¹ : ℝ) : EReal) := by
          unfold Ideal.div; rw [if_neg (by exact_mod_cast hsn), ← EReal.coe_inv, ← EReal.coe_mul]
        have lo : -448 ≤ y * (m * (448 : ℝ)⁻¹)⁻¹ := by
          rw [← div_eq_mul_inv, le_div_iff₀ hsp]; linarith [show -448 * (m * (448 : ℝ)⁻¹) = -m by ring]
        have hi : y * (m * (448 : ℝ)⁻¹)⁻¹ ≤ 448 := by
          rw [← div_eq_mul_inv, div_le_iff₀ hsp]; linarith [show 448 * (m * (448 : ℝ)⁻¹) = m by ring]
        rw [e1, e2, max_eq_right (by exact_mod_cast lo), min_eq_right (by exact_mod_cast hi), ← EReal.coe_mul, ← EReal.coe_mul, ← EReal.coe_mul]
        congr 1
        field_simp

end Cert.KernelIdeal.Own

end
-- ==== Proof.Largest.lean ====
/- The maximum at the ideal instance: what every device ends with is the largest magnitude of the whole product. -/
module

public import proofs.«01_k».proof.Proof.Total
public import proofs.«01_k».proof.Proof.Scale
public import Idealize.ShloMosaic.Lib.MatmulPlain
public import Idealize.ShloMosaic.Lib.Layout
public import Mathlib.Tactic.NormNum

@[expose] public section

noncomputable section

namespace Cert.KernelIdeal.Own

open Idealize.ShloMosaic Idealize.ShloMosaic.ValueIdx Idealize.SL.Sem Cert.KernelIdeal.Gen
open scoped BigOperators

/-! ## The maximum -/

variable {A : Args Ideal} {a0 : Vec Ideal Cert.ReferenceIdeal.S4096x4096 .f32} {a1 : Vec Ideal S4096x2048 .f32}

/-- A reduction by maximum over everything is bounded by what bounds every element. -/
theorem maxAll_le {s t : Shape} {axes : List (Fin s.rank)} (src : FVec Ideal s .f32) (h : s.Reduces axes t) (ht : ∀ b, t.size b = 1)
    (hφ : FKind.Formats .f32) (hacc : (0xFF800000#32 : BitVec 32) = FKind.maximumf.neutral .f32 hφ) (j : t.Idx) (x : EReal) :
    (multiReduction .maximumf axes t src 0xFF800000#32 h hφ hacc j : EReal) ≤ x ↔ ∀ i, (src i : EReal) ≤ x := by
  rw [multiReduction_maximumf_eq_fold, Finset.filter_true_of_mem fun i _ => funext fun b => Fin.ext (by
    have := (h.drop i b).isLt; have := (j b).isLt; have := ht b; omega)]
  refine (Finset.fold_max_le (b := Ideal.ofBits .f32 0xFF800000#32) (f := fun i => (src i : EReal)) x).trans ?_
  have hb : Ideal.ofBits .f32 0xFF800000#32 = ⊥ := by simp [Ideal.ofBits, Ideal.ieee]
  rw [hb]
  exact ⟨fun h i => h.2 i (Finset.mem_univ i), fun h => ⟨bot_le, fun i _ => h i⟩⟩

/-- Re-laying an array keeps its bounds. -/
theorem cast_le {s t : Shape} (v : s.Idx → EReal) (h : s.ShapeCasts t) (x : EReal) : (∀ j, shapeCast t v h j ≤ x) ↔ ∀ i, v i ≤ x := by
  refine ⟨fun H i => ?_, fun H j => H _⟩
  have := H ((Shape.reshapeEquiv h).symm i)
  unfold shapeCast at this
  rwa [Equiv.apply_symm_apply] at this

/-- The larger of two scalars. -/
theorem smax (a b : Ideal .f32) : Scalar.maximumf a b = max a b := rfl

/-- The largest magnitude of a half block. -/
def big (v : Vec Ideal S256x2048 .f32) : EReal :=
  extractAt ![0, 0, 0] (shapeCast S1x1x1 (multiReduction .maximumf [1, 2] S1
    (shapeCast S1x256x2048 (absf (F := Ideal) (shapeCast S256x2048 v shapeCasts_S256x2048_S256x2048)) shapeCasts_S256x2048_S1x256x2048)
    0xFF800000#32 reduces_S1x256x2048_S1 (.inl rfl) rfl) shapeCasts_S1_S1x1x1) inpos_S1x1x1_p0_0_0

/-- It is bounded by what bounds every magnitude. -/
theorem big_le (v : Vec Ideal S256x2048 .f32) (x : EReal) : big v ≤ x ↔ ∀ y, ab (v y) ≤ x := by
  unfold big extractAt
  rw [shapeCast_self]
  generalize hu : absf (F := Ideal) v = u
  refine (maxAll_le _ reduces_S1x256x2048_S1 (by decide) (.inl rfl) rfl _ x).trans ((cast_le u _ x).trans ?_)
  subst hu
  exact Iff.rfl

/-- The larger of the two half blocks' largest magnitudes. -/
theorem pay65 (v w : Vec Ideal S256x2048 .f32) : (k0_pay65 (F := Ideal) v w : EReal) = max (big v) (big w) := by
  unfold k0_pay65
  exact smax (big v) (big w)

/-- What one device reduces is bounded by what bounds every magnitude in its two half blocks. -/
theorem am_le (c : Dev nD) (x : EReal) : (am A c : EReal) ≤ x ↔ ∀ (d : Fin 2) (i : S4096x2048.Idx), i ∈ hf c d 7 → ab (acc A d 7 c i) ≤ x := by
  unfold am
  rw [pay65, max_le_iff, big_le, big_le]
  have side : ∀ d : Fin 2, (∀ y, ab (acc A d 7 c ((ownR d c).emb y)) ≤ x) ↔ ∀ i : S4096x2048.Idx, i ∈ hf c d 7 → ab (acc A d 7 c i) ≤ x := by
    intro d
    refine ⟨fun H i hi => ?_, fun H y => H _ (by rw [← ownR_set]; exact emb_mem _ _)⟩
    rw [← ownR_set] at hi
    obtain ⟨y, rfl⟩ := exists_emb (b := cc0_stg2_0) _ hi
    exact H y
  refine (and_congr (side 0) (side 1)).trans ⟨fun H d => ?_, fun H => ⟨H 0, H 1⟩⟩
  match d with
  | ⟨0, _⟩ => exact H.1
  | ⟨1, _⟩ => exact H.2

/-- The running maximum after `h` hops. -/
theorem rAx_le (d : Fin 2) (h : ℕ) (c : Dev nD) (x : EReal) : (rAx A d h c : EReal) ≤ x ↔ ∀ j ≤ h, (am A ((frDev d)^[j] c) : EReal) ≤ x := by
  induction h generalizing c with
  | zero => exact ⟨fun H j hj => by rw [Nat.le_zero.mp hj]; exact H, fun H => H 0 le_rfl⟩
  | succ h ih =>
    unfold rAx
    rw [smax, max_le_iff, ih, ih]
    refine ⟨fun H j hj => ?_, fun H => ⟨fun j hj => H j (by omega), fun j hj => H (j + 1) (by omega)⟩⟩
    match j, hj with
    | 0, _ => exact H.1 0 (Nat.zero_le _)
    | j + 1, hj => exact H.2 j (by omega)

/-- On the ring of eight numbers: four places one way and three the other are all. -/
theorem hops : ∀ c c' : Fin 8, (∃ j : Fin 5, (fun c : Fin 8 => c + 7)^[j.val] c = c') ∨ ∃ j : Fin 4, (fun c : Fin 8 => c + 1)^[j.val] c = c' := by
  decide +kernel

/-- Four devices one way and three the other are all. -/
theorem hops_all (c c' : Dev nD) : (∃ j : Fin 5, (frDev 0)^[j.val] c = c') ∨ ∃ j : Fin 4, (frDev 1)^[j.val] c = c' := by
  rw [fr_right, fr_left]; exact hops c c'

/-- The maximum that a device ends with is bounded by what bounds every device's. -/
theorem mx_le (c : Dev nD) (x : EReal) : (mx A c : EReal) ≤ x ↔ ∀ c' : Dev nD, (am A c' : EReal) ≤ x := by
  unfold mx
  rw [smax, max_le_iff, rAx_le, rAx_le]
  refine ⟨fun H c' => ?_, fun H => ⟨fun j _ => H _, fun j _ => H _⟩⟩
  rcases hops_all c c' with ⟨j, rfl⟩ | ⟨j, rfl⟩
  · exact H.1 j.val (by omega)
  · exact H.2 j.val (by omega)

/-- The device that reduces an index does so in seven steps. -/
theorem own_seven (i : S4096x2048.Idx) : jOf (dOf i) (ownOf i) i = 7 := by
  have hr := row_lt i
  unfold jOf ownOf
  by_cases hd : dOf i = 0
  · rw [if_pos hd, if_pos hd]; unfold qOf; show ((_ : ℕ) % 8 + 8 - _) % 8 = 7; omega
  · rw [if_neg hd, if_neg hd]; unfold qOf; show ((_ : ℕ) + 8 - (_ : ℕ) % 8) % 8 = 7; omega

/-- Every device ends with the largest magnitude of the whole product. -/
theorem mx_top (h : Cuts A a0 a1) (c : Dev nD) (x : EReal) : (mx A c : EReal) ≤ x ↔ ∀ i, ab (Y a0 a1 i) ≤ x := by
  rw [mx_le]
  refine ⟨fun H i => ?_, fun H c' => (am_le c' x).mpr fun d i _ => ?_⟩
  · have := (am_le (ownOf i) x).mp (H _) (dOf i) i (mem_hf.mpr ⟨rfl, own_seven i⟩)
    rwa [acc_all h] at this
  · rw [acc_all h]; exact H i

end Cert.KernelIdeal.Own

end
-- ==== Proof.Equal.lean ====
/- The equation: what every device leaves is the reference's result. -/
module

public import proofs.«01_k».proof.Proof.Largest
public import proofs.«01_k».proof.Proof.Gen.ReferenceIdeal.Value
public import Idealize.ShloMosaic.Lib.MatmulPlain
public import Idealize.ShloMosaic.Lib.Layout
public import Mathlib.Tactic.NormNum

@[expose] public section

noncomputable section

namespace Cert.KernelIdeal.Own

open Idealize.ShloMosaic Idealize.ShloMosaic.ValueIdx Idealize.SL.Sem Cert.KernelIdeal.Gen
open scoped BigOperators

variable {A : Args Ideal} {a0 : Vec Ideal Cert.ReferenceIdeal.S4096x4096 .f32} {a1 : Vec Ideal S4096x2048 .f32}

/-! ## The reference -/

/-- The reference's product. -/
theorem ref_dot (i : S4096x2048.Idx) :
    (FloatOps.matmul (φ₁ := .f32) (φ₂ := .f32) Cert.ReferenceIdeal.dot_S4096x4096_S4096x2048_S4096x2048_1_0_0_1_n_n none a0 a1
      (constant (F := Ideal) S4096x2048 .f32 0x00000000#32) i : EReal) = Y a0 a1 i := by
  refine (congrArg _ (eq_ix2 i)).trans ((Ideal.matmul_plain_apply (φ₁ := .f32) (φ₂ := .f32) none a0 a1 (constant S4096x2048 .f32 0x00000000#32) (i 0) (i 1)).trans ?_)
  exact (congrArg (· + _) (Ideal.ofBits_zero_f32)).trans (zero_add _)

/-- The largest magnitude of the whole product, as the reference takes it. -/
def bigRef (y : Vec Ideal S4096x2048 .f32) : EReal :=
  extractAt ![0, 0, 0] (shapeCast Cert.ReferenceIdeal.S1x1x1 (multiReduction .maximumf [1, 2] Cert.ReferenceIdeal.S1
    (shapeCast Cert.ReferenceIdeal.S1x4096x2048 (absf (F := Ideal) y) Cert.ReferenceIdeal.Gen.shapeCasts_S4096x2048_S1x4096x2048)
    0xFF800000#32 Cert.ReferenceIdeal.Gen.reduces_S1x4096x2048_S1 (.inl rfl) rfl) Cert.ReferenceIdeal.Gen.shapeCasts_S1_S1x1x1)
    Cert.ReferenceIdeal.Gen.inpos_S1x1x1_p0_0_0

/-- It is bounded by what bounds every magnitude. -/
theorem bigRef_le (y : Vec Ideal S4096x2048 .f32) (x : EReal) : bigRef y ≤ x ↔ ∀ i, ab (y i) ≤ x := by
  unfold bigRef extractAt
  generalize hu : absf (F := Ideal) y = u
  refine (maxAll_le _ Cert.ReferenceIdeal.Gen.reduces_S1x4096x2048_S1 (by decide) (.inl rfl) rfl _ x).trans ((cast_le u _ x).trans ?_)
  subst hu
  exact Iff.rfl

/-- A product scaled, clipped and scaled back, at the scale of `m`. -/
def refQ (m y : EReal) : EReal :=
  min ((448 : ℝ) : EReal) (max ((-448 : ℝ) : EReal) (Ideal.div y (Ideal.div m ((448 : ℝ) : EReal)))) * Ideal.div m ((448 : ℝ) : EReal)

/-- The quotient of two scalars. -/
theorem sdiv (a b : Ideal .f32) : Scalar.divf a b = Ideal.div a b := rfl
/-- The value of a scalar word. -/
theorem sword (b : BitVec 32) : (Scalar.ofBits .f32 b : Ideal .f32) = Ideal.ofBits .f32 b := rfl

/-- The reference's result at an index. -/
theorem ref_apply (a0 : Vec Ideal Cert.ReferenceIdeal.S4096x4096 .f32) (a1 : Vec Ideal S4096x2048 .f32) (i : S4096x2048.Idx) :
    (Cert.ReferenceIdeal.Value.G2 (F := Ideal) a0 a1 i : EReal) = refQ (bigRef (Y a0 a1)) (Y a0 a1 i) := by
  have hY : (FloatOps.matmul (φ₁ := .f32) (φ₂ := .f32) Cert.ReferenceIdeal.dot_S4096x4096_S4096x2048_S4096x2048_1_0_0_1_n_n none a0 a1
      (constant (F := Ideal) S4096x2048 .f32 0x00000000#32) : Vec Ideal S4096x2048 .f32) = Y a0 a1 := funext fun i => ref_dot i
  unfold Cert.ReferenceIdeal.Value.G2 Cert.ReferenceIdeal.Gen.k0_pay1
  unfold matmul
  rw [hY]
  generalize Y a0 a1 = y
  unfold refQ
  rw [← word448, ← word448n]
  rfl

/-- What device `c` leaves at an index, from its maximum, the reducing device's and the sum. -/
theorem out_apply (A : Args Ideal) (c : Dev nD) (i : S4096x2048.Idx) : (Out A c i : EReal)
    = acc A (dOf i) 7 (ownOf i) i * Ideal.div ((448 : ℝ) : EReal) (mx A (ownOf i)) * Ideal.div (mx A c) ((448 : ℝ) : EReal) := by
  unfold Out Q deq1 quant1 invOf scaleOf
  rw [sdiv, sdiv, sword, word448]
  generalize mx A c = m
  generalize mx A (ownOf i) = m'
  generalize acc A (dOf i) 7 (ownOf i) i = y
  rfl

/-- What every device leaves is the reference's result. -/
theorem out_eq (h : Cuts A a0 a1) (c : Dev nD) : Out A c = Cert.ReferenceIdeal.Value.G2 (F := Ideal) a0 a1 := by
  have hm := bigRef_le (Y a0 a1)
  have hmx : ∀ c : Dev nD, (mx A c : EReal) = bigRef (Y a0 a1) := fun c =>
    le_antisymm ((mx_top h c _).mpr ((hm _).mp le_rfl)) ((hm _).mpr ((mx_top h c _).mp le_rfl))
  funext i
  refine (out_apply A c i).trans (Eq.trans ?_ (ref_apply a0 a1 i).symm)
  rw [acc_all h, hmx, hmx]
  exact scale_back _ _ ((hm _).mp le_rfl i)

end Cert.KernelIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem

/-- The program and the one read at the ideal instance have the same text. -/
theorem table₀ {F : FTy → Type} [FloatOps F] : Cert.Kernel.defs₀ (F := F) = Cert.KernelIdeal.defs₀ (F := F) := by
  unfold Cert.Kernel.defs₀ Cert.KernelIdeal.defs₀
  congr 1
  funext l a
  match l, a with
  | 0, (t, s) => rfl

/-- So have their tables of pipelined regions. -/
theorem table {F : FTy → Type} [FloatOps F] : Cert.Kernel.defs (F := F) = Cert.KernelIdeal.defs (F := F) :=
  congrArg (Pipeline.defs Cert.KernelIdeal.pcfgs) table₀

/-- The kernel at machine floats: it runs, leaves its operands, and ends with every counter at zero. -/
theorem frame_kernel : Cert.quiescent_Kernel := fun m ρ _ => by
  have h := Cert.KernelIdeal.Own.run_frame (F := Bits) m ρ
  rw [← table] at h
  exact h

/-- The same at the ideal instance. -/
theorem frame_kernelIdeal : Cert.quiescent_KernelIdeal := fun m ρ _ => Cert.KernelIdeal.Own.run_frame (F := Ideal) m ρ

/-- And the reference. -/
theorem frame_referenceIdeal : Cert.quiescent_ReferenceIdeal := fun m ρ _ => Cert.ReferenceIdeal.Gen.frame m ρ

/-- At the ideal instance every device's result is the reference's, over the whole operands whose blocks the devices hold. -/
theorem value : Cert.algebraic_KernelIdeal_ReferenceIdeal := fun m g m' g' _ hb =>
  have hc : Cert.KernelIdeal.Own.Cuts (Cert.KernelIdeal.Own.args m) _ _ := ⟨fun c => (hb c).1, fun c => (hb c).2⟩
  ⟨_, (θ_run _ _ _).mono (fun _ h c => ⟨((h.1 c).1).trans (Cert.KernelIdeal.Own.out_eq hc c), (h.1 c).2⟩)
      (Cert.KernelIdeal.Own.run_main (F := Ideal) m g),
    (θ_run _ _ _).mono (fun _ h => h 0) (Cert.ReferenceIdeal.Value.run (F := Ideal) m' g')⟩

/-- All five claims. -/
theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
